-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_queries_keys2 [hPre_finite_queries_keys2 : Cert.Pre_finite_queries_keys2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_queries_keys2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_queries_keys2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_queries_keys2 [hPre_finite_queries_keys2 : Cert.Pre_finite_queries_keys2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_queries_keys2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_queries_keys2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_queries_keys2 [hKernel2Ideal : Cert.Kernel2Ideal.Facts] [hPre_finite_queries_keys2 : Cert.Pre_finite_queries_keys2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_queries_keys2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_queries_keys2 [hReference2Ideal : Cert.Reference2Ideal.Facts] [hPre_finite_queries_keys2 : Cert.Pre_finite_queries_keys2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_queries_keys2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_queries_keys2 [hKernel2Ideal : Cert.Kernel2Ideal.Facts] [hReference2Ideal : Cert.Reference2Ideal.Facts] [hPre_finite_queries_keys2 : Cert.Pre_finite_queries_keys2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_queries_keys2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v104_0)) (v1 : (c : Dev Cert.Kernel5Ideal.nD) → Buf (Elt Ideal) ((c.tc : Thread Cert.Kernel5Ideal.nD Cert.Kernel5Ideal.τ).loc Cert.Kernel5Ideal.main_v104_3)) (v2 : (c : Dev Cert.Kernel5Ideal.nD) → Buf (Elt Ideal) ((c.tc : Thread Cert.Kernel5Ideal.nD Cert.Kernel5Ideal.τ).loc Cert.Kernel5Ideal.main_v104_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v104_0) = v0 c
          ∧ r.2.mem ((c.tc : Thread Cert.Kernel5Ideal.nD Cert.Kernel5Ideal.τ).loc Cert.Kernel5Ideal.main_v104_3) = v1 c
          ∧ r.2.mem ((c.tc : Thread Cert.Kernel5Ideal.nD Cert.Kernel5Ideal.τ).loc Cert.Kernel5Ideal.main_v104_6) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_keys : Cert.Pre_finite_queries_keys.Facts) (hPre_finite_queries_keys2 : Cert.Pre_finite_queries_keys2.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Kernel2Ideal_pre_finite_queries_keys2 (hKernel2Ideal := hKernel2Ideal) (hPre_finite_queries_keys2 := hPre_finite_queries_keys2)
    ∧ quiescent_Reference2Ideal (hReference2Ideal := hReference2Ideal)
    ∧ quiescent_Reference2Ideal_pre_finite_queries_keys2 (hReference2Ideal := hReference2Ideal) (hPre_finite_queries_keys2 := hPre_finite_queries_keys2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal_pre_finite_queries_keys2 (hKernel2Ideal := hKernel2Ideal) (hReference2Ideal := hReference2Ideal) (hPre_finite_queries_keys2 := hPre_finite_queries_keys2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_queries_keys.lean ====
abbrev S2x8192x512 : Shape := ⟨3, ![2, 8192, 512]⟩
abbrev S2x2x8192x128 : Shape := ⟨4, ![2, 2, 8192, 128]⟩
abbrev S2x128x8192 : Shape := ⟨3, ![2, 128, 8192]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  bcast_S_S2x2x8192x128 : S_.BroadcastsInDim S2x2x8192x128 (![] : Fin 0 → Fin S2x2x8192x128.rank)

variable [Facts]

def fn {F : FTy → Type} [FloatOps F] (main_arg0 : FVec F S2x8192x512 .bf16) (main_arg1 : FVec F S2x2x8192x128 .bf16) (main_arg2 : FVec F S2x128x8192 .bf16) : IVec S2x8192x512 1 × IVec S2x2x8192x128 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x2x8192x128 .f32 := (extf .f32 · bitsLt_bf16_f32) main_arg1
  let main_v5 : FVec F S2x2x8192x128 .f32 := Host.absf main_v4
  let main_cst_0 : FVec F S_ .f32 := constant S_ .f32 0x7F800000#32
  let main_v6 : FVec F S2x2x8192x128 .f32 := broadcastInDim S2x2x8192x128 ![] bcast_S_S2x2x8192x128 main_cst_0
  let main_v7 : IVec S2x2x8192x128 1 := cmpf .olt main_v5 main_v6
  (main_v3, main_v7)
-- ==== Pre_finite_queries_keys2.lean ====
abbrev S2x8192x512 : Shape := ⟨3, ![2, 8192, 512]⟩
abbrev S2x4x8192x128 : Shape := ⟨4, ![2, 4, 8192, 128]⟩
abbrev S2x256x8192 : Shape := ⟨3, ![2, 256, 8192]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  bcast_S_S2x4x8192x128 : S_.BroadcastsInDim S2x4x8192x128 (![] : Fin 0 → Fin S2x4x8192x128.rank)

variable [Facts]

def fn {F : FTy → Type} [FloatOps F] (main_arg0 : FVec F S2x8192x512 .bf16) (main_arg1 : FVec F S2x4x8192x128 .bf16) (main_arg2 : FVec F S2x256x8192 .bf16) : IVec S2x8192x512 1 × IVec S2x4x8192x128 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x4x8192x128 .f32 := (extf .f32 · bitsLt_bf16_f32) main_arg1
  let main_v5 : FVec F S2x4x8192x128 .f32 := Host.absf main_v4
  let main_cst_0 : FVec F S_ .f32 := constant S_ .f32 0x7F800000#32
  let main_v6 : FVec F S2x4x8192x128 .f32 := broadcastInDim S2x4x8192x128 ![] bcast_S_S2x4x8192x128 main_cst_0
  let main_v7 : IVec S2x4x8192x128 1 := cmpf .olt main_v5 main_v6
  (main_v3, main_v7)
-- ==== Kernel.lean ====
abbrev S2x8192x512 : Shape := ⟨3, ![2, 8192, 512]⟩
abbrev S2x2x8192x128 : Shape := ⟨4, ![2, 2, 8192, 128]⟩
abbrev S2x128x8192 : Shape := ⟨3, ![2, 128, 8192]⟩
abbrev S2x512x8192 : Shape := ⟨3, ![2, 512, 8192]⟩
abbrev S2x2x64x8192 : Shape := ⟨4, ![2, 2, 64, 8192]⟩
abbrev S1x256x128 : Shape := ⟨3, ![1, 256, 128]⟩
abbrev S1x1x8192x128 : Shape := ⟨4, ![1, 1, 8192, 128]⟩
abbrev S1x1x64x8192 : Shape := ⟨4, ![1, 1, 64, 8192]⟩
abbrev S1x128x256 : Shape := ⟨3, ![1, 128, 256]⟩
abbrev S32x256x512 : Shape := ⟨3, ![32, 256, 512]⟩
abbrev S8x512 : Shape := ⟨2, ![8, 512]⟩
abbrev S1x64x128 : Shape := ⟨3, ![1, 64, 128]⟩
abbrev S64x128 : Shape := ⟨2, ![64, 128]⟩
abbrev S64x512 : Shape := ⟨2, ![64, 512]⟩
abbrev S512 : Shape := ⟨1, ![512]⟩
abbrev S1x512 : Shape := ⟨2, ![1, 512]⟩
abbrev S1x1x256x64 : Shape := ⟨4, ![1, 1, 256, 64]⟩
abbrev S256x64 : Shape := ⟨2, ![256, 64]⟩
abbrev S256x512 : Shape := ⟨2, ![256, 512]⟩
abbrev S1x256x512 : Shape := ⟨3, ![1, 256, 512]⟩
abbrev S32x8x512 : Shape := ⟨3, ![32, 8, 512]⟩
abbrev S1x1x64x256 : Shape := ⟨4, ![1, 1, 64, 256]⟩
abbrev S64x256 : Shape := ⟨2, ![64, 256]⟩
abbrev S256x128 : Shape := ⟨2, ![256, 128]⟩
abbrev S128x256 : Shape := ⟨2, ![128, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x8192x512, .bf16⟩
  | .hbm, ⟨1, _⟩ => ⟨S2x2x8192x128, .bf16⟩
  | .hbm, ⟨2, _⟩ => ⟨S2x128x8192, .bf16⟩
  | .hbm, ⟨3, _⟩ => ⟨S2x512x8192, .bf16⟩
  | .hbm, ⟨4, _⟩ => ⟨S2x2x64x8192, .bf16⟩
  | .hbm, ⟨5, _⟩ => ⟨S2x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x1x8192x128, .bf16⟩
  | .local _ .vmem, ⟨3, _⟩ => ⟨S1x1x64x8192, .bf16⟩
  | .local _ .vmem, ⟨4, _⟩ => ⟨S1x128x256, .bf16⟩
  | .local _ .vmem, ⟨5, _⟩ => ⟨S1x128x256, .bf16⟩
  | .local _ .vmem, ⟨6, _⟩ => ⟨S32x256x512, .f32⟩
  | .local _ .vmem, ⟨7, _⟩ => ⟨S32x256x512, .f32⟩
  | .local _ .vmem, ⟨8, _⟩ => ⟨S8x512, .f32⟩
  | .local _ .vmem, ⟨9, _⟩ => ⟨S8x512, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c255_i32 : BitVec 32 := 255#32
  let v0 : BitVec 32 := Scalar.minsi arg0 c255_i32
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 32 := Scalar.divsi v0 c64_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c64_i32 c0_i32_6
  let v25 : BitVec 32 := Scalar.extui v24
  let c0_i32_7 : BitVec 32 := 0#32
  let v26 : BitVec 1 := Scalar.cmpi .slt c64_i32 c0_i32_7
  let v27 : BitVec 32 := Scalar.extui v26
  let v28 : BitVec 32 := Scalar.subi v25 v27
  let v29 : BitVec 1 := Scalar.cmpi .ne v23 v28
  let v30 : BitVec 32 := Scalar.remsi v0 c64_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c64_i32_15 : BitVec 32 := 64#32
  let c0_i32_16 : BitVec 32 := 0#32
  let v45 : BitVec 1 := Scalar.cmpi .eq c64_i32_15 c0_i32_16
  let c1_i32_17 : BitVec 32 := 1#32
  let v46 : BitVec 32 := Scalar.select v45 c1_i32_17 c64_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  ![v17.toNat, v44.toNat, v54.toNat]

def cc0_transform_1 (i : grid0.Coords) : Fin 4 → Nat :=
  let arg0 : BitVec 32 := BitVec.ofNat 32 (i 0).val
  let c255_i32 : BitVec 32 := 255#32
  let v0 : BitVec 32 := Scalar.minsi arg0 c255_i32
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 32 := Scalar.divsi v0 c64_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c64_i32 c0_i32_6
  let v25 : BitVec 32 := Scalar.extui v24
  let c0_i32_7 : BitVec 32 := 0#32
  let v26 : BitVec 1 := Scalar.cmpi .slt c64_i32 c0_i32_7
  let v27 : BitVec 32 := Scalar.extui v26
  let v28 : BitVec 32 := Scalar.subi v25 v27
  let v29 : BitVec 1 := Scalar.cmpi .ne v23 v28
  let v30 : BitVec 32 := Scalar.remsi v0 c64_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c64_i32_15 : BitVec 32 := 64#32
  let c0_i32_16 : BitVec 32 := 0#32
  let v45 : BitVec 1 := Scalar.cmpi .eq c64_i32_15 c0_i32_16
  let c1_i32_17 : BitVec 32 := 1#32
  let v46 : BitVec 32 := Scalar.select v45 c1_i32_17 c64_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  let c0_i32_23 : BitVec 32 := 0#32
  ![v17.toNat, v44.toNat, c0_i32_21.toNat, c0_i32_22.toNat]

def cc0_transform_2 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.divsi v1 c128_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c64_i32 : BitVec 32 := 64#32
  let v19 : BitVec 32 := Scalar.divsi v1 c64_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c64_i32 c0_i32_8
  let v26 : BitVec 32 := Scalar.extui v25
  let c0_i32_9 : BitVec 32 := 0#32
  let v27 : BitVec 1 := Scalar.cmpi .slt c64_i32 c0_i32_9
  let v28 : BitVec 32 := Scalar.extui v27
  let v29 : BitVec 32 := Scalar.subi v26 v28
  let v30 : BitVec 1 := Scalar.cmpi .ne v24 v29
  let v31 : BitVec 32 := Scalar.remsi v1 c64_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c64_i32_17 : BitVec 32 := 64#32
  let c0_i32_18 : BitVec 32 := 0#32
  let v46 : BitVec 1 := Scalar.cmpi .eq c64_i32_17 c0_i32_18
  let c1_i32_19 : BitVec 32 := 1#32
  let v47 : BitVec 32 := Scalar.select v46 c1_i32_19 c64_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  let c0_i32_25 : BitVec 32 := 0#32
  ![v18.toNat, v45.toNat, c0_i32_23.toNat, c0_i32_24.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.divsi v1 c128_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c128_i32 c0_i32_2
  let v9 : BitVec 32 := Scalar.extui v8
  let c0_i32_3 : BitVec 32 := 0#32
  let v10 : BitVec 1 := Scalar.cmpi .slt c128_i32 c0_i32_3
  let v11 : BitVec 32 := Scalar.extui v10
  let v12 : BitVec 32 := Scalar.subi v9 v11
  let v13 : BitVec 1 := Scalar.cmpi .ne v7 v12
  let v14 : BitVec 32 := Scalar.remsi v1 c128_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c64_i32 : BitVec 32 := 64#32
  let v19 : BitVec 32 := Scalar.divsi v1 c64_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c64_i32 c0_i32_8
  let v26 : BitVec 32 := Scalar.extui v25
  let c0_i32_9 : BitVec 32 := 0#32
  let v27 : BitVec 1 := Scalar.cmpi .slt c64_i32 c0_i32_9
  let v28 : BitVec 32 := Scalar.extui v27
  let v29 : BitVec 32 := Scalar.subi v26 v28
  let v30 : BitVec 1 := Scalar.cmpi .ne v24 v29
  let v31 : BitVec 32 := Scalar.remsi v1 c64_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c64_i32_17 : BitVec 32 := 64#32
  let c0_i32_18 : BitVec 32 := 0#32
  let v46 : BitVec 1 := Scalar.cmpi .eq c64_i32_17 c0_i32_18
  let c1_i32_19 : BitVec 32 := 1#32
  let v47 : BitVec 32 := Scalar.select v46 c1_i32_19 c64_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v55.toNat, v45.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x64x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x8192x512 : Shape := ⟨3, ![2, 8192, 512]⟩
abbrev S2x2x8192x128 : Shape := ⟨4, ![2, 2, 8192, 128]⟩
abbrev S2x128x8192 : Shape := ⟨3, ![2, 128, 8192]⟩
abbrev S2x8192x2x4x64 : Shape := ⟨5, ![2, 8192, 2, 4, 64]⟩
abbrev S2x2x8192x64 : Shape := ⟨4, ![2, 2, 8192, 64]⟩
abbrev S2x2x64x8192 : Shape := ⟨4, ![2, 2, 64, 8192]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x2x8192x128, .bf16⟩
  | .hbm, ⟨2, _⟩ => ⟨S2x128x8192, .bf16⟩
  | .hbm, ⟨3, _⟩ => ⟨S2x8192x512, .f32⟩
  | .hbm, ⟨4, _⟩ => ⟨S2x8192x2x4x64, .f32⟩
  | .hbm, ⟨5, _⟩ => ⟨S2x2x8192x128, .f32⟩
  | .hbm, ⟨6, _⟩ => ⟨S2x2x8192x64, .f32⟩
  | .hbm, ⟨7, _⟩ => ⟨S2x128x8192, .f32⟩
  | .hbm, ⟨8, _⟩ => ⟨S2x2x64x8192, .f32⟩
  | .hbm, ⟨9, _⟩ => ⟨S2x2x8192x8192x4, .f32⟩
  | .hbm, ⟨10, _⟩ => ⟨S2x2x4x8192x8192, .f32⟩
  | .hbm, ⟨11, _⟩ => ⟨S_, .f32⟩
  | .hbm, ⟨12, _⟩ => ⟨S_, .f32⟩
  | .hbm, ⟨13, _⟩ => ⟨S2x2x4x8192x8192, .f32⟩
  | .hbm, ⟨14, _⟩ => ⟨S2x2x4x8192x8192, .f32⟩
  | .hbm, ⟨15, _⟩ => ⟨S_, .f32⟩
  | .hbm, ⟨16, _⟩ => ⟨S2x2x4x8192, .f32⟩
  | .hbm, ⟨17, _⟩ => ⟨S_, .f32⟩
  | .hbm, ⟨18, _⟩ => ⟨S2x2x4x8192, .f32⟩
  | .hbm, ⟨19, _⟩ => ⟨S2x2x4x8192, .f32⟩
  | .hbm, ⟨20, _⟩ => ⟨S2x2x4x8192x1, .f32⟩
  | .hbm, ⟨21, _⟩ => ⟨S2x2x4x8192x8192, .f32⟩
  | .hbm, ⟨22, _⟩ => ⟨S2x2x4x8192x8192, .f32⟩
  | .hbm, ⟨23, _⟩ => ⟨S2x2x4x8192x8192, .f32⟩
  | .hbm, ⟨24, _⟩ => ⟨S_, .f32⟩
  | .hbm, ⟨25, _⟩ => ⟨S2x2x4x8192, .f32⟩
  | .hbm, ⟨26, _⟩ => ⟨S2x2x4x8192x1, .f32⟩
  | .hbm, ⟨27, _⟩ => ⟨S2x2x4x8192x8192, .f32⟩
  | .hbm, ⟨28, _⟩ => ⟨S2x2x4x8192x8192, .f32⟩
  | .hbm, ⟨29, _⟩ => ⟨S2x2x64x4x8192, .f32⟩
  | .hbm, ⟨30, _⟩ => ⟨S2x8192x2x4x64, .f32⟩
  | .hbm, ⟨31, _⟩ => ⟨S2x8192x512, .f32⟩
  | .hbm, ⟨32, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel2.lean ====
abbrev S2x8192x512 : Shape := ⟨3, ![2, 8192, 512]⟩
abbrev S2x4x8192x128 : Shape := ⟨4, ![2, 4, 8192, 128]⟩
abbrev S2x256x8192 : Shape := ⟨3, ![2, 256, 8192]⟩
abbrev S2x512x8192 : Shape := ⟨3, ![2, 512, 8192]⟩
abbrev S2x4x64x8192 : Shape := ⟨4, ![2, 4, 64, 8192]⟩
abbrev S2x8192x256 : Shape := ⟨3, ![2, 8192, 256]⟩
abbrev S1x256x256 : Shape := ⟨3, ![1, 256, 256]⟩
abbrev S1x2x8192x128 : Shape := ⟨4, ![1, 2, 8192, 128]⟩
abbrev S1x2x64x8192 : Shape := ⟨4, ![1, 2, 64, 8192]⟩
abbrev S1x256x128 : Shape := ⟨3, ![1, 256, 128]⟩
abbrev S32x256x512 : Shape := ⟨3, ![32, 256, 512]⟩
abbrev S8x512 : Shape := ⟨2, ![8, 512]⟩
abbrev S1x128x256 : Shape := ⟨3, ![1, 128, 256]⟩
abbrev S128x256 : Shape := ⟨2, ![128, 256]⟩
abbrev S512 : Shape := ⟨1, ![512]⟩
abbrev S1x512 : Shape := ⟨2, ![1, 512]⟩
abbrev S64x256 : Shape := ⟨2, ![64, 256]⟩
abbrev S1x1x256x128 : Shape := ⟨4, ![1, 1, 256, 128]⟩
abbrev S256x128 : Shape := ⟨2, ![256, 128]⟩
abbrev S256x256 : Shape := ⟨2, ![256, 256]⟩
abbrev S256x512 : Shape := ⟨2, ![256, 512]⟩
abbrev S1x256x512 : Shape := ⟨3, ![1, 256, 512]⟩
abbrev S32x8x512 : Shape := ⟨3, ![32, 8, 512]⟩
abbrev S1x1x64x256 : Shape := ⟨4, ![1, 1, 64, 256]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x8192x512, .bf16⟩
  | .hbm, ⟨1, _⟩ => ⟨S2x4x8192x128, .bf16⟩
  | .hbm, ⟨2, _⟩ => ⟨S2x256x8192, .bf16⟩
  | .hbm, ⟨3, _⟩ => ⟨S2x512x8192, .bf16⟩
  | .hbm, ⟨4, _⟩ => ⟨S2x4x64x8192, .bf16⟩
  | .hbm, ⟨5, _⟩ => ⟨S2x8192x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x2x8192x128, .bf16⟩
  | .local _ .vmem, ⟨3, _⟩ => ⟨S1x2x64x8192, .bf16⟩
  | .local _ .vmem, ⟨4, _⟩ => ⟨S1x256x128, .bf16⟩
  | .local _ .vmem, ⟨5, _⟩ => ⟨S1x256x128, .bf16⟩
  | .local _ .vmem, ⟨6, _⟩ => ⟨S32x256x512, .f32⟩
  | .local _ .vmem, ⟨7, _⟩ => ⟨S32x256x512, .f32⟩
  | .local _ .vmem, ⟨8, _⟩ => ⟨S8x512, .f32⟩
  | .local _ .vmem, ⟨9, _⟩ => ⟨S8x512, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32 : BitVec 32 := 32#32
  let v18 : BitVec 32 := Scalar.divsi v0 c32_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c32_i32 c0_i32_6
  let v25 : BitVec 32 := Scalar.extui v24
  let c0_i32_7 : BitVec 32 := 0#32
  let v26 : BitVec 1 := Scalar.cmpi .slt c32_i32 c0_i32_7
  let v27 : BitVec 32 := Scalar.extui v26
  let v28 : BitVec 32 := Scalar.subi v25 v27
  let v29 : BitVec 1 := Scalar.cmpi .ne v23 v28
  let v30 : BitVec 32 := Scalar.remsi v0 c32_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c32_i32_15 : BitVec 32 := 32#32
  let c0_i32_16 : BitVec 32 := 0#32
  let v45 : BitVec 1 := Scalar.cmpi .eq c32_i32_15 c0_i32_16
  let c1_i32_17 : BitVec 32 := 1#32
  let v46 : BitVec 32 := Scalar.select v45 c1_i32_17 c32_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  ![v17.toNat, v44.toNat, v54.toNat]

def cc0_transform_1 (i : grid0.Coords) : Fin 4 → Nat :=
  let arg0 : BitVec 32 := BitVec.ofNat 32 (i 0).val
  let c127_i32 : BitVec 32 := 127#32
  let v0 : BitVec 32 := Scalar.minsi arg0 c127_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32 : BitVec 32 := 32#32
  let v18 : BitVec 32 := Scalar.divsi v0 c32_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c32_i32 c0_i32_6
  let v25 : BitVec 32 := Scalar.extui v24
  let c0_i32_7 : BitVec 32 := 0#32
  let v26 : BitVec 1 := Scalar.cmpi .slt c32_i32 c0_i32_7
  let v27 : BitVec 32 := Scalar.extui v26
  let v28 : BitVec 32 := Scalar.subi v25 v27
  let v29 : BitVec 1 := Scalar.cmpi .ne v23 v28
  let v30 : BitVec 32 := Scalar.remsi v0 c32_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c32_i32_15 : BitVec 32 := 32#32
  let c0_i32_16 : BitVec 32 := 0#32
  let v45 : BitVec 1 := Scalar.cmpi .eq c32_i32_15 c0_i32_16
  let c1_i32_17 : BitVec 32 := 1#32
  let v46 : BitVec 32 := Scalar.select v45 c1_i32_17 c32_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  let c0_i32_23 : BitVec 32 := 0#32
  ![v17.toNat, v44.toNat, c0_i32_21.toNat, c0_i32_22.toNat]

def cc0_transform_2 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32 : BitVec 32 := 32#32
  let v19 : BitVec 32 := Scalar.divsi v1 c32_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c32_i32 c0_i32_8
  let v26 : BitVec 32 := Scalar.extui v25
  let c0_i32_9 : BitVec 32 := 0#32
  let v27 : BitVec 1 := Scalar.cmpi .slt c32_i32 c0_i32_9
  let v28 : BitVec 32 := Scalar.extui v27
  let v29 : BitVec 32 := Scalar.subi v26 v28
  let v30 : BitVec 1 := Scalar.cmpi .ne v24 v29
  let v31 : BitVec 32 := Scalar.remsi v1 c32_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c32_i32_17 : BitVec 32 := 32#32
  let c0_i32_18 : BitVec 32 := 0#32
  let v46 : BitVec 1 := Scalar.cmpi .eq c32_i32_17 c0_i32_18
  let c1_i32_19 : BitVec 32 := 1#32
  let v47 : BitVec 32 := Scalar.select v46 c1_i32_19 c32_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  let c0_i32_25 : BitVec 32 := 0#32
  ![v18.toNat, v45.toNat, c0_i32_23.toNat, c0_i32_24.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32 : BitVec 32 := 32#32
  let v19 : BitVec 32 := Scalar.divsi v1 c32_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c32_i32 c0_i32_8
  let v26 : BitVec 32 := Scalar.extui v25
  let c0_i32_9 : BitVec 32 := 0#32
  let v27 : BitVec 1 := Scalar.cmpi .slt c32_i32 c0_i32_9
  let v28 : BitVec 32 := Scalar.extui v27
  let v29 : BitVec 32 := Scalar.subi v26 v28
  let v30 : BitVec 1 := Scalar.cmpi .ne v24 v29
  let v31 : BitVec 32 := Scalar.remsi v1 c32_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c32_i32_17 : BitVec 32 := 32#32
  let c0_i32_18 : BitVec 32 := 0#32
  let v46 : BitVec 1 := Scalar.cmpi .eq c32_i32_17 c0_i32_18
  let c1_i32_19 : BitVec 32 := 1#32
  let v47 : BitVec 32 := Scalar.select v46 c1_i32_19 c32_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v55.toNat, v45.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x64x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x8192x512 : Shape := ⟨3, ![2, 8192, 512]⟩
abbrev S2x4x8192x128 : Shape := ⟨4, ![2, 4, 8192, 128]⟩
abbrev S2x256x8192 : Shape := ⟨3, ![2, 256, 8192]⟩
abbrev S2x8192x4x128 : Shape := ⟨4, ![2, 8192, 4, 128]⟩
abbrev S2x4x64x8192 : Shape := ⟨4, ![2, 4, 64, 8192]⟩
abbrev S2x8192x4x64 : Shape := ⟨4, ![2, 8192, 4, 64]⟩
abbrev S2x4x8192x64 : Shape := ⟨4, ![2, 4, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x8192x256 : Shape := ⟨3, ![2, 8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x4x8192x128, .bf16⟩
  | .hbm, ⟨2, _⟩ => ⟨S2x256x8192, .bf16⟩
  | .hbm, ⟨3, _⟩ => ⟨S2x8192x512, .f32⟩
  | .hbm, ⟨4, _⟩ => ⟨S2x8192x4x128, .f32⟩
  | .hbm, ⟨5, _⟩ => ⟨S2x4x8192x128, .f32⟩
  | .hbm, ⟨6, _⟩ => ⟨S2x256x8192, .f32⟩
  | .hbm, ⟨7, _⟩ => ⟨S2x4x64x8192, .f32⟩
  | .hbm, ⟨8, _⟩ => ⟨S2x8192x4x64, .f32⟩
  | .hbm, ⟨9, _⟩ => ⟨S2x4x8192x64, .f32⟩
  | .hbm, ⟨10, _⟩ => ⟨S2x4x8192x8192, .f32⟩
  | .hbm, ⟨11, _⟩ => ⟨S2x8192x4x64, .f32⟩
  | .hbm, ⟨12, _⟩ => ⟨S2x4x8192x64, .f32⟩
  | .hbm, ⟨13, _⟩ => ⟨S2x4x8192x8192, .f32⟩
  | .hbm, ⟨14, _⟩ => ⟨S2x4x8192x8192, .f32⟩
  | .hbm, ⟨15, _⟩ => ⟨S_, .f32⟩
  | .hbm, ⟨16, _⟩ => ⟨S_, .f32⟩
  | .hbm, ⟨17, _⟩ => ⟨S2x4x8192x8192, .f32⟩
  | .hbm, ⟨18, _⟩ => ⟨S2x4x8192x8192, .f32⟩
  | .hbm, ⟨19, _⟩ => ⟨S_, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .f32⟩
  | .hbm, ⟨24, _⟩ => ⟨S2x4x8192x1, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S2x4x8192x1, .f32⟩
  | .hbm, ⟨31, _⟩ => ⟨S2x4x8192x8192, .f32⟩
  | .hbm, ⟨32, _⟩ => ⟨S2x4x8192x8192, .f32⟩
  | .hbm, ⟨33, _⟩ => ⟨S2x4x64x8192, .f32⟩
  | .hbm, ⟨34, _⟩ => ⟨S2x8192x4x64, .f32⟩
  | .hbm, ⟨35, _⟩ => ⟨S2x8192x256, .f32⟩
  | .hbm, ⟨36, _⟩ => ⟨S2x8192x256, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x1024 : Shape := ⟨2, ![1, 1024]⟩
abbrev S1x5632 : Shape := ⟨2, ![1, 5632]⟩
abbrev S1x512x1024 : Shape := ⟨3, ![1, 512, 1024]⟩
abbrev S1x16x1024 : Shape := ⟨3, ![1, 16, 1024]⟩
abbrev S512x2816 : Shape := ⟨2, ![512, 2816]⟩
abbrev S16x1024 : Shape := ⟨2, ![16, 1024]⟩
abbrev S512x1024 : Shape := ⟨2, ![512, 1024]⟩
abbrev S544x1024 : Shape := ⟨2, ![544, 1024]⟩
abbrev S1024x256 : Shape := ⟨2, ![1024, 256]⟩
abbrev S544x256 : Shape := ⟨2, ![544, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x5632, .f32⟩
  | .hbm, ⟨11, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x2816, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x8192x1024 : Shape := ⟨3, ![2, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x8192x1024, .f32⟩
  | .hbm, ⟨8, _⟩ => ⟨S2x8192x5632, .f32⟩
  | .hbm, ⟨9, _⟩ => ⟨S_, .i32⟩
  | .hbm, ⟨10, _⟩ => ⟨S_, .f32⟩
  | .hbm, ⟨11, _⟩ => ⟨S2x8194x5632, .f32⟩
  | .hbm, ⟨12, _⟩ => ⟨S2x8192x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S2x8192x5632, .f32⟩
  | .hbm, ⟨17, _⟩ => ⟨S2x8192x5632, .f32⟩
  | .hbm, ⟨18, _⟩ => ⟨S2x8192x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S2x8192x5632, .f32⟩
  | .hbm, ⟨23, _⟩ => ⟨S2x8192x5632, .f32⟩
  | .hbm, ⟨24, _⟩ => ⟨S2x8192x5632, .f32⟩
  | .hbm, ⟨25, _⟩ => ⟨S2x8192x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x8192x5632, .f32⟩
  | .hbm, ⟨30, _⟩ => ⟨S2x8192x5632, .f32⟩
  | .hbm, ⟨31, _⟩ => ⟨S2x8192x5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S_, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1, .f32⟩
  | .hbm, ⟨67, _⟩ => ⟨S2x8192x1024, .f32⟩
  | .hbm, ⟨68, _⟩ => ⟨S2x8192x1024, .f32⟩
  | .hbm, ⟨69, _⟩ => ⟨S1x1x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S256 : Shape := ⟨1, ![256]⟩
abbrev S512 : Shape := ⟨1, ![512]⟩
abbrev S1024x1024 : Shape := ⟨2, ![1024, 1024]⟩
abbrev S1024 : Shape := ⟨1, ![1024]⟩
abbrev S1x256 : Shape := ⟨2, ![1, 256]⟩
abbrev S1x512 : Shape := ⟨2, ![1, 512]⟩
abbrev S1x1024 : Shape := ⟨2, ![1, 1024]⟩
abbrev S1x1024x1024 : Shape := ⟨3, ![1, 1024, 1024]⟩
abbrev S1x1024x256 : Shape := ⟨3, ![1, 1024, 256]⟩
abbrev S1x1024x512 : Shape := ⟨3, ![1, 1024, 512]⟩
abbrev S1024x256 : Shape := ⟨2, ![1024, 256]⟩
abbrev S1024x1 : Shape := ⟨2, ![1024, 1]⟩
abbrev S1024x512 : Shape := ⟨2, ![1024, 512]⟩
abbrev S256x1024 : Shape := ⟨2, ![256, 1024]⟩
abbrev S512x1024 : Shape := ⟨2, ![512, 1024]⟩

abbrev nBuf : Space → Nat
  | .hbm => 18
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .bf16⟩
  | .hbm, ⟨3, _⟩ => ⟨S2x8192x256, .bf16⟩
  | .hbm, ⟨4, _⟩ => ⟨S256, .f32⟩
  | .hbm, ⟨5, _⟩ => ⟨S512, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1x256, .f32⟩
  | .hbm, ⟨11, _⟩ => ⟨S1x512, .f32⟩
  | .hbm, ⟨12, _⟩ => ⟨S1x256, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S2x8192x1024, .f32⟩
  | .hbm, ⟨17, _⟩ => ⟨S2x8192x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256, .f32⟩
  | .local _ .vmem, ⟨9, _⟩ => ⟨S1x512, .f32⟩
  | .local _ .vmem, ⟨10, _⟩ => ⟨S1x256, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .bf16⟩
  | .local _ .vmem, ⟨17, _⟩ => ⟨S1x1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S256 : Shape := ⟨1, ![256]⟩
abbrev S512 : Shape := ⟨1, ![512]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x256 : Shape := ⟨3, ![1, 1, 256]⟩
abbrev S1x1x512 : Shape := ⟨3, ![1, 1, 512]⟩
abbrev S1x1x1024 : Shape := ⟨3, ![1, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .bf16⟩
  | .hbm, ⟨3, _⟩ => ⟨S2x8192x256, .bf16⟩
  | .hbm, ⟨4, _⟩ => ⟨S256, .f32⟩
  | .hbm, ⟨5, _⟩ => ⟨S512, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x8192x256, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x256, .f32⟩
  | .hbm, ⟨22, _⟩ => ⟨S2x8192x256, .f32⟩
  | .hbm, ⟨23, _⟩ => ⟨S1x1x256, .f32⟩
  | .hbm, ⟨24, _⟩ => ⟨S2x8192x256, .f32⟩
  | .hbm, ⟨25, _⟩ => ⟨S2x8192x256, .f32⟩
  | .hbm, ⟨26, _⟩ => ⟨S2x8192x512, .f32⟩
  | .hbm, ⟨27, _⟩ => ⟨S2x8192x512, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x512, .f32⟩
  | .hbm, ⟨39, _⟩ => ⟨S2x8192x512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S2x8192x256, .f32⟩
  | .hbm, ⟨44, _⟩ => ⟨S2x8192x256, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x256, .f32⟩
  | .hbm, ⟨56, _⟩ => ⟨S2x8192x256, .f32⟩
  | .hbm, ⟨57, _⟩ => ⟨S1x1x256, .f32⟩
  | .hbm, ⟨58, _⟩ => ⟨S2x8192x256, .f32⟩
  | .hbm, ⟨59, _⟩ => ⟨S2x8192x256, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S_, .f32⟩
  | .hbm, ⟨64, _⟩ => ⟨S2x8192, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S2x8192x1, .f32⟩
  | .hbm, ⟨73, _⟩ => ⟨S2x8192x1024, .f32⟩
  | .hbm, ⟨74, _⟩ => ⟨S2x8192x1024, .f32⟩
  | .hbm, ⟨75, _⟩ => ⟨S1x1x1024, .f32⟩
  | .hbm, ⟨76, _⟩ => ⟨S2x8192x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S_, .f32⟩
  | .hbm, ⟨81, _⟩ => ⟨S2x8192, .f32⟩
  | .hbm, ⟨82, _⟩ => ⟨S2x8192x1, .f32⟩
  | .hbm, ⟨83, _⟩ => ⟨S_, .f32⟩
  | .hbm, ⟨84, _⟩ => ⟨S2x8192x1, .f32⟩
  | .hbm, ⟨85, _⟩ => ⟨S2x8192x1, .f32⟩
  | .hbm, ⟨86, _⟩ => ⟨S_, .f32⟩
  | .hbm, ⟨87, _⟩ => ⟨S2x8192x1, .f32⟩
  | .hbm, ⟨88, _⟩ => ⟨S2x8192x1, .f32⟩
  | .hbm, ⟨89, _⟩ => ⟨S2x8192x1, .f32⟩
  | .hbm, ⟨90, _⟩ => ⟨S2x8192x1024, .f32⟩
  | .hbm, ⟨91, _⟩ => ⟨S2x8192x1024, .f32⟩
  | .hbm, ⟨92, _⟩ => ⟨S1x1x1024, .f32⟩
  | .hbm, ⟨93, _⟩ => ⟨S2x8192x1024, .f32⟩
  | .hbm, ⟨94, _⟩ => ⟨S2x8192x1024, .f32⟩
  | .hbm, ⟨95, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S1024x1952 : Shape := ⟨2, ![1024, 1952]⟩
abbrev S64 : Shape := ⟨1, ![64]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x32 : Shape := ⟨2, ![8192, 32]⟩
abbrev S8192x16 : Shape := ⟨2, ![8192, 16]⟩
abbrev S_ : Shape := ⟨0, ![]⟩
abbrev S8192x0 : Shape := ⟨2, ![8192, 0]⟩
abbrev S8192x128 : Shape := ⟨2, ![8192, 128]⟩
abbrev S8192x64 : Shape := ⟨2, ![8192, 64]⟩
abbrev S1024x512 : Shape := ⟨2, ![1024, 512]⟩
abbrev S1024x8x64 : Shape := ⟨3, ![1024, 8, 64]⟩
abbrev S1024x128 : Shape := ⟨2, ![1024, 128]⟩
abbrev S1024x2x64 : Shape := ⟨3, ![1024, 2, 64]⟩
abbrev S1024x32 : Shape := ⟨2, ![1024, 32]⟩
abbrev S1024x768 : Shape := ⟨2, ![1024, 768]⟩
abbrev S1024x8x32 : Shape := ⟨3, ![1024, 8, 32]⟩
abbrev S1024x2x32 : Shape := ⟨3, ![1024, 2, 32]⟩
abbrev S1024x16 : Shape := ⟨2, ![1024, 16]⟩
abbrev S1024x2816 : Shape := ⟨2, ![1024, 2816]⟩
abbrev S1x64 : Shape := ⟨2, ![1, 64]⟩
abbrev S2x64 : Shape := ⟨2, ![2, 64]⟩
abbrev S1x128 : Shape := ⟨2, ![1, 128]⟩
abbrev S32 : Shape := ⟨1, ![32]⟩
abbrev S256x4x96 : Shape := ⟨3, ![256, 4, 96]⟩
abbrev S256x4x32 : Shape := ⟨3, ![256, 4, 32]⟩
abbrev S256x4x16 : Shape := ⟨3, ![256, 4, 16]⟩
abbrev S256x4x128 : Shape := ⟨3, ![256, 4, 128]⟩
abbrev S256x512 : Shape := ⟨2, ![256, 512]⟩
abbrev S256x1024 : Shape := ⟨2, ![256, 1024]⟩
abbrev S128x4x128 : Shape := ⟨3, ![128, 4, 128]⟩
abbrev S128x4x64 : Shape := ⟨3, ![128, 4, 64]⟩
abbrev S128x256 : Shape := ⟨2, ![128, 256]⟩
abbrev S1x1024 : Shape := ⟨2, ![1, 1024]⟩
abbrev S1x256 : Shape := ⟨2, ![1, 256]⟩
abbrev S2x8192x768 : Shape := ⟨3, ![2, 8192, 768]⟩
abbrev S2x8192x512 : Shape := ⟨3, ![2, 8192, 512]⟩
abbrev S2x2x8192x128 : Shape := ⟨4, ![2, 2, 8192, 128]⟩
abbrev S2x128x8192 : Shape := ⟨3, ![2, 128, 8192]⟩
abbrev S2x4x8192x128 : Shape := ⟨4, ![2, 4, 8192, 128]⟩
abbrev S2x256x8192 : Shape := ⟨3, ![2, 256, 8192]⟩
abbrev S1x1024x1024 : Shape := ⟨3, ![1, 1024, 1024]⟩
abbrev S1x1024x768 : Shape := ⟨3, ![1, 1024, 768]⟩
abbrev S1x1024x512 : Shape := ⟨3, ![1, 1024, 512]⟩
abbrev S1x2x1024x128 : Shape := ⟨4, ![1, 2, 1024, 128]⟩
abbrev S1x128x1024 : Shape := ⟨3, ![1, 128, 1024]⟩
abbrev S1x4x1024x128 : Shape := ⟨4, ![1, 4, 1024, 128]⟩
abbrev S1x256x1024 : Shape := ⟨3, ![1, 256, 1024]⟩
abbrev S1024x1024 : Shape := ⟨2, ![1024, 1024]⟩
abbrev S1024x1 : Shape := ⟨2, ![1024, 1]⟩
abbrev S1x1024x128 : Shape := ⟨3, ![1, 1024, 128]⟩
abbrev S1x1x1024x128 : Shape := ⟨4, ![1, 1, 1024, 128]⟩
abbrev S128x1024 : Shape := ⟨2, ![128, 1024]⟩
abbrev S1024x256 : Shape := ⟨2, ![1024, 256]⟩

abbrev nBuf : Space → Nat
  | .hbm => 152
  | .vmem => 39
  | .smem => 0
  | _ => 0

abbrev hbmTy0_0 (i : Nat) : BufTy := match i % 128 with
  | 0 => ⟨S2x8192x1024, .f32⟩
  | 1 => ⟨S1024, .f32⟩
  | 2 => ⟨S1024x1952, .f32⟩
  | 3 => ⟨S64, .f32⟩
  | 4 => ⟨S64, .f32⟩
  | 5 => ⟨S256, .f32⟩
  | 6 => ⟨S256x384, .f32⟩
  | 7 => ⟨S128, .f32⟩
  | 8 => ⟨S128x512, .f32⟩
  | 9 => ⟨S8192x32, .f32⟩
  | 10 => ⟨S8192x32, .f32⟩
  | 11 => ⟨S8192x16, .f32⟩
  | 12 => ⟨S8192x16, .f32⟩
  | 13 => ⟨S_, .f32⟩
  | 14 => ⟨S8192x0, .f32⟩
  | 15 => ⟨S8192x128, .f32⟩
  | 16 => ⟨S_, .f32⟩
  | 17 => ⟨S8192x0, .f32⟩
  | 18 => ⟨S8192x128, .f32⟩
  | 19 => ⟨S_, .f32⟩
  | 20 => ⟨S8192x64, .f32⟩
  | 21 => ⟨S_, .f32⟩
  | 22 => ⟨S8192x64, .f32⟩
  | 23 => ⟨S_, .f32⟩
  | 24 => ⟨S8192x32, .f32⟩
  | 25 => ⟨S8192x128, .f32⟩
  | 26 => ⟨S_, .f32⟩
  | 27 => ⟨S8192x32, .f32⟩
  | 28 => ⟨S8192x128, .f32⟩
  | 29 => ⟨S_, .f32⟩
  | 30 => ⟨S8192x32, .f32⟩
  | 31 => ⟨S8192x128, .f32⟩
  | 32 => ⟨S_, .f32⟩
  | 33 => ⟨S8192x128, .f32⟩
  | 34 => ⟨S8192x128, .f32⟩
  | 35 => ⟨S_, .f32⟩
  | 36 => ⟨S8192x128, .f32⟩
  | 37 => ⟨S8192x128, .f32⟩
  | 38 => ⟨S1024x512, .f32⟩
  | 39 => ⟨S1024x8x64, .f32⟩
  | 40 => ⟨S1024x128, .f32⟩
  | 41 => ⟨S1024x2x64, .f32⟩
  | 42 => ⟨S1024x32, .f32⟩
  | 43 => ⟨S1024x768, .f32⟩
  | 44 => ⟨S1024x512, .f32⟩
  | 45 => ⟨S1024x8x32, .f32⟩
  | 46 => ⟨S_, .f32⟩
  | 47 => ⟨S1024x8x32, .f32⟩
  | 48 => ⟨S1024x8x32, .f32⟩
  | 49 => ⟨S1024x8x32, .f32⟩
  | 50 => ⟨S1024x8x64, .f32⟩
  | 51 => ⟨S1024x512, .f32⟩
  | 52 => ⟨S1024x128, .f32⟩
  | 53 => ⟨S1024x2x32, .f32⟩
  | 54 => ⟨S_, .f32⟩
  | 55 => ⟨S1024x2x32, .f32⟩
  | 56 => ⟨S1024x2x32, .f32⟩
  | 57 => ⟨S1024x2x32, .f32⟩
  | 58 => ⟨S1024x2x64, .f32⟩
  | 59 => ⟨S1024x128, .f32⟩
  | 60 => ⟨S1024x512, .f32⟩
  | 61 => ⟨S_, .i32⟩
  | 62 => ⟨S_, .f32⟩
  | 63 => ⟨S1024x128, .f32⟩
  | 64 => ⟨S1024x16, .f32⟩
  | 65 => ⟨S_, .f32⟩
  | 66 => ⟨S1024x16, .f32⟩
  | 67 => ⟨S1024x16, .f32⟩
  | 68 => ⟨S1024x16, .f32⟩
  | 69 => ⟨S1024x32, .f32⟩
  | 70 => ⟨S_, .i32⟩
  | 71 => ⟨S_, .f32⟩
  | 72 => ⟨S1024x128, .f32⟩
  | 73 => ⟨S1024x2816, .f32⟩
  | 74 => ⟨S1024x2816, .bf16⟩
  | 75 => ⟨S_, .f32⟩
  | 76 => ⟨S64, .f32⟩
  | 77 => ⟨S64, .f32⟩
  | 78 => ⟨S1x64, .f32⟩
  | 79 => ⟨S2x64, .f32⟩
  | 80 => ⟨S128, .f32⟩
  | 81 => ⟨S1x128, .f32⟩
  | 82 => ⟨S32, .f32⟩
  | 83 => ⟨S_, .f32⟩
  | 84 => ⟨S32, .f32⟩
  | 85 => ⟨S32, .f32⟩
  | 86 => ⟨S32, .f32⟩
  | 87 => ⟨S64, .f32⟩
  | 88 => ⟨S1x64, .f32⟩
  | 89 => ⟨S2x64, .f32⟩
  | 90 => ⟨S128, .f32⟩
  | 91 => ⟨S1x128, .f32⟩
  | 92 => ⟨S1x64, .f32⟩
  | 93 => ⟨S2x64, .f32⟩
  | 94 => ⟨S128, .f32⟩
  | 95 => ⟨S1x128, .f32⟩
  | 96 => ⟨S32, .f32⟩
  | 97 => ⟨S_, .f32⟩
  | 98 => ⟨S32, .f32⟩
  | 99 => ⟨S32, .f32⟩
  | 100 => ⟨S32, .f32⟩
  | 101 => ⟨S64, .f32⟩
  | 102 => ⟨S1x64, .f32⟩
  | 103 => ⟨S2x64, .f32⟩
  | 104 => ⟨S128, .f32⟩
  | 105 => ⟨S1x128, .f32⟩
  | 106 => ⟨S256x4x96, .f32⟩
  | 107 => ⟨S256x4x32, .f32⟩
  | 108 => ⟨S256x4x16, .f32⟩
  | 109 => ⟨S_, .f32⟩
  | 110 => ⟨S256x4x16, .f32⟩
  | 111 => ⟨S256x4x16, .f32⟩
  | 112 => ⟨S256x4x16, .f32⟩
  | 113 => ⟨S256x4x32, .f32⟩
  | 114 => ⟨S_, .i32⟩
  | 115 => ⟨S_, .f32⟩
  | 116 => ⟨S256x4x96, .f32⟩
  | 117 => ⟨S256x4x96, .f32⟩
  | 118 => ⟨S_, .i32⟩
  | 119 => ⟨S_, .f32⟩
  | 120 => ⟨S256x4x128, .f32⟩
  | 121 => ⟨S256x512, .f32⟩
  | 122 => ⟨S256x384, .f32⟩
  | 123 => ⟨S256x4x96, .f32⟩
  | 124 => ⟨S_, .i32⟩
  | 125 => ⟨S_, .f32⟩
  | 126 => ⟨S256x4x128, .f32⟩
  | 127 => ⟨S256x512, .f32⟩
  | _ => ⟨S2x8192x1024, .f32⟩

abbrev hbmTy0_1 (i : Nat) : BufTy := match i % 128 with
  | 0 => ⟨S256x1024, .f32⟩
  | 1 => ⟨S256x1024, .bf16⟩
  | 2 => ⟨S128x4x128, .f32⟩
  | 3 => ⟨S128x4x64, .f32⟩
  | 4 => ⟨S128x256, .f32⟩
  | 5 => ⟨S128x4x64, .f32⟩
  | 6 => ⟨S_, .i32⟩
  | 7 => ⟨S_, .f32⟩
  | 8 => ⟨S128x4x128, .f32⟩
  | 9 => ⟨S128x512, .f32⟩
  | 10 => ⟨S128x512, .bf16⟩
  | 11 => ⟨S128x4x64, .f32⟩
  | 12 => ⟨S128x256, .f32⟩
  | 13 => ⟨S128x256, .bf16⟩
  | 14 => ⟨S1x1024, .f32⟩
  | 15 => ⟨S1x256, .f32⟩
  | 16 => ⟨S1x128, .f32⟩
  | 17 => ⟨S2x8192x768, .f32⟩
  | 18 => ⟨S2x8192x512, .bf16⟩
  | 19 => ⟨S2x2x8192x128, .bf16⟩
  | 20 => ⟨S2x128x8192, .bf16⟩
  | 21 => ⟨S2x8192x512, .bf16⟩
  | 22 => ⟨S2x4x8192x128, .bf16⟩
  | 23 => ⟨S2x256x8192, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2816, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x256, .f32⟩
  | .local _ .vmem, ⟨13, _⟩ => ⟨S256x1024, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x128, .f32⟩
  | .local _ .vmem, ⟨19, _⟩ => ⟨S128x512, .bf16⟩
  | .local _ .vmem, ⟨20, _⟩ => ⟨S128x256, .bf16⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1x1024x768, .f32⟩
  | .local _ .vmem, ⟨26, _⟩ => ⟨S1x1024x768, .f32⟩
  | .local _ .vmem, ⟨27, _⟩ => ⟨S1x1024x512, .bf16⟩
  | .local _ .vmem, ⟨28, _⟩ => ⟨S1x1024x512, .bf16⟩
  | .local _ .vmem, ⟨29, _⟩ => ⟨S1x2x1024x128, .bf16⟩
  | .local _ .vmem, ⟨30, _⟩ => ⟨S1x2x1024x128, .bf16⟩
  | .local _ .vmem, ⟨31, _⟩ => ⟨S1x128x1024, .bf16⟩
  | .local _ .vmem, ⟨32, _⟩ => ⟨S1x128x1024, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x4x1024x128, .bf16⟩
  | .local _ .vmem, ⟨36, _⟩ => ⟨S1x4x1024x128, .bf16⟩
  | .local _ .vmem, ⟨37, _⟩ => ⟨S1x256x1024, .bf16⟩
  | .local _ .vmem, ⟨38, _⟩ => ⟨S1x256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_cst_3 : Ref sig .tc := ⟨.hbm, 23, rfl⟩
abbrev main_v6 : Ref sig .tc := ⟨.hbm, 24, rfl⟩
abbrev main_v7 : Ref sig .tc := ⟨.hbm, 25, rfl⟩
abbrev main_cst_4 : Ref sig .tc := ⟨.hbm, 26, rfl⟩
abbrev main_v8 : Ref sig .tc := ⟨.hbm, 27, rfl⟩
abbrev main_v9 : Ref sig .tc := ⟨.hbm, 28, rfl⟩
abbrev main_cst_5 : Ref sig .tc := ⟨.hbm, 29, rfl⟩
abbrev main_v10 : Ref sig .tc := ⟨.hbm, 30, rfl⟩
abbrev main_v11 : Ref sig .tc := ⟨.hbm, 31, rfl⟩
abbrev main_cst_6 : Ref sig .tc := ⟨.hbm, 32, rfl⟩
abbrev main_v12 : Ref sig .tc := ⟨.hbm, 33, rfl⟩
abbrev main_v13 : Ref sig .tc := ⟨.hbm, 34, rfl⟩
abbrev main_cst_7 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c : Ref sig .tc := ⟨.hbm, 61, rfl⟩
abbrev main_call0_v0 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_call1_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_call2_v0 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_call3_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_18 : Ref sig .tc := ⟨.hbm, 124, rfl⟩
abbrev main_call4_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_19 : Ref sig .tc := ⟨.hbm, 134, rfl⟩
abbrev main_call5_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104_0 : Ref sig .tc := ⟨.hbm, 145, rfl⟩
abbrev main_v104_1 : Ref sig .tc := ⟨.hbm, 146, rfl⟩
abbrev main_v104_2 : Ref sig .tc := ⟨.hbm, 147, rfl⟩
abbrev main_v104_3 : Ref sig .tc := ⟨.hbm, 148, rfl⟩
abbrev main_v104_4 : Ref sig .tc := ⟨.hbm, 149, rfl⟩
abbrev main_v104_5 : Ref sig .tc := ⟨.hbm, 150, rfl⟩
abbrev main_v104_6 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x1024x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x1024x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x128x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x4x1024x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference5Ideal.lean ====
abbrev S2x8192x1024 : Shape := ⟨3, ![2, 8192, 1024]⟩
abbrev S1024 : Shape := ⟨1, ![1024]⟩
abbrev S1024x1952 : Shape := ⟨2, ![1024, 1952]⟩
abbrev S64 : Shape := ⟨1, ![64]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x32 : Shape := ⟨2, ![8192, 32]⟩
abbrev S8192x16 : Shape := ⟨2, ![8192, 16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x1952 : Shape := ⟨3, ![2, 8192, 1952]⟩
abbrev S2x8192x768 : Shape := ⟨3, ![2, 8192, 768]⟩
abbrev S2x8192x512 : Shape := ⟨3, ![2, 8192, 512]⟩
abbrev S2x8192x128 : Shape := ⟨3, ![2, 8192, 128]⟩
abbrev S2x8192x256 : Shape := ⟨3, ![2, 8192, 256]⟩
abbrev S2x8192x32 : Shape := ⟨3, ![2, 8192, 32]⟩
abbrev S2x128x8192 : Shape := ⟨3, ![2, 128, 8192]⟩
abbrev S1x1x128 : Shape := ⟨3, ![1, 1, 128]⟩
abbrev S2x8192x4x128 : Shape := ⟨4, ![2, 8192, 4, 128]⟩
abbrev S2x8192x4x64 : Shape := ⟨4, ![2, 8192, 4, 64]⟩
abbrev S2x4x64x8192 : Shape := ⟨4, ![2, 4, 64, 8192]⟩
abbrev S2x256x8192 : Shape := ⟨3, ![2, 256, 8192]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1952, .f32⟩
  | .hbm, ⟨3, _⟩ => ⟨S64, .f32⟩
  | .hbm, ⟨4, _⟩ => ⟨S64, .f32⟩
  | .hbm, ⟨5, _⟩ => ⟨S256, .f32⟩
  | .hbm, ⟨6, _⟩ => ⟨S256x384, .f32⟩
  | .hbm, ⟨7, _⟩ => ⟨S128, .f32⟩
  | .hbm, ⟨8, _⟩ => ⟨S128x512, .f32⟩
  | .hbm, ⟨9, _⟩ => ⟨S8192x32, .f32⟩
  | .hbm, ⟨10, _⟩ => ⟨S8192x32, .f32⟩
  | .hbm, ⟨11, _⟩ => ⟨S8192x16, .f32⟩
  | .hbm, ⟨12, _⟩ => ⟨S8192x16, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x1952, .f32⟩
  | .hbm, ⟨30, _⟩ => ⟨S2x8192x768, .f32⟩
  | .hbm, ⟨31, _⟩ => ⟨S2x8192x512, .f32⟩
  | .hbm, ⟨32, _⟩ => ⟨S2x8192x128, .f32⟩
  | .hbm, ⟨33, _⟩ => ⟨S2x8192x128, .f32⟩
  | .hbm, ⟨34, _⟩ => ⟨S2x8192x256, .f32⟩
  | .hbm, ⟨35, _⟩ => ⟨S2x8192x128, .f32⟩
  | .hbm, ⟨36, _⟩ => ⟨S2x8192x32, .f32⟩
  | .hbm, ⟨37, _⟩ => ⟨S2x128x8192, .f32⟩
  | .hbm, ⟨38, _⟩ => ⟨S2x8192x128, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x128, .f32⟩
  | .hbm, ⟨50, _⟩ => ⟨S2x8192x128, .f32⟩
  | .hbm, ⟨51, _⟩ => ⟨S1x1x128, .f32⟩
  | .hbm, ⟨52, _⟩ => ⟨S2x8192x128, .f32⟩
  | .hbm, ⟨53, _⟩ => ⟨S2x8192x128, .f32⟩
  | .hbm, ⟨54, _⟩ => ⟨S2x8192x512, .f32⟩
  | .hbm, ⟨55, _⟩ => ⟨S2x8192x4x128, .f32⟩
  | .hbm, ⟨56, _⟩ => ⟨S2x8192x4x64, .f32⟩
  | .hbm, ⟨57, _⟩ => ⟨S2x8192x4x64, .f32⟩
  | .hbm, ⟨58, _⟩ => ⟨S2x4x64x8192, .f32⟩
  | .hbm, ⟨59, _⟩ => ⟨S2x256x8192, .f32⟩
  | .hbm, ⟨60, _⟩ => ⟨S2x128x8192, .bf16⟩
  | .hbm, ⟨61, _⟩ => ⟨S2x256x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.MlaRunBI.lean ====
module

public import proofs.«01_k».proof.Proof.Gen.Kernel2Ideal.Frame.RunA

@[expose] public section
/-!
  The step of the latent attention at an odd point: it stores the scores of its own block and finishes the block
  before. The conditions of the point are decided first, so that only the part that runs is looked at.
-/

set_option maxRecDepth 16384

noncomputable section

namespace Cert.Kernel2Ideal.Steps

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What an odd point stores into the result's buffer and into the scratches, last store first, with the proof that the body,
    given whole buffers (the inputs at their contents, the scratches it reads at what the point before left), ends with the
    inputs as they were and every buffer it stored into holding those stores. -/
noncomputable def kernelRun0_B (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) :
    Σ' (L3 : List (View.Piece (Elt F) S1x256x128 .bf16)), Σ' (LS0 : List (View.Piece (Elt F) S32x256x512 .f32)), Σ' (LS1 : List (View.Piece (Elt F) S32x256x512 .f32)), Σ' (LS2 : List (View.Piece (Elt F) S8x512 .f32)), { LS3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ (∃ d, owns (c : Thread nD τ) arg6 fullShare d) ∗ owns (c : Thread nD τ) arg7 fullShare xs2 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs0 ∗ (∃ f, arg6.view.loc (c : Thread nD τ) ↦[arg6.view.set]{fullShare} arg6.view.writes (Elt F) f LS1) ∗ owns (c : Thread nD τ) arg7 fullShare xs2 ∗ (∃ f, arg8.view.loc (c : Thread nD τ) ↦[arg8.view.set]{fullShare} arg8.view.writes (Elt F) f LS3)) -∗ K ⟨⟩))
          ⊢ wp frame (wpE (defs₀ (F := F)) Variants.none c none) E (cc0_attn_mla i arg1 harg1 arg2 harg2 arg3 harg3 arg4 harg4 arg5 harg5 arg6 harg6 arg7 harg7 arg8 harg8) K } := by
  refine ⟨?_, [], ?_, [], ?_, fun E K => ?run⟩
  case run =>
    simp only [cc0_attn_mla_eq_skeleton]; unfold cc0_attn_mla_skel
    simp only [↓dif_neg hc0, ↓dif_neg hc1, ↓dif_pos hc2, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg5.eq_unread hfs0; obtain rfl := harg7.eq_unread hfs2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg5.read_unread _
      iexact HS0
    isplitl [HS1]; · iexists _; iexact HS1
    isplitl [HS2]
    · iexists _; isplitr; · ipureintro; exact harg7.read_unread _
      iexact HS2
    iexists _; iexact HS3

end Cert.Kernel2Ideal.Steps

end
-- ==== Proof.MlaRunCI.lean ====
module

public import proofs.«01_k».proof.Proof.MlaRunBI

@[expose] public section
/-!
  The step of the latent attention at an even point after the first. The conditions of the point are decided first, so
  that only the part that runs is looked at.
-/

set_option maxRecDepth 16384

noncomputable section

namespace Cert.Kernel2Ideal.Steps

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What an even point after the first stores into the result's buffer and into the scratches, last store first, with the proof that the body,
    given whole buffers (the inputs at their contents, the scratches it reads at what the point before left), ends with the
    inputs as they were and every buffer it stored into holding those stores. -/
noncomputable def kernelRun0_C (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) :
    Σ' (L3 : List (View.Piece (Elt F) S1x256x128 .bf16)), Σ' (LS0 : List (View.Piece (Elt F) S32x256x512 .f32)), Σ' (LS1 : List (View.Piece (Elt F) S32x256x512 .f32)), Σ' (LS2 : List (View.Piece (Elt F) S8x512 .f32)), { LS3 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs1 ∗ (∃ d, owns (c : Thread nD τ) arg7 fullShare d) ∗ owns (c : Thread nD τ) arg8 fullShare xs3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ owns (c : Thread nD τ) arg6 fullShare xs1 ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc0_attn_mla i arg1 harg1 arg2 harg2 arg3 harg3 arg4 harg4 arg5 harg5 arg6 harg6 arg7 harg7 arg8 harg8) K } := by
  refine ⟨?_, ?_, [], ?_, [], fun E K => ?run⟩
  case run =>
    simp only [cc0_attn_mla_eq_skeleton]; unfold cc0_attn_mla_skel
    simp only [↓dif_neg hc0, ↓dif_pos hc1, ↓dif_neg hc2, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg6.eq_unread hfs1; obtain rfl := harg8.eq_unread hfs3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    isplitl [HS1]
    · iexists _; isplitr; · ipureintro; exact harg6.read_unread _
      iexact HS1
    isplitl [HS2]; · iexists _; iexact HS2
    iexists _; isplitr; · ipureintro; exact harg8.read_unread _
    iexact HS3

end Cert.Kernel2Ideal.Steps

end
-- ==== Proof.MlaFrameI.lean ====
module

public import proofs.«01_k».proof.Proof.MlaRunCI
public import Idealize.ShloMosaic.Lib.Claim

@[expose] public section
/-!
  What the steps of the latent attention leave in the result and in the buffers they carry, the whole run, and its frame:
  the program ends, its arguments unchanged.
-/

set_option maxRecDepth 16384

noncomputable section

namespace Cert.Kernel2Ideal.Steps

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (one store of `S1x256x128`), so they cover it. -/
theorem cover0_A_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) (y : S1x256x128.Idx) :
    ∃ pc ∈ (kernelRun0_A c i arg1 harg1 arg2 harg2 arg3 harg3 arg4 harg4 arg5 harg5 arg6 harg6 arg7 harg7 arg8 harg8 hc0 hc1 hc2 x0 x1 x2).1, y ∈ pc.1.set :=
  View.cover_of_tiledL (kernelRun0_A c i arg1 harg1 arg2 harg2 arg3 harg3 arg4 harg4 arg5 harg5 arg6 harg6 arg7 harg7 arg8 harg8 hc0 hc1 hc2 x0 x1 x2).1 S1x256x128.size (by sl_kernel_rfl) y

/-- What case A leaves in output 3's staging buffer: its pieces read back over junk. -/
def out0_A_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) : Vec F S1x256x128 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 hc1 hc2 x0 x1 x2).1)

/-- Case A's pieces for scratch `arg5`, which the kernel carries between points, cover it: 32 pieces of `S1x256x512` tiling it. -/
theorem scover0_A_0 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) (y : S32x256x512.Idx) :
    ∃ pc ∈ (kernelRun0_A c i arg1 harg1 arg2 harg2 arg3 harg3 arg4 harg4 arg5 harg5 arg6 harg6 arg7 harg7 arg8 harg8 hc0 hc1 hc2 x0 x1 x2).2.1, y ∈ pc.1.set :=
  View.cover_of_tiledL (kernelRun0_A c i arg1 harg1 arg2 harg2 arg3 harg3 arg4 harg4 arg5 harg5 arg6 harg6 arg7 harg7 arg8 harg8 hc0 hc1 hc2 x0 x1 x2).2.1 S1x256x512.size (by sl_kernel_rfl) y

/-- What case A leaves in scratch `arg5`: its pieces read back over junk. -/
def sout0_A_0 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) : Vec F S32x256x512 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 hc2 x0 x1 x2).2.1)

/-- Case A's pieces for scratch `arg6`, which the kernel carries between points, cover it: 1 piece of `S32x256x512` tiling it. -/
theorem scover0_A_1 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) (y : S32x256x512.Idx) :
    ∃ pc ∈ (kernelRun0_A c i arg1 harg1 arg2 harg2 arg3 harg3 arg4 harg4 arg5 harg5 arg6 harg6 arg7 harg7 arg8 harg8 hc0 hc1 hc2 x0 x1 x2).2.2.1, y ∈ pc.1.set :=
  View.cover_of_tiledL (kernelRun0_A c i arg1 harg1 arg2 harg2 arg3 harg3 arg4 harg4 arg5 harg5 arg6 harg6 arg7 harg7 arg8 harg8 hc0 hc1 hc2 x0 x1 x2).2.2.1 S32x256x512.size (by sl_kernel_rfl) y

/-- What case A leaves in scratch `arg6`: its pieces read back over junk. -/
def sout0_A_1 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) : Vec F S32x256x512 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 hc2 x0 x1 x2).2.2.1)

/-- Case A's pieces for scratch `arg7`, which the kernel carries between points, cover it: 1 piece of `S8x512` tiling it. -/
theorem scover0_A_2 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) (y : S8x512.Idx) :
    ∃ pc ∈ (kernelRun0_A c i arg1 harg1 arg2 harg2 arg3 harg3 arg4 harg4 arg5 harg5 arg6 harg6 arg7 harg7 arg8 harg8 hc0 hc1 hc2 x0 x1 x2).2.2.2.1, y ∈ pc.1.set :=
  View.cover_of_tiledL (kernelRun0_A c i arg1 harg1 arg2 harg2 arg3 harg3 arg4 harg4 arg5 harg5 arg6 harg6 arg7 harg7 arg8 harg8 hc0 hc1 hc2 x0 x1 x2).2.2.2.1 S8x512.size (by sl_kernel_rfl) y

/-- What case A leaves in scratch `arg7`: its pieces read back over junk. -/
def sout0_A_2 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) : Vec F S8x512 .f32 :=
  VS0_2.read (Elt F) (VS0_2.writes (Elt F) VS0_2.junk (kernelRun0_A c i arg1 harg1 arg2 harg2 arg3 harg3 arg4 harg4 arg5 harg5 arg6 harg6 arg7 harg7 arg8 harg8 hc0 hc1 hc2 x0 x1 x2).2.2.2.1)

/-- Case A's pieces for scratch `arg8`, which the kernel carries between points, cover it: 1 piece of `S8x512` tiling it. -/
theorem scover0_A_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) (y : S8x512.Idx) :
    ∃ pc ∈ (kernelRun0_A c i arg1 harg1 arg2 harg2 arg3 harg3 arg4 harg4 arg5 harg5 arg6 harg6 arg7 harg7 arg8 harg8 hc0 hc1 hc2 x0 x1 x2).2.2.2.2.1, y ∈ pc.1.set :=
  View.cover_of_tiledL (kernelRun0_A c i arg1 harg1 arg2 harg2 arg3 harg3 arg4 harg4 arg5 harg5 arg6 harg6 arg7 harg7 arg8 harg8 hc0 hc1 hc2 x0 x1 x2).2.2.2.2.1 S8x512.size (by sl_kernel_rfl) y

/-- What case A leaves in scratch `arg8`: its pieces read back over junk. -/
def sout0_A_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : cond0_1 i) (hc2 : ¬cond0_2 i)
    (x0 : Vec F S1x256x256 .bf16) (x1 : Vec F S1x2x8192x128 .bf16) (x2 : Vec F S1x2x64x8192 .bf16) : Vec F S8x512 .f32 :=
  VS0_3.read (Elt F) (VS0_3.writes (Elt F) VS0_3.junk (kernelRun0_A c i arg1 harg1 arg2 harg2 arg3 harg3 arg4 harg4 arg5 harg5 arg6 harg6 arg7 harg7 arg8 harg8 hc0 hc1 hc2 x0 x1 x2).2.2.2.2.1)

/-- Case B's pieces for output 3 tile its block (one store of `S1x256x128`), so they cover it. -/
theorem cover0_B_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) (y : S1x256x128.Idx) :
    ∃ pc ∈ (kernelRun0_B c i arg1 harg1 arg2 harg2 arg3 harg3 arg4 harg4 arg5 harg5 arg6 harg6 arg7 harg7 arg8 harg8 hc0 hc1 hc2 x0 x1 x2 xs0 xs2).1, y ∈ pc.1.set :=
  View.cover_of_tiledL (kernelRun0_B c i arg1 harg1 arg2 harg2 arg3 harg3 arg4 harg4 arg5 harg5 arg6 harg6 arg7 harg7 arg8 harg8 hc0 hc1 hc2 x0 x1 x2 xs0 xs2).1 S1x256x128.size (by sl_kernel_rfl) y

/-- What case B leaves in output 3's staging buffer: its pieces read back over junk. -/
def out0_B_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) : Vec F S1x256x128 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 hc1 hc2 x0 x1 x2 xs0 xs2).1)

/-- Case B stores nothing into scratch `arg5`: it holds what the point before left. -/
def sout0_B_0 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) : Vec F S32x256x512 .f32 := xs0

/-- Case B's pieces for scratch `arg6`, which the kernel carries between points, cover it: 32 pieces of `S1x256x512` tiling it. -/
theorem scover0_B_1 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) (y : S32x256x512.Idx) :
    ∃ pc ∈ (kernelRun0_B c i arg1 harg1 arg2 harg2 arg3 harg3 arg4 harg4 arg5 harg5 arg6 harg6 arg7 harg7 arg8 harg8 hc0 hc1 hc2 x0 x1 x2 xs0 xs2).2.2.1, y ∈ pc.1.set :=
  View.cover_of_tiledL (kernelRun0_B c i arg1 harg1 arg2 harg2 arg3 harg3 arg4 harg4 arg5 harg5 arg6 harg6 arg7 harg7 arg8 harg8 hc0 hc1 hc2 x0 x1 x2 xs0 xs2).2.2.1 S1x256x512.size (by sl_kernel_rfl) y

/-- What case B leaves in scratch `arg6`: its pieces read back over junk. -/
def sout0_B_1 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) : Vec F S32x256x512 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 hc2 x0 x1 x2 xs0 xs2).2.2.1)

/-- Case B stores nothing into scratch `arg7`: it holds what the point before left. -/
def sout0_B_2 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) : Vec F S8x512 .f32 := xs2

/-- Case B's pieces for scratch `arg8`, which the kernel carries between points, cover it: 1 piece of `S8x512` tiling it. -/
theorem scover0_B_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) (y : S8x512.Idx) :
    ∃ pc ∈ (kernelRun0_B c i arg1 harg1 arg2 harg2 arg3 harg3 arg4 harg4 arg5 harg5 arg6 harg6 arg7 harg7 arg8 harg8 hc0 hc1 hc2 x0 x1 x2 xs0 xs2).2.2.2.2.1, y ∈ pc.1.set :=
  View.cover_of_tiledL (kernelRun0_B c i arg1 harg1 arg2 harg2 arg3 harg3 arg4 harg4 arg5 harg5 arg6 harg6 arg7 harg7 arg8 harg8 hc0 hc1 hc2 x0 x1 x2 xs0 xs2).2.2.2.2.1 S8x512.size (by sl_kernel_rfl) y

/-- What case B leaves in scratch `arg8`: its pieces read back over junk. -/
def sout0_B_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (hc2 : cond0_2 i)
    (x0 : Vec F S1x256x256 .bf16) (x1 : Vec F S1x2x8192x128 .bf16) (x2 : Vec F S1x2x64x8192 .bf16) (xs0 : Vec F S32x256x512 .f32) (xs2 : Vec F S8x512 .f32) : Vec F S8x512 .f32 :=
  VS0_3.read (Elt F) (VS0_3.writes (Elt F) VS0_3.junk (kernelRun0_B c i arg1 harg1 arg2 harg2 arg3 harg3 arg4 harg4 arg5 harg5 arg6 harg6 arg7 harg7 arg8 harg8 hc0 hc1 hc2 x0 x1 x2 xs0 xs2).2.2.2.2.1)

/-- Case C's pieces for output 3 tile its block (one store of `S1x256x128`), so they cover it. -/
theorem cover0_C_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) (y : S1x256x128.Idx) :
    ∃ pc ∈ (kernelRun0_C c i arg1 harg1 arg2 harg2 arg3 harg3 arg4 harg4 arg5 harg5 arg6 harg6 arg7 harg7 arg8 harg8 hc0 hc1 hc2 x0 x1 x2 xs1 xs3).1, y ∈ pc.1.set :=
  View.cover_of_tiledL (kernelRun0_C c i arg1 harg1 arg2 harg2 arg3 harg3 arg4 harg4 arg5 harg5 arg6 harg6 arg7 harg7 arg8 harg8 hc0 hc1 hc2 x0 x1 x2 xs1 xs3).1 S1x256x128.size (by sl_kernel_rfl) y

/-- What case C leaves in output 3's staging buffer: its pieces read back over junk. -/
def out0_C_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) : Vec F S1x256x128 .bf16 :=
  VO0_3.read (Elt F) (VO0_3.writes (Elt F) VO0_3.junk (kernelRun0_C c i arg1 harg1 arg2 harg2 arg3 harg3 arg4 harg4 arg5 harg5 arg6 harg6 arg7 harg7 arg8 harg8 hc0 hc1 hc2 x0 x1 x2 xs1 xs3).1)

/-- Case C's pieces for scratch `arg5`, which the kernel carries between points, cover it: 32 pieces of `S1x256x512` tiling it. -/
theorem scover0_C_0 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) (y : S32x256x512.Idx) :
    ∃ pc ∈ (kernelRun0_C c i arg1 harg1 arg2 harg2 arg3 harg3 arg4 harg4 arg5 harg5 arg6 harg6 arg7 harg7 arg8 harg8 hc0 hc1 hc2 x0 x1 x2 xs1 xs3).2.1, y ∈ pc.1.set :=
  View.cover_of_tiledL (kernelRun0_C c i arg1 harg1 arg2 harg2 arg3 harg3 arg4 harg4 arg5 harg5 arg6 harg6 arg7 harg7 arg8 harg8 hc0 hc1 hc2 x0 x1 x2 xs1 xs3).2.1 S1x256x512.size (by sl_kernel_rfl) y

/-- What case C leaves in scratch `arg5`: its pieces read back over junk. -/
def sout0_C_0 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) : Vec F S32x256x512 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 hc2 x0 x1 x2 xs1 xs3).2.1)

/-- Case C stores nothing into scratch `arg6`: it holds what the point before left. -/
def sout0_C_1 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) : Vec F S32x256x512 .f32 := xs1

/-- Case C's pieces for scratch `arg7`, which the kernel carries between points, cover it: 1 piece of `S8x512` tiling it. -/
theorem scover0_C_2 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) (y : S8x512.Idx) :
    ∃ pc ∈ (kernelRun0_C c i arg1 harg1 arg2 harg2 arg3 harg3 arg4 harg4 arg5 harg5 arg6 harg6 arg7 harg7 arg8 harg8 hc0 hc1 hc2 x0 x1 x2 xs1 xs3).2.2.2.1, y ∈ pc.1.set :=
  View.cover_of_tiledL (kernelRun0_C c i arg1 harg1 arg2 harg2 arg3 harg3 arg4 harg4 arg5 harg5 arg6 harg6 arg7 harg7 arg8 harg8 hc0 hc1 hc2 x0 x1 x2 xs1 xs3).2.2.2.1 S8x512.size (by sl_kernel_rfl) y

/-- What case C leaves in scratch `arg7`: its pieces read back over junk. -/
def sout0_C_2 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) : Vec F S8x512 .f32 :=
  VS0_2.read (Elt F) (VS0_2.writes (Elt F) VS0_2.junk (kernelRun0_C c i arg1 harg1 arg2 harg2 arg3 harg3 arg4 harg4 arg5 harg5 arg6 harg6 arg7 harg7 arg8 harg8 hc0 hc1 hc2 x0 x1 x2 xs1 xs3).2.2.2.1)

/-- Case C stores nothing into scratch `arg8`: it holds what the point before left. -/
def sout0_C_3 (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (hc2 : ¬cond0_2 i)
    (x0 : Vec F S1x256x256 .bf16) (x1 : Vec F S1x2x8192x128 .bf16) (x2 : Vec F S1x2x64x8192 .bf16) (xs1 : Vec F S32x256x512 .f32) (xs3 : Vec F S8x512 .f32) : Vec F S8x512 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x128 .bf16 × Vec F S32x256x512 .f32 × Vec F S32x256x512 .f32 × Vec F S8x512 .f32 × Vec F S8x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩))
  | n + 1, hn =>
    if h0 : (n + 1) % 129 = 0 then
      if h1 : (n + 1) % 2 = 0 then
        if h2 : (n + 1) % 2 = 1 then
          False.elim (by have hN : n + 1 < 129 := lt_of_lt_of_eq hn (show cfg0.N = 129 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩))
      else
        False.elim (by have hN : n + 1 < 129 := lt_of_lt_of_eq hn (show cfg0.N = 129 from N_0); omega)
    else
      if h1 : (n + 1) % 2 = 0 then
        if h2 : (n + 1) % 2 = 1 then
          False.elim (by have hN : n + 1 < 129 := lt_of_lt_of_eq hn (show cfg0.N = 129 from N_0); omega)
        else
          (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.2)
      else
        if h2 : (n + 1) % 2 = 1 then
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.2.1)
        else
          False.elim (by have hN : n + 1 < 129 := lt_of_lt_of_eq hn (show cfg0.N = 129 from N_0); omega)

/-- `outsAt0` at a point of case A: that case's contents. -/
theorem outsAt0_A (c : Dev nD) (t : Fin cfg0.N) (h0 : t.val % 129 = 0) (h1 : t.val % 2 = 0) (h2 : ¬t.val % 2 = 1) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t), sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 129 = 0) (h1 : ¬t.val % 2 = 0) (h2 : t.val % 2 = 1) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 129 = 0) (h1 : t.val % 2 = 0) (h2 : ¬t.val % 2 = 1) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 129 := lt_of_lt_of_eq t.isLt (show cfg0.N = 129 from N_0)
  by_cases h0 : t.val % 129 = 0
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_A t ((hcond0_0 t).mpr h0) ((hcond0_1 t).mpr h1) (fun h => h2 ((hcond0_2 t).mp h))], after0_3]
        by_cases hz : t.val = 0
        · rw [PhiS_castSucc m c t, PhiS_zero m c _ _ hz, PhiA0_eq]
          rw [outsAt0_A m c t h0 h1 h2]
          unfold out0_A_3 sout0_A_0 sout0_A_1 sout0_A_2 sout0_A_3; (try dsimp only)
          iintro ⟨⟨⟨HS0, HS1, HS2, HS3⟩, Hg⟩, Ho, ⟨%d0, H0⟩, ⟨%d1, H1⟩, ⟨%d2, H2⟩, ⟨%d3, H3⟩⟩
          iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t)).2.2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          isplitl [HS3]; · iexact HS3
          iintro ⟨H0, H1, H2, ⟨%e3, H3⟩, ⟨%es0, HS0⟩, ⟨%es1, HS1⟩, ⟨%es2, HS2⟩, ⟨%es3, HS3⟩⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _)
              unfold owns; iexists _; isplitr
              swap; · iexact HS3
              ipureintro; exact View.read_writes_of_cover _ _ _ _ _ (scover0_A_3 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_A_3 c _ _ _ _ _ _ _ _ _ _ _ _ _ _ _ _ _ _ _ _ _ _ _)
        · exfalso; have hN : t.val < 129 := lt_of_lt_of_eq t.isLt (show cfg0.N = 129 from N_0); omega
    · exfalso; omega
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1) (fun h => h2 ((hcond0_2 t).mp h))], after0_3]
        by_cases hz : t.val = 0
        · exfalso; have hN : t.val < 129 := lt_of_lt_of_eq t.isLt (show cfg0.N = 129 from N_0); omega
        · rw [PhiS_castSucc m c t, PhiS_pos m c _ _ hz]
          rw [outsAt0_C m c t h0 h1 h2]
          unfold out0_C_3 sout0_C_0 sout0_C_1 sout0_C_2 sout0_C_3; (try dsimp only)
          iintro ⟨⟨⟨HS0, HS1, HS2, HS3⟩, Hg⟩, Ho, ⟨%d0, H0⟩, ⟨%d1, H1⟩, ⟨%d2, H2⟩, ⟨%d3, H3⟩⟩
          iapply ((kernelRun0_C c (grid0.coords t) _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) _ _).2.2.2.2.2 Set.univ _)
          isplitl [H0]; · iexact H0
          isplitl [H1]; · iexact H1
          isplitl [H2]; · iexact H2
          isplitl [H3]; · iexists _; iexact H3
          isplitl [HS0]; · iexists _; iexact HS0
          isplitl [HS1]; · iexact HS1
          isplitl [HS2]; · iexists _; iexact HS2
          isplitl [HS3]; · iexact HS3
          iintro ⟨H0, H1, H2, ⟨%e3, H3⟩, ⟨%es0, HS0⟩, HS1, ⟨%es2, HS2⟩, HS3⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _)
              isplitl [HS1]
              · iexact HS1
              isplitl [HS2]
              · unfold owns; iexists _; isplitr
                swap; · iexact HS2
                ipureintro; exact View.read_writes_of_cover _ _ _ _ _ (scover0_C_2 c _ _ _ _ _ _ _ _ _ _ _ _ _ _ _ _ _ _ _ _ _ _ _ _ _)
              iexact HS3
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_C_3 c _ _ _ _ _ _ _ _ _ _ _ _ _ _ _ _ _ _ _ _ _ _ _ _ _)
    · by_cases h2 : t.val % 2 = 1
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_B t (fun h => h0 ((hcond0_0 t).mp h)) (fun h => h1 ((hcond0_1 t).mp h)) ((hcond0_2 t).mpr h2)], after0_3]
        by_cases hz : t.val = 0
        · exfalso; have hN : t.val < 129 := lt_of_lt_of_eq t.isLt (show cfg0.N = 129 from N_0); omega
        · rw [PhiS_castSucc m c t, PhiS_pos m c _ _ hz]
          rw [outsAt0_B m c t h0 h1 h2]
          unfold out0_B_3 sout0_B_0 sout0_B_1 sout0_B_2 sout0_B_3; (try dsimp only)
          iintro ⟨⟨⟨HS0, HS1, HS2, HS3⟩, Hg⟩, Ho, ⟨%d0, H0⟩, ⟨%d1, H1⟩, ⟨%d2, H2⟩, ⟨%d3, H3⟩⟩
          iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) _ _).2.2.2.2.2 Set.univ _)
          isplitl [H0]; · iexact H0
          isplitl [H1]; · iexact H1
          isplitl [H2]; · iexact H2
          isplitl [H3]; · iexists _; iexact H3
          isplitl [HS0]; · iexact HS0
          isplitl [HS1]; · iexists _; iexact HS1
          isplitl [HS2]; · iexact HS2
          isplitl [HS3]; · iexists _; iexact HS3
          iintro ⟨H0, H1, H2, ⟨%e3, H3⟩, HS0, ⟨%es1, HS1⟩, HS2, ⟨%es3, HS3⟩⟩
          isplitl [HS0 HS1 HS2 HS3 Hg]
          · isplitl [HS0 HS1 HS2 HS3]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _)
              isplitl [HS2]
              · iexact HS2
              unfold owns; iexists _; isplitr
              swap; · iexact HS3
              ipureintro; exact View.read_writes_of_cover _ _ _ _ _ (scover0_B_3 c _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_B_3 c _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 129 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel2Ideal.Steps

end
-- ==== Proof.MlaValueI.lean ====
module

public import proofs.«01_k».proof.Proof.MlaFrameI
public import Idealize.ShloMosaic.Lib.Pipeline.Value

@[expose] public section
/-!
  The result of the latent attention after the run, block by block.
-/

noncomputable section

namespace Cert.Kernel2Ideal.Blocks

open Cert.Kernel2Ideal Cert.Kernel2Ideal.Gen Cert.Kernel2Ideal.Steps Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 129 = 0) (h1 : t.val % 2 = 0) (h2 : ¬t.val % 2 = 1) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t)) := by
  simp only [flushed3, outsAt0_A m c t h0 h1 h2]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 129 = 0) (h1 : ¬t.val % 2 = 0) (h2 : t.val % 2 = 1) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1) := by
  simp only [flushed3, outsAt0_B m c t h0 h1 h2]

/-- … so at a point where case C runs, what its write-back would write is that case's NAMED TERM for the window (`Gen.out0_C_3`: the pieces
    its run found, read back) at the point's memrefs and input blocks, and for an output the case reads back what the point before left (`Gen.outsAt0` at `t - 1`) — by the frame's rewriting lemma for the case. -/
theorem flushed3_C (c : Dev nD) (t : Fin cfg0.N) (h0 : ¬t.val % 129 = 0) (h1 : t.val % 2 = 0) (h2 : ¬t.val % 2 = 1) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2) := by
  simp only [flushed3, outsAt0_C m c t h0 h1 h2]

/-- An index that no flushing point's block covers keeps output window 3's array contents at region entry. -/
theorem entry3 (c : Dev nD) (i : S2x8192x256.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.Kernel2Ideal.Blocks

end
-- ==== Proof.Chain.lean ====
module
public import proofs.«01_k».proof.Proof.Gen.KernelIdeal.Skeleton
public import Idealize.ShloMosaic.Lib.Pointwise
public import Idealize.ShloMosaic.Lib.Pipeline.Value
@[expose] public section
/-!
  The words in which one step of the attention kernel is told, over any arithmetic: 32 chunks of 256 keys are taken
  one after another, 512 query columns wide. A step reads the scores an earlier step left (`S`) and their maxima (`M`).
-/
set_option maxRecDepth 16384

namespace Cert.Attn

open Idealize.ShloMosaic Cert.KernelIdeal Cert.KernelIdeal.Gen

variable {F : FTy → Type} [FloatOps F]

/-- `f 0`, `f 1`, …, `f (n-1)` applied in turn to `z`. -/
def chain {α : Type} (N : ℕ) (z : α) (f : (c : ℕ) → c < N → α → α) (n : ℕ) : n ≤ N → α :=
  Nat.rec (motive := fun n => n ≤ N → α) (fun _ => z) (fun c ih h => f c h (ih (Nat.le_of_succ_le h))) n

theorem chain_zero {α : Type} (N : ℕ) (z : α) (f : (c : ℕ) → c < N → α → α) (h : 0 ≤ N) : chain N z f 0 h = z := rfl

theorem chain_succ {α : Type} (N : ℕ) (z : α) (f : (c : ℕ) → c < N → α → α) (n : ℕ) (h : n + 1 ≤ N) :
    chain N z f (n + 1) h = f n h (chain N z f n (Nat.le_of_succ_le h)) := rfl

theorem inb_chunk (c : ℕ) (h : c < 32) : ∀ a, (![c, 0, 0] : Fin 3 → ℕ) a + S1x256x512.size a ≤ S32x256x512.size a := by
  intro a; fin_cases a
  · show c + 1 ≤ 32; omega
  · show 0 + 256 ≤ 256; omega
  · show 0 + 512 ≤ 512; omega

/-- Chunk `c` of the stored scores. -/
noncomputable def chunk (S : Vec F S32x256x512 .f32) (c : ℕ) (h : c < 32) : FVec F S256x512 .f32 :=
  shapeCast S256x512 (View.ld S (Rect.unit (s := S32x256x512) ![c, 0, 0] S1x256x512.size (inb_chunk c h)) : Vec F S1x256x512 .f32)
    shapeCasts_S1x256x512_S256x512

/-- The shift of every column: the largest of its eight stored maxima. -/
noncomputable def shift (M : Vec F S8x512 .f32) : FVec F S1x512 .f32 :=
  shapeCast S1x512 (multiReduction .maximumf [0] S512 M 0xFF800000#32 reduces_S8x512_S512 (.inl rfl) rfl : FVec F S512 .f32)
    shapeCasts_S512_S1x512

/-- The weights of chunk `c`: the power of two of the shifted scores. -/
noncomputable def weight (S : Vec F S32x256x512 .f32) (M : Vec F S8x512 .f32) (c : ℕ) (h : c < 32) : FVec F S256x512 .f32 :=
  exp2 (subf (chunk S c h) (broadcastTo S256x512 (shift M) broadcasts_S1x512_S256x512))

/-- The weights' sums over the keys of one residue mod 8. -/
noncomputable def sums (S : Vec F S32x256x512 .f32) (M : Vec F S8x512 .f32) : FVec F S8x512 .f32 :=
  chain 32 (broadcast S8x512 (Scalar.ofBits .f32 0x00000000#32 : F .f32))
    (fun c h a => addf a (multiReduction .add [0] S8x512 (shapeCast S32x8x512 (weight S M c h) shapeCasts_S256x512_S32x8x512 : FVec F S32x8x512 .f32)
      0x00000000#32 reduces_S32x8x512_S8x512 (.inl rfl) rfl)) 32 (Nat.le_refl 32)

/-- The weights' sum of every column, once for each of 64 rows. -/
noncomputable def total (S : Vec F S32x256x512 .f32) (M : Vec F S8x512 .f32) : FVec F S64x512 .f32 :=
  broadcastTo S64x512
    (shapeCast S1x512 (multiReduction .add [0] S512 (sums S M) 0x00000000#32 reduces_S8x512_S512 (.inl rfl) rfl : FVec F S512 .f32)
      shapeCasts_S512_S1x512 : FVec F S1x512 .f32) broadcasts_S1x512_S64x512

/-- The maxima of a score family over the keys of one residue mod 8. -/
noncomputable def maxima (T : (c : ℕ) → c < 32 → FVec F S256x512 .f32) : FVec F S8x512 .f32 :=
  chain 32 (broadcast S8x512 (Scalar.ofBits .f32 0xFF800000#32 : F .f32))
    (fun c h a => maximumf a (multiReduction .maximumf [0] S8x512 (shapeCast S32x8x512 (T c h) shapeCasts_S256x512_S32x8x512 : FVec F S32x8x512 .f32)
      0xFF800000#32 reduces_S32x8x512_S8x512 (.inl rfl) rfl)) 32 (Nat.le_refl 32)

/-- What a step leaves of its score family in the scratch. -/
noncomputable def stored (T : (c : ℕ) → c < 32 → FVec F S256x512 .f32) : Vec F S32x256x512 .f32 :=
  fun j => T (j 0).val (j 0).isLt (ix2 (j 1) (j 2))

/-- The store of chunk `c` of a score family. -/
noncomputable def store (T : (c : ℕ) → c < 32 → FVec F S256x512 .f32) (c : ℕ) (h : c < 32) : View.Piece (Elt F) S32x256x512 .f32 :=
  ⟨Rect.unit (s := S32x256x512) ![c, 0, 0] S1x256x512.size (inb_chunk c h),
    (shapeCast S1x256x512 (T c h) shapeCasts_S256x512_S1x256x512 : FVec F S1x256x512 .f32)⟩

/-- The first `n` stores, the last first. -/
noncomputable def stores (T : (c : ℕ) → c < 32 → FVec F S256x512 .f32) (n : ℕ) (h : n ≤ 32) : List (View.Piece (Elt F) S32x256x512 .f32) :=
  chain 32 [] (fun c h l => store T c h :: l) n h

theorem family_congr (T : (c : ℕ) → c < 32 → FVec F S256x512 .f32) {c c' : ℕ} (h : c < 32) (h' : c' < 32)
    {j j' : S256x512.Idx} (hc : c = c') (hj : j = j') : T c h j = T c' h' j' := by
  subst hc; subst hj; rfl

theorem store_apply (T : (c : ℕ) → c < 32 → FVec F S256x512 .f32) (c : ℕ) (h : c < 32)
    (x : (store T c h).1.shape.Idx) : (store T c h).2 x = stored T ((store T c h).1.emb x) := by
  have e : (store T c h).2 x = T c h (ix2 (x 1) (x 2)) := by
    show (shapeCast S1x256x512 (T c h) shapeCasts_S256x512_S1x256x512 : FVec F S1x256x512 .f32) x = _
    pointwise
  rw [e]
  refine family_congr T h _ ?_ ?_
  · show c = c + 1 * (x 0).val
    have : (x 0).val < 1 := (x 0).isLt
    omega
  · funext a
    fin_cases a
    · exact Fin.ext (by show (x 1).val = 0 + 1 * (x 1).val; omega)
    · exact Fin.ext (by show (x 2).val = 0 + 1 * (x 2).val; omega)

theorem stores_apply (T : (c : ℕ) → c < 32 → FVec F S256x512 .f32) : ∀ (n : ℕ) (h : n ≤ 32), ∀ p ∈ stores T n h,
    ∀ x : p.1.shape.Idx, p.2 x = stored T (p.1.emb x)
  | 0, _, p, hp, _ => absurd hp (List.not_mem_nil)
  | n + 1, h, p, hp, x => by
    rcases List.mem_cons.mp (show p ∈ store T n h :: stores T n (Nat.le_of_succ_le h) from hp) with rfl | hp
    · exact store_apply T n h x
    · exact stores_apply T n (Nat.le_of_succ_le h) p hp x

/-- The 32 stores together leave the score family. -/
theorem canon_stores (T : (c : ℕ) → c < 32 → FVec F S256x512 .f32) (L : List (View.Piece (Elt F) S32x256x512 .f32))
    (hL : L = stores T 32 (Nat.le_refl 32)) (hc : ∀ y, ∃ p ∈ L, y ∈ p.1.set) : View.canon L = stored T :=
  funext fun y => View.canon_apply_of_pieces (stored T) L (fun p hp => stores_apply T 32 (Nat.le_refl 32) p (hL ▸ hp)) y (hc y)

end Cert.Attn

end
-- ==== Proof.GqaWords.lean ====
module
public import proofs.«01_k».proof.Proof.Chain
public import proofs.«01_k».proof.Proof.Gen.KernelIdeal.Frame
@[expose] public section
/-!
  One step of the grouped attention in the words of `Chain`: what it stores of its own block's scores and what it
  finishes of the block before.
-/
set_option maxRecDepth 16384

namespace Cert.Attn.Gqa

open Idealize.ShloMosaic Idealize.ShloMosaic.TcCoe Idealize.ShloMosaic.Tactic Cert.KernelIdeal Cert.KernelIdeal.Gen

variable {F : FTy → Type} [FloatOps F]

theorem inb_key (c : ℕ) (h : c < 32) :
    ∀ a, (![0, 0, 256 * c, 0] : Fin 4 → ℕ) a + S1x1x256x64.size a ≤ S1x1x8192x128.size a := by
  intro a; fin_cases a
  · show 0 + 1 ≤ 1; omega
  · show 0 + 1 ≤ 1; omega
  · show 256 * c + 256 ≤ 8192; omega
  · show 0 + 64 ≤ 128; omega

theorem inb_val (c : ℕ) (h : c < 32) :
    ∀ a, (![0, 0, 0, 256 * c] : Fin 4 → ℕ) a + S1x1x64x256.size a ≤ S1x1x64x8192.size a := by
  intro a; fin_cases a
  · show 0 + 1 ≤ 1; omega
  · show 0 + 1 ≤ 1; omega
  · show 0 + 64 ≤ 64; omega
  · show 256 * c + 256 ≤ 8192; omega

/-- The four heads' queries of a block side by side. -/
noncomputable def queries (x0 : Vec F S1x256x128 .bf16) : FVec F S64x512 .bf16 :=
  k0_pay5 (View.ld x0 (Rect.unit (s := S1x256x128) ![0, 0, 0] S1x64x128.size inb_S1x256x128_S1x64x128_0_0_0))
    (View.ld x0 (Rect.unit (s := S1x256x128) ![0, 64, 0] S1x64x128.size inb_S1x256x128_S1x64x128_0_64_0))
    (View.ld x0 (Rect.unit (s := S1x256x128) ![0, 128, 0] S1x64x128.size inb_S1x256x128_S1x64x128_0_128_0))
    (View.ld x0 (Rect.unit (s := S1x256x128) ![0, 192, 0] S1x64x128.size inb_S1x256x128_S1x64x128_0_192_0))

/-- Chunk `c` of the keys. -/
noncomputable def keys (x1 : Vec F S1x1x8192x128 .bf16) (c : ℕ) (h : c < 32) : FVec F S256x64 .bf16 :=
  shapeCast S256x64 (View.ld x1 (Rect.unit (s := S1x1x8192x128) ![0, 0, 256 * c, 0] S1x1x256x64.size (inb_key c h)) : Vec F S1x1x256x64 .bf16)
    shapeCasts_S1x1x256x64_S256x64

/-- Chunk `c` of the values. -/
noncomputable def values (x2 : Vec F S1x1x64x8192 .bf16) (c : ℕ) (h : c < 32) : FVec F S64x256 .bf16 :=
  shapeCast S64x256 (View.ld x2 (Rect.unit (s := S1x1x64x8192) ![0, 0, 0, 256 * c] S1x1x64x256.size (inb_val c h)) : Vec F S1x1x64x256 .bf16)
    shapeCasts_S1x1x64x256_S64x256

/-- The scores of chunk `c`. -/
noncomputable def scores (x0 : Vec F S1x256x128 .bf16) (x1 : Vec F S1x1x8192x128 .bf16) (c : ℕ) (h : c < 32) : FVec F S256x512 .f32 :=
  matmul dot_S256x64_S64x512_S256x512_1_0_0_1_n_n none (keys x1 c h) (queries x0) (constant S256x512 .f32 0x00000000#32)

/-- The weighted sum of the values. -/
noncomputable def mixed (x2 : Vec F S1x1x64x8192 .bf16) (S : Vec F S32x256x512 .f32) (M : Vec F S8x512 .f32) : FVec F S64x512 .f32 :=
  chain 32 (broadcast S64x512 (Scalar.ofBits .f32 0x00000000#32 : F .f32))
    (fun c h a => addf a (matmul dot_S64x256_S256x512_S64x512_1_0_0_1_n_n none (values x2 c h)
      (truncf .bf16 (weight S M c h) bitsLt_bf16_f32) (constant S64x512 .f32 0x00000000#32))) 32 (Nat.le_refl 32)

/-- The finished block, a head under another, before it is laid out. -/
noncomputable def finished (x2 : Vec F S1x1x64x8192 .bf16) (S : Vec F S32x256x512 .f32) (M : Vec F S8x512 .f32) : FVec F S64x512 .f32 :=
  divf (mixed x2 S M) (total S M)

/-- The finished block as it is written. -/
noncomputable def block (x2 : Vec F S1x1x64x8192 .bf16) (S : Vec F S32x256x512 .f32) (M : Vec F S8x512 .f32) : FVec F S1x128x256 .bf16 :=
  k0_pay3 (finished x2 S M) (extractStridedSlice S64x128 ![0, 0] (finished x2 S M) slices_S64x512_o0_0_S64x128)
    (extractStridedSlice S64x128 ![0, 128] (finished x2 S M) slices_S64x512_o0_128_S64x128)

/-- A load of all the maxima reads them. -/
theorem ld_whole (M : Vec F S8x512 .f32) (h : ∀ a, (![0, 0] : Fin 2 → ℕ) a + S8x512.size a ≤ S8x512.size a) :
    View.ld M (Rect.unit (s := S8x512) ![0, 0] S8x512.size h) = M :=
  View.ld_unit_zero (by decide) h M

end Cert.Attn.Gqa
end
-- ==== Proof.GqaKernel.lean ====
module
public import proofs.«01_k».proof.Proof.GqaWords
public import proofs.«01_k».proof.Proof.Gen.KernelIdeal.Frame
@[expose] public section
/-!
  One step of the grouped attention in the words of `Chain`: what it stores of its own block's scores and what it
  finishes of the block before.
-/
set_option maxRecDepth 16384

namespace Cert.Attn.Gqa

open Idealize.ShloMosaic Idealize.ShloMosaic.TcCoe Idealize.ShloMosaic.Tactic Cert.KernelIdeal Cert.KernelIdeal.Gen

variable {F : FTy → Type} [FloatOps F]

section Bridge

variable (c : Dev nD) (i : grid0.Coords) (arg1 : Memref sig .tc .vmem S1x256x128 .bf16) (harg1 : arg1.IsWhole) (arg2 : Memref sig .tc .vmem S1x1x8192x128 .bf16) (harg2 : arg2.IsWhole) (arg3 : Memref sig .tc .vmem S1x1x64x8192 .bf16) (harg3 : arg3.IsWhole) (arg4 : Memref sig .tc .vmem S1x128x256 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole)
  (x0 : Vec F S1x256x128 .bf16) (x1 : Vec F S1x1x8192x128 .bf16) (x2 : Vec F S1x1x64x8192 .bf16) (xs0 xs1 : Vec F S32x256x512 .f32) (xs2 xs3 : Vec F S8x512 .f32)

theorem out_B (hc0 : ¬cond0_0 i) (hc1 : ¬cond0_1 i) (hc2 : cond0_2 i) :
    out0_B_3 c i arg1 harg1 arg2 harg2 arg3 harg3 arg4 harg4 arg5 harg5 arg6 harg6 arg7 harg7 arg8 harg8 hc0 hc1 hc2 x0 x1 x2 xs0 xs2
      = block x2 xs0 xs2 := by
  unfold out0_B_3
  rw [View.read_writes_eq_canon _ _ _ (cover0_B_3 c i arg1 harg1 arg2 harg2 arg3 harg3 arg4 harg4 arg5 harg5 arg6 harg6 arg7 harg7 arg8 harg8 hc0 hc1 hc2 x0 x1 x2 xs0 xs2)]
  unfold kernelRun0_B
  dsimp only
  sl_unfold_words
  simp only [View.readAt_eq_ld, harg1.read_unread, harg2.read_unread, harg3.read_unread, harg5.read_unread, harg6.read_unread, harg7.read_unread, harg8.read_unread]
  rw [View.canon_unit_zero (by decide), ld_whole]
  sl_kernel_rfl

theorem out_C (hc0 : ¬cond0_0 i) (hc1 : cond0_1 i) (hc2 : ¬cond0_2 i) :
    out0_C_3 c i arg1 harg1 arg2 harg2 arg3 harg3 arg4 harg4 arg5 harg5 arg6 harg6 arg7 harg7 arg8 harg8 hc0 hc1 hc2 x0 x1 x2 xs1 xs3
      = block x2 xs1 xs3 := by
  unfold out0_C_3
  rw [View.read_writes_eq_canon _ _ _ (cover0_C_3 c i arg1 harg1 arg2 harg2 arg3 harg3 arg4 harg4 arg5 harg5 arg6 harg6 arg7 harg7 arg8 harg8 hc0 hc1 hc2 x0 x1 x2 xs1 xs3)]
  unfold kernelRun0_C
  dsimp only
  sl_unfold_words
  simp only [View.readAt_eq_ld, harg1.read_unread, harg2.read_unread, harg3.read_unread, harg5.read_unread, harg6.read_unread, harg7.read_unread, harg8.read_unread]
  rw [View.canon_unit_zero (by decide), ld_whole]
  sl_kernel_rfl

theorem stored_A (hc0 : cond0_0 i) (hc1 : cond0_1 i) (hc2 : ¬cond0_2 i) :
    sout0_A_0 c i arg1 harg1 arg2 harg2 arg3 harg3 arg4 harg4 arg5 harg5 arg6 harg6 arg7 harg7 arg8 harg8 hc0 hc1 hc2 x0 x1 x2
      = stored (scores x0 x1) := by
  unfold sout0_A_0
  rw [View.read_writes_eq_canon _ _ _ (scover0_A_0 c i arg1 harg1 arg2 harg2 arg3 harg3 arg4 harg4 arg5 harg5 arg6 harg6 arg7 harg7 arg8 harg8 hc0 hc1 hc2 x0 x1 x2)]
  refine canon_stores (scores x0 x1) _ ?_ (scover0_A_0 c i arg1 harg1 arg2 harg2 arg3 harg3 arg4 harg4 arg5 harg5 arg6 harg6 arg7 harg7 arg8 harg8 hc0 hc1 hc2 x0 x1 x2)
  unfold kernelRun0_A
  dsimp only
  sl_unfold_words
  simp only [View.readAt_eq_ld, harg1.read_unread, harg2.read_unread, harg3.read_unread, harg5.read_unread, harg6.read_unread, harg7.read_unread, harg8.read_unread]
  sl_kernel_rfl

theorem maxima_A (hc0 : cond0_0 i) (hc1 : cond0_1 i) (hc2 : ¬cond0_2 i) :
    sout0_A_2 c i arg1 harg1 arg2 harg2 arg3 harg3 arg4 harg4 arg5 harg5 arg6 harg6 arg7 harg7 arg8 harg8 hc0 hc1 hc2 x0 x1 x2
      = maxima (scores x0 x1) := by
  unfold sout0_A_2
  rw [View.read_writes_eq_canon _ _ _ (scover0_A_2 c i arg1 harg1 arg2 harg2 arg3 harg3 arg4 harg4 arg5 harg5 arg6 harg6 arg7 harg7 arg8 harg8 hc0 hc1 hc2 x0 x1 x2)]
  unfold kernelRun0_A
  dsimp only
  sl_unfold_words
  simp only [View.readAt_eq_ld, harg1.read_unread, harg2.read_unread, harg3.read_unread, harg5.read_unread, harg6.read_unread, harg7.read_unread, harg8.read_unread]
  rw [View.canon_unit_zero (by decide)]
  refine Eq.trans (b := (shapeCast S8x512 (maxima (scores x0 x1)) shapeCasts_S8x512_S8x512 : FVec F S8x512 .f32)) ?_ ?_
  · sl_kernel_rfl
  · funext j
    pointwise

theorem stored_B (hc0 : ¬cond0_0 i) (hc1 : ¬cond0_1 i) (hc2 : cond0_2 i) :
    sout0_B_1 c i arg1 harg1 arg2 harg2 arg3 harg3 arg4 harg4 arg5 harg5 arg6 harg6 arg7 harg7 arg8 harg8 hc0 hc1 hc2 x0 x1 x2 xs0 xs2
      = stored (scores x0 x1) := by
  unfold sout0_B_1
  rw [View.read_writes_eq_canon _ _ _ (scover0_B_1 c i arg1 harg1 arg2 harg2 arg3 harg3 arg4 harg4 arg5 harg5 arg6 harg6 arg7 harg7 arg8 harg8 hc0 hc1 hc2 x0 x1 x2 xs0 xs2)]
  refine canon_stores (scores x0 x1) _ ?_ (scover0_B_1 c i arg1 harg1 arg2 harg2 arg3 harg3 arg4 harg4 arg5 harg5 arg6 harg6 arg7 harg7 arg8 harg8 hc0 hc1 hc2 x0 x1 x2 xs0 xs2)
  unfold kernelRun0_B
  dsimp only
  sl_unfold_words
  simp only [View.readAt_eq_ld, harg1.read_unread, harg2.read_unread, harg3.read_unread, harg5.read_unread, harg6.read_unread, harg7.read_unread, harg8.read_unread]
  sl_kernel_rfl

theorem maxima_B (hc0 : ¬cond0_0 i) (hc1 : ¬cond0_1 i) (hc2 : cond0_2 i) :
    sout0_B_3 c i arg1 harg1 arg2 harg2 arg3 harg3 arg4 harg4 arg5 harg5 arg6 harg6 arg7 harg7 arg8 harg8 hc0 hc1 hc2 x0 x1 x2 xs0 xs2
      = maxima (scores x0 x1) := by
  unfold sout0_B_3
  rw [View.read_writes_eq_canon _ _ _ (scover0_B_3 c i arg1 harg1 arg2 harg2 arg3 harg3 arg4 harg4 arg5 harg5 arg6 harg6 arg7 harg7 arg8 harg8 hc0 hc1 hc2 x0 x1 x2 xs0 xs2)]
  unfold kernelRun0_B
  dsimp only
  sl_unfold_words
  simp only [View.readAt_eq_ld, harg1.read_unread, harg2.read_unread, harg3.read_unread, harg5.read_unread, harg6.read_unread, harg7.read_unread, harg8.read_unread]
  rw [View.canon_unit_zero (by decide)]
  refine Eq.trans (b := (shapeCast S8x512 (maxima (scores x0 x1)) shapeCasts_S8x512_S8x512 : FVec F S8x512 .f32)) ?_ ?_
  · sl_kernel_rfl
  · funext j
    pointwise

theorem stored_C (hc0 : ¬cond0_0 i) (hc1 : cond0_1 i) (hc2 : ¬cond0_2 i) :
    sout0_C_0 c i arg1 harg1 arg2 harg2 arg3 harg3 arg4 harg4 arg5 harg5 arg6 harg6 arg7 harg7 arg8 harg8 hc0 hc1 hc2 x0 x1 x2 xs1 xs3
      = stored (scores x0 x1) := by
  unfold sout0_C_0
  rw [View.read_writes_eq_canon _ _ _ (scover0_C_0 c i arg1 harg1 arg2 harg2 arg3 harg3 arg4 harg4 arg5 harg5 arg6 harg6 arg7 harg7 arg8 harg8 hc0 hc1 hc2 x0 x1 x2 xs1 xs3)]
  refine canon_stores (scores x0 x1) _ ?_ (scover0_C_0 c i arg1 harg1 arg2 harg2 arg3 harg3 arg4 harg4 arg5 harg5 arg6 harg6 arg7 harg7 arg8 harg8 hc0 hc1 hc2 x0 x1 x2 xs1 xs3)
  unfold kernelRun0_C
  dsimp only
  sl_unfold_words
  simp only [View.readAt_eq_ld, harg1.read_unread, harg2.read_unread, harg3.read_unread, harg5.read_unread, harg6.read_unread, harg7.read_unread, harg8.read_unread]
  sl_kernel_rfl

theorem maxima_C (hc0 : ¬cond0_0 i) (hc1 : cond0_1 i) (hc2 : ¬cond0_2 i) :
    sout0_C_2 c i arg1 harg1 arg2 harg2 arg3 harg3 arg4 harg4 arg5 harg5 arg6 harg6 arg7 harg7 arg8 harg8 hc0 hc1 hc2 x0 x1 x2 xs1 xs3
      = maxima (scores x0 x1) := by
  unfold sout0_C_2
  rw [View.read_writes_eq_canon _ _ _ (scover0_C_2 c i arg1 harg1 arg2 harg2 arg3 harg3 arg4 harg4 arg5 harg5 arg6 harg6 arg7 harg7 arg8 harg8 hc0 hc1 hc2 x0 x1 x2 xs1 xs3)]
  unfold kernelRun0_C
  dsimp only
  sl_unfold_words
  simp only [View.readAt_eq_ld, harg1.read_unread, harg2.read_unread, harg3.read_unread, harg5.read_unread, harg6.read_unread, harg7.read_unread, harg8.read_unread]
  rw [View.canon_unit_zero (by decide)]
  refine Eq.trans (b := (shapeCast S8x512 (maxima (scores x0 x1)) shapeCasts_S8x512_S8x512 : FVec F S8x512 .f32)) ?_ ?_
  · sl_kernel_rfl
  · funext j
    pointwise

end Bridge
end Cert.Attn.Gqa
end
-- ==== Proof.GqaPoints.lean ====
module
public import proofs.«01_k».proof.Proof.GqaKernel
@[expose] public section
/-!
  The grouped attention's points in order: a point stores its own block's scores into the scratch of its parity and
  finishes, from the other one, the block of the point before.
-/
set_option maxRecDepth 16384

namespace Cert.Attn.Gqa

open Idealize.ShloMosaic Idealize.ShloMosaic.TcCoe Cert.KernelIdeal Cert.KernelIdeal.Gen

variable {F : FTy → Type} [FloatOps F]
variable (m : (ℓ : Loc nD τ sig) → Buf (Elt F) ℓ) (c : Dev nD)

/-- The scores point `t` works out. -/
noncomputable abbrev family (t : Fin cfg0.N) : (n : ℕ) → n < 32 → FVec F S256x512 .f32 := scores (iblk m c 0 t) (iblk m c 1 t)

/-- An odd point finishes from the first pair of scratches. -/
theorem out_at_B (t : Fin cfg0.N) (h0 : ¬t.val % 257 = 0) (h1 : ¬t.val % 2 = 0) (h2 : t.val % 2 = 1) :
    (outsAt0 m c t.val t.isLt).1 = block (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 := by
  rw [outsAt0_B m c t h0 h1 h2]
  dsimp only
  exact out_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 (fun h => h0 ((hcond0_0 t).mp h)) (fun h => h1 ((hcond0_1 t).mp h)) ((hcond0_2 t).mpr h2)

/-- A later even point finishes from the second pair. -/
theorem out_at_C (t : Fin cfg0.N) (h0 : ¬t.val % 257 = 0) (h1 : t.val % 2 = 0) (h2 : ¬t.val % 2 = 1) :
    (outsAt0 m c t.val t.isLt).1 = block (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 := by
  rw [outsAt0_C m c t h0 h1 h2]
  dsimp only
  exact out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 (fun h => h0 ((hcond0_0 t).mp h)) ((hcond0_1 t).mpr h1) (fun h => h2 ((hcond0_2 t).mp h))

/-- The scores the first point leaves. -/
theorem stored_at_A (t : Fin cfg0.N) (h0 : t.val % 257 = 0) (h1 : t.val % 2 = 0) (h2 : ¬t.val % 2 = 1) :
    (outsAt0 m c t.val t.isLt).2.1 = stored (family m c t) := by
  rw [outsAt0_A m c t h0 h1 h2]
  dsimp only
  exact stored_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) ((hcond0_1 t).mpr h1) (fun h => h2 ((hcond0_2 t).mp h))

/-- The maxima the first point leaves. -/
theorem maxima_at_A (t : Fin cfg0.N) (h0 : t.val % 257 = 0) (h1 : t.val % 2 = 0) (h2 : ¬t.val % 2 = 1) :
    (outsAt0 m c t.val t.isLt).2.2.2.1 = maxima (family m c t) := by
  rw [outsAt0_A m c t h0 h1 h2]
  dsimp only
  exact maxima_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) ((hcond0_1 t).mpr h1) (fun h => h2 ((hcond0_2 t).mp h))

/-- The scores an odd point leaves. -/
theorem stored_at_B (t : Fin cfg0.N) (h0 : ¬t.val % 257 = 0) (h1 : ¬t.val % 2 = 0) (h2 : t.val % 2 = 1) :
    (outsAt0 m c t.val t.isLt).2.2.1 = stored (family m c t) := by
  rw [outsAt0_B m c t h0 h1 h2]
  dsimp only
  exact stored_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 (fun h => h0 ((hcond0_0 t).mp h)) (fun h => h1 ((hcond0_1 t).mp h)) ((hcond0_2 t).mpr h2)

/-- The maxima an odd point leaves. -/
theorem maxima_at_B (t : Fin cfg0.N) (h0 : ¬t.val % 257 = 0) (h1 : ¬t.val % 2 = 0) (h2 : t.val % 2 = 1) :
    (outsAt0 m c t.val t.isLt).2.2.2.2 = maxima (family m c t) := by
  rw [outsAt0_B m c t h0 h1 h2]
  dsimp only
  exact maxima_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 (fun h => h0 ((hcond0_0 t).mp h)) (fun h => h1 ((hcond0_1 t).mp h)) ((hcond0_2 t).mpr h2)

/-- The scores a later even point leaves. -/
theorem stored_at_C (t : Fin cfg0.N) (h0 : ¬t.val % 257 = 0) (h1 : t.val % 2 = 0) (h2 : ¬t.val % 2 = 1) :
    (outsAt0 m c t.val t.isLt).2.1 = stored (family m c t) := by
  rw [outsAt0_C m c t h0 h1 h2]
  dsimp only
  exact stored_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 (fun h => h0 ((hcond0_0 t).mp h)) ((hcond0_1 t).mpr h1) (fun h => h2 ((hcond0_2 t).mp h))

/-- The maxima a later even point leaves. -/
theorem maxima_at_C (t : Fin cfg0.N) (h0 : ¬t.val % 257 = 0) (h1 : t.val % 2 = 0) (h2 : ¬t.val % 2 = 1) :
    (outsAt0 m c t.val t.isLt).2.2.2.1 = maxima (family m c t) := by
  rw [outsAt0_C m c t h0 h1 h2]
  dsimp only
  exact maxima_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 (fun h => h0 ((hcond0_0 t).mp h)) ((hcond0_1 t).mpr h1) (fun h => h2 ((hcond0_2 t).mp h))

/-- An even point leaves its scores and their maxima in the first pair of scratches. -/
theorem left_even (t : Fin cfg0.N) (h : t.val % 2 = 0) :
    (outsAt0 m c t.val t.isLt).2.1 = stored (family m c t) ∧ (outsAt0 m c t.val t.isLt).2.2.2.1 = maxima (family m c t) := by
  by_cases h0 : t.val % 257 = 0
  · exact ⟨stored_at_A m c t h0 h (by omega), maxima_at_A m c t h0 h (by omega)⟩
  · exact ⟨stored_at_C m c t h0 h (by omega), maxima_at_C m c t h0 h (by omega)⟩

/-- An odd point leaves them in the second pair. -/
theorem left_odd (t : Fin cfg0.N) (h : t.val % 2 = 1) :
    (outsAt0 m c t.val t.isLt).2.2.1 = stored (family m c t) ∧ (outsAt0 m c t.val t.isLt).2.2.2.2 = maxima (family m c t) := by
  have hN : t.val < 257 := t.isLt
  exact ⟨stored_at_B m c t (by omega) (by omega) h, maxima_at_B m c t (by omega) (by omega) h⟩

/-- The point before. -/
def prev (t : Fin cfg0.N) : Fin cfg0.N := ⟨t.val - 1, Nat.lt_of_le_of_lt (Nat.sub_le _ _) t.isLt⟩

/-- Every point but the first finishes the block of the point before. -/
theorem finishes (t : Fin cfg0.N) (h : t.val ≠ 0) :
    (outsAt0 m c t.val t.isLt).1 = block (iblk m c 2 t) (stored (family m c (prev t))) (maxima (family m c (prev t))) := by
  have hN : t.val < 257 := t.isLt
  rcases Nat.mod_two_eq_zero_or_one t.val with hp | hp
  · obtain ⟨e1, e2⟩ := left_odd m c (prev t) (by show (t.val - 1) % 2 = 1; omega)
    rw [out_at_C m c t (by omega) hp (by omega), ← e1, ← e2]
    rfl
  · obtain ⟨e1, e2⟩ := left_even m c (prev t) (by show (t.val - 1) % 2 = 0; omega)
    rw [out_at_B m c t (by omega) (by omega) hp, ← e1, ← e2]
    rfl

end Cert.Attn.Gqa

end
-- ==== Proof.Softmax.lean ====
/-
  The mathematics of the softmax over the extended reals: a softmax in base two over scores shifted by any real is the
  softmax in base e over the scores times the logarithm of two, shifted by any other real, and the division by the
  normalizer may be done after the weighted sum instead of before it. The weighted values may be infinite; the scores
  must be real. Then what keeps a maximum of reals real.
-/
module

public import Idealize.ShloMosaic.Lib.Pointwise

@[expose] public section

open scoped BigOperators

namespace Cert.Attn

open Idealize.ShloMosaic

/-- An extended real that is a real. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sup {x y : EReal} (hx : IsReal x) (hy : IsReal y) : IsReal (max x y) := by
  rcases max_choice x y with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The maximum, from minus infinity, of a family of reals that is not empty is real. -/
theorem isReal_fold_max {ι : Type} [Fintype ι] [Nonempty ι] (f : ι → EReal) (hf : ∀ i, IsReal (f i)) :
    IsReal (Finset.univ.fold max ⊥ f) := by
  classical
  have key : ∀ s : Finset ι, s.fold max ⊥ f = ⊥ ∧ s = ∅ ∨ IsReal (s.fold max ⊥ f) := by
    intro s
    induction s using Finset.induction_on with
    | empty => exact Or.inl ⟨Finset.fold_empty, rfl⟩
    | insert a s ha ih =>
      right
      rw [Finset.fold_insert ha]
      rcases ih with ⟨h, _⟩ | h
      · rw [h, max_bot_right]; exact hf a
      · exact (hf a).sup h
  rcases key Finset.univ with ⟨_, h⟩ | h
  · exact absurd h (Finset.univ_nonempty (α := ι)).ne_empty
  · exact h

/-- The pattern of minus infinity. -/
theorem ofBits_neg_inf : Ideal.ofBits .f32 0xFF800000#32 = ⊥ := by
  simp [Ideal.ofBits, Ideal.ieee]

/-- The pattern of two. -/
theorem ofBits_two : Ideal.ofBits .f32 0x40000000#32 = ((2 : ℝ) : EReal) := by
  simp [Ideal.ofBits, Ideal.ieee, -EReal.coe_mul]; norm_num

/-- A real factor that is not negative distributes over a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- THE SOFTMAX: for real scores and any two real shifts. -/
theorem softmax_eq {ι : Type} [Fintype ι] [Nonempty ι] (s v : ι → EReal) (a b : EReal) (hs : ∀ j, IsReal (s j))
    (ha : IsReal a) (hb : IsReal b) :
    Ideal.div (∑ j, v j * Ideal.exp2 (s j - a)) (∑ j, Ideal.exp2 (s j - a))
      = ∑ j, v j * Ideal.div (Ideal.exp (s j * Ideal.log ((2 : ℝ) : EReal) - b))
          (∑ k, Ideal.exp (s k * Ideal.log ((2 : ℝ) : EReal) - b)) := by
  obtain ⟨a, rfl⟩ := ha
  obtain ⟨b, rfl⟩ := hb
  choose r hr using hs
  obtain rfl : s = fun j => (r j : EReal) := funext hr
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  have h2 : ∀ j, Ideal.exp2 ((r j : EReal) - (a : EReal)) = ((Real.rpow 2 (r j - a) : ℝ) : EReal) := fun j => by
    rw [← EReal.coe_sub]; rfl
  have he : ∀ j, Ideal.exp ((r j : EReal) * Ideal.log ((2 : ℝ) : EReal) - (b : EReal))
      = ((Real.exp (r j * Real.log 2 - b) : ℝ) : EReal) := fun j => by
    rw [hlog, ← EReal.coe_mul, ← EReal.coe_sub]; rfl
  simp only [h2, he, coe_sum]
  set P : ℝ := ∑ j, Real.rpow 2 (r j - a) with hP
  set Q : ℝ := ∑ j, Real.exp (r j * Real.log 2 - b) with hQ
  have hp : ∀ j, 0 < Real.rpow 2 (r j - a) := fun j => Real.rpow_pos_of_pos (by norm_num) _
  have hPpos : 0 < P := Finset.sum_pos (fun j _ => hp j) Finset.univ_nonempty
  have hQpos : 0 < Q := Finset.sum_pos (fun j _ => Real.exp_pos _) Finset.univ_nonempty
  have hscale : ∀ j, Real.rpow 2 (r j - a) = Real.exp (r j * Real.log 2 - b) * Real.exp (b - a * Real.log 2) := fun j => by
    show (2 : ℝ) ^ (r j - a) = _
    rw [Real.rpow_def_of_pos (by norm_num), ← Real.exp_add]; congr 1; ring
  have hPQ : P = Q * Real.exp (b - a * Real.log 2) := by
    rw [hP, hQ, Finset.sum_mul]; exact Finset.sum_congr rfl fun j _ => hscale j
  rw [Ideal.div_coe hPpos.ne', sum_mul_coe _ _ _ (by positivity)]
  refine Finset.sum_congr rfl fun j _ => ?_
  rw [Ideal.div_coe hQpos.ne', mul_assoc, ← EReal.coe_mul, ← EReal.coe_mul]
  congr 2
  rw [hscale j, hPQ]
  field_simp

end Cert.Attn

end
-- ==== Proof.Columns.lean ====
module
public import proofs.«01_k».proof.Proof.Chain
public import proofs.«01_k».proof.Proof.Softmax
@[expose] public section
/-!
  The words of `Chain` over the extended reals, entry by entry: sums over all 8192 keys, and maxima that are real.
-/
set_option maxRecDepth 16384

namespace Cert.Attn

open Idealize.ShloMosaic Cert.KernelIdeal Cert.KernelIdeal.Gen

/-- A sum over `m * n` as `m` runs of `n`. -/
theorem sum_runs {M : Type} [AddCommMonoid M] (m n : ℕ) (G : Fin (m * n) → M) :
    ∑ s, G s = ∑ i : Fin m, ∑ j : Fin n, G ⟨n * i.val + j.val, by
      have := i.isLt; have := j.isLt
      calc n * i.val + j.val < n * i.val + n := by omega
        _ = n * (i.val + 1) := by ring
        _ ≤ n * m := Nat.mul_le_mul_left n (by omega)
        _ = m * n := Nat.mul_comm n m⟩ := by
  rw [← finProdFinEquiv.sum_comp, Fintype.sum_prod_type]
  refine Finset.sum_congr rfl fun i _ => Finset.sum_congr rfl fun j _ => congrArg G (Fin.ext ?_)
  show j.val + n * i.val = n * i.val + j.val
  omega

/-- The eight partial sums over 32 chunks of 32 groups make the sum over all keys. -/
theorem sum_keys {M : Type} [AddCommMonoid M] (G : Fin 8192 → M) :
    ∑ r : Fin 8, ∑ c : Fin 32, ∑ g : Fin 32, G ⟨256 * c.val + (g.val * 8 + r.val), by omega⟩ = ∑ s, G s := by
  rw [Finset.sum_comm]
  refine Eq.trans (Finset.sum_congr rfl fun c _ => Finset.sum_comm) ?_
  refine Eq.trans ?_ (sum_runs 32 256 G).symm
  refine Finset.sum_congr rfl fun c _ => ?_
  refine Eq.trans ?_ (sum_runs 32 8 (fun k : Fin 256 => G ⟨256 * c.val + k.val, by omega⟩)).symm
  refine Finset.sum_congr rfl fun g _ => Finset.sum_congr rfl fun r _ => congrArg G (Fin.ext ?_)
  show 256 * c.val + (g.val * 8 + r.val) = 256 * c.val + (8 * g.val + r.val)
  omega

/-- A chain of additions, read at one index. -/
theorem chain_add_apply {s : Shape} (z : s.Idx → EReal) (g : (c : ℕ) → c < 32 → s.Idx → EReal) (j : s.Idx) :
    ∀ (n : ℕ) (h : n ≤ 32), chain 32 z (fun c h a => fun i => a i + g c h i) n h j
      = z j + ∑ c : Fin n, g c.val (Nat.lt_of_lt_of_le c.isLt h) j
  | 0, _ => by rw [chain_zero]; simp
  | n + 1, h => by
    rw [chain_succ]
    show chain 32 z _ n (Nat.le_of_succ_le h) j + g n h j = _
    rw [chain_add_apply z g j n (Nat.le_of_succ_le h), Fin.sum_univ_castSucc, add_assoc]
    rfl

theorem cast_chunk (X : Vec Ideal S1x256x512 .f32) (k : Fin 256) (w : Fin 512) :
    (shapeCast S256x512 X shapeCasts_S1x256x512_S256x512 : FVec Ideal S256x512 .f32) (ix2 k w) = X (ix3 0 k w) := by
  pointwise

theorem chunk_stored (T : (c : ℕ) → c < 32 → FVec Ideal S256x512 .f32) (c : ℕ) (h : c < 32) (k : Fin 256) (w : Fin 512) :
    chunk (F := Ideal) (stored T) c h (ix2 k w) = T c h (ix2 k w) := by
  unfold chunk
  rw [cast_chunk]
  refine family_congr T _ h (show c + 1 * 0 = c by omega) ?_
  funext a
  fin_cases a
  · exact Fin.ext (show 0 + 1 * k.val = k.val by omega)
  · exact Fin.ext (show 0 + 1 * w.val = w.val by omega)

/-- The shift of a column. -/
noncomputable def shiftAt (M : Vec Ideal S8x512 .f32) (w : Fin 512) : EReal := shift (F := Ideal) M (ix2 0 w)

theorem shiftAt_isReal (M : Vec Ideal S8x512 .f32) (w : Fin 512) (h : ∀ r : Fin 8, IsReal (M (ix2 r w))) :
    IsReal (shiftAt M w) := by
  unfold shiftAt shift
  pointwise
  rw [ofBits_neg_inf]
  exact isReal_fold_max _ h

theorem weight_apply (T : (c : ℕ) → c < 32 → FVec Ideal S256x512 .f32) (M : Vec Ideal S8x512 .f32) (c : ℕ) (h : c < 32) (k : Fin 256) (w : Fin 512) :
    weight (F := Ideal) (stored T) M c h (ix2 k w) = Ideal.exp2 (T c h (ix2 k w) - shiftAt M w) := by
  unfold weight
  rw [← chunk_stored T c h k w]
  unfold shiftAt
  pointwise
  rfl

/-- The groups of a chunk: entry `(r, w)` sums the keys `8 g + r`. -/
theorem group_add (X : FVec Ideal S256x512 .f32) (r : Fin 8) (w : Fin 512) :
    (multiReduction (F := Ideal) .add [0] S8x512 (shapeCast S32x8x512 X shapeCasts_S256x512_S32x8x512 : FVec Ideal S32x8x512 .f32)
      0x00000000#32 reduces_S32x8x512_S8x512 (.inl rfl) rfl : FVec Ideal S8x512 .f32) (ix2 r w)
      = ∑ g : Fin 32, X (ix2 ⟨g.val * 8 + r.val, by omega⟩ w) := by
  pointwise

theorem group_max (X : FVec Ideal S256x512 .f32) (r : Fin 8) (w : Fin 512) :
    (multiReduction (F := Ideal) .maximumf [0] S8x512 (shapeCast S32x8x512 X shapeCasts_S256x512_S32x8x512 : FVec Ideal S32x8x512 .f32)
      0xFF800000#32 reduces_S32x8x512_S8x512 (.inl rfl) rfl : FVec Ideal S8x512 .f32) (ix2 r w)
      = Finset.univ.fold max ⊥ fun g : Fin 32 => X (ix2 ⟨g.val * 8 + r.val, by omega⟩ w) := by
  pointwise
  rw [ofBits_neg_inf]

theorem zero_apply (s : Shape) (j : s.Idx) : (broadcast s (Scalar.ofBits .f32 0x00000000#32 : Ideal .f32) : FVec Ideal s .f32) j = 0 := by
  pointwise

theorem total_apply (T : (c : ℕ) → c < 32 → FVec Ideal S256x512 .f32) (M : Vec Ideal S8x512 .f32) (d : Fin 64) (w : Fin 512) (G : Fin 8192 → EReal)
    (hG : ∀ (c : Fin 32) (k : Fin 256), T c.val c.isLt (ix2 k w) = G ⟨256 * c.val + k.val, by omega⟩) :
    total (F := Ideal) (stored T) M (ix2 d w) = ∑ s, Ideal.exp2 (G s - shiftAt M w) := by
  unfold total
  pointwise
  refine Eq.trans ?_ (sum_keys fun s => Ideal.exp2 (G s - shiftAt M w))
  refine Finset.sum_congr rfl fun r _ => ?_
  unfold sums
  refine (chain_add_apply _ (fun c h => multiReduction (F := Ideal) .add [0] S8x512 (shapeCast S32x8x512 (weight (stored T) M c h) shapeCasts_S256x512_S32x8x512 : FVec Ideal S32x8x512 .f32)
      0x00000000#32 reduces_S32x8x512_S8x512 (.inl rfl) rfl) (ix2 r w) 32 (Nat.le_refl 32)).trans ?_
  rw [zero_apply, zero_add]
  refine Finset.sum_congr rfl fun c _ => ?_
  rw [group_add]
  refine Finset.sum_congr rfl fun g _ => ?_
  rw [weight_apply, hG c ⟨g.val * 8 + r.val, by omega⟩]

theorem maxima_isReal (T : (c : ℕ) → c < 32 → FVec Ideal S256x512 .f32) (w : Fin 512) (h : ∀ c hc k, IsReal (T c hc (ix2 k w))) (r : Fin 8) :
    IsReal (maxima (F := Ideal) T (ix2 r w)) := by
  have key : ∀ (n : ℕ) (hn : n + 1 ≤ 32), IsReal (chain 32 (broadcast S8x512 (Scalar.ofBits .f32 0xFF800000#32 : Ideal .f32) : FVec Ideal S8x512 .f32)
    (fun c h a => maximumf a (multiReduction .maximumf [0] S8x512 (shapeCast S32x8x512 (T c h) shapeCasts_S256x512_S32x8x512 : FVec Ideal S32x8x512 .f32)
      0xFF800000#32 reduces_S32x8x512_S8x512 (.inl rfl) rfl)) (n + 1) hn (ix2 r w)) := by
    intro n
    induction n with
    | zero =>
      intro hn
      rw [chain_succ, chain_zero]
      show IsReal (max (Ideal.ofBits .f32 0xFF800000#32) (multiReduction (F := Ideal) .maximumf [0] S8x512 (shapeCast S32x8x512 (T 0 hn) shapeCasts_S256x512_S32x8x512 : FVec Ideal S32x8x512 .f32)
        0xFF800000#32 reduces_S32x8x512_S8x512 (.inl rfl) rfl (ix2 r w)))
      rw [ofBits_neg_inf, max_bot_left, group_max]
      exact isReal_fold_max _ fun g => h 0 hn _
    | succ n ih =>
      intro hn
      rw [chain_succ]
      refine IsReal.sup (ih (Nat.le_of_succ_le hn)) ?_
      rw [group_max]
      exact isReal_fold_max _ fun g => h (n + 1) hn _
  exact key 31 (Nat.le_refl 32)

end Cert.Attn

end
-- ==== Proof.RefGqa.lean ====
/-
  The grouped-query reference read at one element of its result: the softmax average of the values over the keys, in
  the base-two form that the kernel computes, with any real shift of the scores.
-/
module

public import proofs.«01_k».proof.Proof.Softmax
public import proofs.«01_k».proof.Proof.Gen.ReferenceIdeal.Read

@[expose] public section

noncomputable section

open scoped BigOperators

namespace Cert.Attn.Gqa

open Idealize.ShloMosaic Cert.Attn Cert.ReferenceIdeal Cert.ReferenceIdeal.Gen Cert.ReferenceIdeal.Read

variable (x0 : (⟨S2x8192x512, .bf16⟩ : BufTy).Contents (Elt Ideal)) (x1 : (⟨S2x2x8192x128, .bf16⟩ : BufTy).Contents (Elt Ideal))
  (x2 : (⟨S2x128x8192, .bf16⟩ : BufTy).Contents (Elt Ideal))

/-- The score, in base two, of key `s` for the query at `q` and result lane `c` (lanes `64 h … 64 h + 63` are head `h`,
    four heads to a group of keys). -/
def score (b : Fin 2) (q : Fin 8192) (c : Fin 512) (s : Fin 8192) : EReal :=
  ∑ d : Fin 64, (x1 (ix4 b ⟨c.val / 256, by omega⟩ s ⟨d.val, by omega⟩) : EReal)
    * x0 (ix3 b q ⟨c.val / 64 * 64 + d.val, by omega⟩)

/-- The value of key `s` in result lane `c`. -/
def value (b : Fin 2) (c : Fin 512) (s : Fin 8192) : EReal := x2 (ix3 b ⟨c.val / 256 * 64 + c.val % 64, by omega⟩ s)

/-- The result at one element, with the scores shifted by `a`. -/
def attn (a : EReal) (b : Fin 2) (q : Fin 8192) (c : Fin 512) : EReal :=
  Ideal.div (∑ s, value x2 b c s * Ideal.exp2 (score x0 x1 b q c s - a)) (∑ s, Ideal.exp2 (score x0 x1 b q c s - a))

variable {x0 x1}

theorem score_isReal (h0 : ∀ i, IsReal (x0 i)) (h1 : ∀ i, IsReal (x1 i)) (b : Fin 2) (q : Fin 8192) (c : Fin 512)
    (s : Fin 8192) : IsReal (score x0 x1 b q c s) :=
  IsReal.sum _ _ fun _ _ => (h1 _).mul (h0 _)

variable (x0 x1)

/-- The index of a scaled score: batch, group, head of the group, query, key. -/
abbrev six (b : Fin 2) (q : Fin 8192) (c : Fin 512) (s : Fin 8192) : S2x2x4x8192x8192.Idx :=
  ix5 b ⟨c.val / 256, by omega⟩ ⟨c.val / 64 % 4, by omega⟩ q s

theorem v10_apply (b : Fin 2) (q : Fin 8192) (c : Fin 512) (s : Fin 8192) :
    val_main_v10 (F := Ideal) x0 x1 (six b q c s) = score x0 x1 b q c s * Ideal.log ((2 : ℝ) : EReal) := by
  rw [val_main_v10_apply, val_main_v7_apply, val_main_v6_apply, val_main_v9_apply, val_main_v8_apply, val_main_cst_apply]
  show _ * Ideal.log (Ideal.ofBits .f32 0x40000000#32) = _
  rw [ofBits_two]
  congr 1
  refine Finset.sum_congr rfl fun d _ => ?_
  rw [val_main_v3_apply, val_main_v2_apply, val_main_v1_apply, val_main_v0_apply]
  congr 1
  · refine congrArg x1 (funext fun a => Fin.ext ?_)
    match a with
    | ⟨0, _⟩ => rfl
    | ⟨1, _⟩ => rfl
    | ⟨2, _⟩ => rfl
    | ⟨3, _⟩ => rfl
  · refine congrArg x0 (funext fun a => Fin.ext ?_)
    have h4 := d.isLt
    have hb := b.isLt
    have hq := q.isLt
    have hc := c.isLt
    match a with
    | ⟨0, _⟩ =>
      show ((((b.val * 8192 + q.val) * 2 + c.val / 256) * 4 + c.val / 64 % 4) * 64 + d.val) / 4194304 = b.val
      omega
    | ⟨1, _⟩ =>
      show ((((b.val * 8192 + q.val) * 2 + c.val / 256) * 4 + c.val / 64 % 4) * 64 + d.val) / 512 % 8192 = q.val
      omega
    | ⟨2, _⟩ =>
      show ((((b.val * 8192 + q.val) * 2 + c.val / 256) * 4 + c.val / 64 % 4) * 64 + d.val) % 512 = c.val / 64 * 64 + d.val
      omega

/-- The index of a row's maximum and of its normalizer. -/
abbrev mix (b : Fin 2) (q : Fin 8192) (c : Fin 512) : S2x2x4x8192.Idx :=
  ix4 b ⟨c.val / 256, by omega⟩ ⟨c.val / 64 % 4, by omega⟩ q

theorem v13_isReal (h0 : ∀ i, IsReal (x0 i)) (h1 : ∀ i, IsReal (x1 i)) (b : Fin 2) (q : Fin 8192) (c : Fin 512) :
    IsReal (val_main_v13 (F := Ideal) x0 x1 (mix b q c)) := by
  rw [val_main_v13_apply, val_main_v12_apply, val_main_cst_1_apply]
  show IsReal (max (Ideal.ofBits .f32 0xFF800000#32) _)
  rw [ofBits_neg_inf, max_bot_left]
  unfold val_main_v11
  have hy : ∀ s, IsReal (val_main_v10 (F := Ideal) x0 x1 (six b q c s)) := fun s => by
    rw [v10_apply]
    refine (score_isReal h0 h1 b q c s).mul ?_
    show IsReal (if (2 : ℝ) ≤ 0 then (⊥ : EReal) else ((Real.log 2 : ℝ) : EReal))
    rw [if_neg (by norm_num)]; exact isReal_coe _
  revert hy
  generalize val_main_v10 (F := Ideal) x0 x1 = y
  intro hy
  refine Eq.mpr (congrArg IsReal (Host.reduce_eq_fold_single (FloatOps.maximumf (F := Ideal) (φ := .f32))
    (s := S2x2x4x8192x8192) y _ reducesTo_S2x2x4x8192x8192_S2x2x4x8192_d4 (by decide) h_S_ (mix b q c))) ?_
  show IsReal (Finset.univ.fold max (Ideal.ofBits .f32 0xFF800000#32) _)
  rw [ofBits_neg_inf]
  haveI : Nonempty (Fin (S2x2x4x8192x8192.size 4)) := ⟨(0 : Fin 8192)⟩
  refine isReal_fold_max _ fun s => ?_
  have e := hy s
  refine (congrArg (fun i => IsReal (y i)) (funext fun a => Fin.ext ?_)).mp e
  match a with
  | ⟨0, _⟩ => rfl
  | ⟨1, _⟩ => rfl
  | ⟨2, _⟩ => rfl
  | ⟨3, _⟩ => rfl
  | ⟨4, _⟩ => rfl

theorem v17_apply (b : Fin 2) (q : Fin 8192) (c : Fin 512) (s : Fin 8192) :
    val_main_v17 (F := Ideal) x0 x1 (six b q c s)
      = Ideal.exp (score x0 x1 b q c s * Ideal.log ((2 : ℝ) : EReal) - val_main_v13 (F := Ideal) x0 x1 (mix b q c)) := by
  rw [val_main_v17_apply, val_main_v16_apply, v10_apply, val_main_v15_apply, val_main_v14_apply]
  refine congrArg (fun z => Ideal.exp (score x0 x1 b q c s * Ideal.log ((2 : ℝ) : EReal) - z))
    (congrArg (val_main_v13 (F := Ideal) x0 x1) (funext fun a => Fin.ext ?_))
  match a with
  | ⟨0, _⟩ => rfl
  | ⟨1, _⟩ => rfl
  | ⟨2, _⟩ => rfl
  | ⟨3, _⟩ => rfl

theorem v18_apply (b : Fin 2) (q : Fin 8192) (c : Fin 512) :
    val_main_v18 (F := Ideal) x0 x1 (mix b q c)
      = ∑ s, Ideal.exp (score x0 x1 b q c s * Ideal.log ((2 : ℝ) : EReal) - val_main_v13 (F := Ideal) x0 x1 (mix b q c)) := by
  rw [val_main_v18_apply, val_main_cst_2_apply]
  show Ideal.ofBits .f32 0x00000000#32 + _ = _
  rw [Ideal.ofBits_zero_f32, zero_add]
  refine Finset.sum_congr rfl fun s _ => ?_
  rw [← v17_apply]
  refine congrArg (val_main_v17 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

/-- THE REFERENCE AT AN ELEMENT, for real queries and keys. -/
theorem reference_apply (h0 : ∀ i, IsReal (x0 i)) (h1 : ∀ i, IsReal (x1 i)) (a : EReal) (ha : IsReal a) (b : Fin 2)
    (q : Fin 8192) (c : Fin 512) : val_main_v25 (F := Ideal) x0 x1 x2 (ix3 b q c) = attn x0 x1 x2 a b q c := by
  haveI : Nonempty (Fin 8192) := ⟨0⟩
  unfold attn
  rw [softmax_eq _ _ a _ (fun s => score_isReal h0 h1 b q c s) ha (v13_isReal x0 x1 h0 h1 b q c)]
  rw [val_main_v25_apply, val_main_v24_apply, val_main_v23_apply, val_main_v22_apply]
  refine Finset.sum_congr rfl fun s _ => ?_
  have hb := b.isLt
  have hq := q.isLt
  have hc := c.isLt
  have hs := s.isLt
  refine congrArg₂ (fun y z : EReal => y * z) ?_ ?_
  · rw [val_main_v5_apply, val_main_v4_apply]
    refine congrArg x2 (funext fun a => Fin.ext ?_)
    match a with
    | ⟨0, _⟩ =>
      show (((((b.val * 8192 + q.val) * 512 + c.val) / 4194304 * 2 + ((b.val * 8192 + q.val) * 512 + c.val) / 256 % 2) * 64
        + ((b.val * 8192 + q.val) * 512 + c.val) % 64) * 8192 + s.val) / 1048576 = b.val
      omega
    | ⟨1, _⟩ =>
      show (((((b.val * 8192 + q.val) * 512 + c.val) / 4194304 * 2 + ((b.val * 8192 + q.val) * 512 + c.val) / 256 % 2) * 64
        + ((b.val * 8192 + q.val) * 512 + c.val) % 64) * 8192 + s.val) / 8192 % 128 = c.val / 256 * 64 + c.val % 64
      omega
    | ⟨2, _⟩ =>
      show (((((b.val * 8192 + q.val) * 512 + c.val) / 4194304 * 2 + ((b.val * 8192 + q.val) * 512 + c.val) / 256 % 2) * 64
        + ((b.val * 8192 + q.val) * 512 + c.val) % 64) * 8192 + s.val) % 8192 = s.val
      omega
  · have hi : ridx_main_v22 (idx_main_v23 (idx_main_v24 (ix3 b q c))) s = six b q c s := by
      funext a
      refine Fin.ext ?_
      match a with
      | ⟨0, _⟩ =>
        show ((b.val * 8192 + q.val) * 512 + c.val) / 4194304 = b.val
        omega
      | ⟨1, _⟩ =>
        show ((b.val * 8192 + q.val) * 512 + c.val) / 256 % 2 = c.val / 256
        omega
      | ⟨2, _⟩ =>
        show ((b.val * 8192 + q.val) * 512 + c.val) / 64 % 4 = c.val / 64 % 4
        omega
      | ⟨3, _⟩ =>
        show ((b.val * 8192 + q.val) * 512 + c.val) / 512 % 8192 = q.val
        omega
      | ⟨4, _⟩ => rfl
    rw [hi, val_main_v21_apply, v17_apply, val_main_v20_apply, val_main_v19_apply, ← v18_apply]
    refine congrArg (Ideal.div _) (congrArg (val_main_v18 (F := Ideal) x0 x1) (funext fun a => Fin.ext ?_))
    match a with
    | ⟨0, _⟩ => rfl
    | ⟨1, _⟩ => rfl
    | ⟨2, _⟩ => rfl
    | ⟨3, _⟩ => rfl

end Cert.Attn.Gqa

end
-- ==== Proof.GqaEntry.lean ====
module
public import proofs.«01_k».proof.Proof.GqaWords
public import proofs.«01_k».proof.Proof.Columns
public import proofs.«01_k».proof.Proof.RefGqa
@[expose] public section
/-!
  The finished block of the grouped attention, entry by entry, over the extended reals.
-/
set_option maxRecDepth 16384

namespace Cert.Attn.Gqa

open Idealize.ShloMosaic Cert.KernelIdeal Cert.KernelIdeal.Gen

theorem cast_keys (X : Vec Ideal S1x1x256x64 .bf16) (k : Fin 256) (d : Fin 64) :
    (shapeCast S256x64 X shapeCasts_S1x1x256x64_S256x64 : FVec Ideal S256x64 .bf16) (ix2 k d) = X (ix4 0 0 k d) := by
  pointwise

theorem cast_values (X : Vec Ideal S1x1x64x256 .bf16) (d : Fin 64) (k : Fin 256) :
    (shapeCast S64x256 X shapeCasts_S1x1x64x256_S64x256 : FVec Ideal S64x256 .bf16) (ix2 d k) = X (ix4 0 0 d k) := by
  pointwise

theorem keys_apply (x1 : Vec Ideal S1x1x8192x128 .bf16) (c : Fin 32) (k : Fin 256) (d : Fin 64) :
    keys (F := Ideal) x1 c.val c.isLt (ix2 k d) = x1 (ix4 0 0 ⟨256 * c.val + k.val, by omega⟩ ⟨d.val, by omega⟩) := by
  unfold keys
  rw [cast_keys]
  refine congrArg x1 (funext fun a => ?_)
  fin_cases a
  · rfl
  · rfl
  · exact Fin.ext (show 256 * c.val + 1 * k.val = 256 * c.val + k.val by omega)
  · exact Fin.ext (show 0 + 1 * d.val = d.val by omega)

theorem values_apply (x2 : Vec Ideal S1x1x64x8192 .bf16) (c : Fin 32) (d : Fin 64) (k : Fin 256) :
    values (F := Ideal) x2 c.val c.isLt (ix2 d k) = x2 (ix4 0 0 d ⟨256 * c.val + k.val, by omega⟩) := by
  unfold values
  rw [cast_values]
  refine congrArg x2 (funext fun a => ?_)
  fin_cases a
  · rfl
  · rfl
  · exact Fin.ext (show 0 + 1 * d.val = d.val by omega)
  · exact Fin.ext (show 256 * c.val + 1 * k.val = 256 * c.val + k.val by omega)

theorem queries_apply (x0 : Vec Ideal S1x256x128 .bf16) (d : Fin 64) (w : Fin 512) :
    queries (F := Ideal) x0 (ix2 d w) = x0 (ix3 0 ⟨w.val / 128 * 64 + d.val, by omega⟩ ⟨w.val % 128, by omega⟩) := by
  unfold queries
  pointwise [k0_pay5]
  split_ifs <;> exact congrArg₂ (fun a b => x0 (ix3 0 a b)) (Fin.ext (by dsimp only; omega)) (Fin.ext (by dsimp only; omega))

/-- The score of key `s` in column `w`. -/
noncomputable def scoreAt (x0 : Vec Ideal S1x256x128 .bf16) (x1 : Vec Ideal S1x1x8192x128 .bf16) (w : Fin 512) (s : Fin 8192) : EReal :=
  ∑ d : Fin 64, x1 (ix4 0 0 s ⟨d.val, by omega⟩) * x0 (ix3 0 ⟨w.val / 128 * 64 + d.val, by omega⟩ ⟨w.val % 128, by omega⟩)

theorem scores_apply (x0 : Vec Ideal S1x256x128 .bf16) (x1 : Vec Ideal S1x1x8192x128 .bf16) (c : Fin 32) (k : Fin 256) (w : Fin 512) :
    scores (F := Ideal) x0 x1 c.val c.isLt (ix2 k w) = scoreAt x0 x1 w ⟨256 * c.val + k.val, by omega⟩ := by
  unfold scores
  pointwise
  unfold scoreAt
  refine Finset.sum_congr rfl fun d _ => ?_
  rw [keys_apply, queries_apply]

theorem mixed_apply (x2 : Vec Ideal S1x1x64x8192 .bf16) (T : (c : ℕ) → c < 32 → FVec Ideal S256x512 .f32) (M : Vec Ideal S8x512 .f32)
    (d : Fin 64) (w : Fin 512) (G : Fin 8192 → EReal)
    (hG : ∀ (c : Fin 32) (k : Fin 256), T c.val c.isLt (ix2 k w) = G ⟨256 * c.val + k.val, by omega⟩) :
    mixed (F := Ideal) x2 (stored T) M (ix2 d w) = ∑ s, x2 (ix4 0 0 d s) * Ideal.exp2 (G s - shiftAt M w) := by
  unfold mixed
  refine (chain_add_apply _ (fun c h => matmul (F := Ideal) dot_S64x256_S256x512_S64x512_1_0_0_1_n_n none (values x2 c h)
      (truncf .bf16 (weight (stored T) M c h) bitsLt_bf16_f32) (constant S64x512 .f32 0x00000000#32)) (ix2 d w) 32 (Nat.le_refl 32)).trans ?_
  rw [zero_apply, zero_add]
  refine Eq.trans ?_ (sum_runs 32 256 fun s => x2 (ix4 0 0 d s) * Ideal.exp2 (G s - shiftAt M w)).symm
  refine Finset.sum_congr rfl fun c _ => ?_
  pointwise
  refine Finset.sum_congr rfl fun k _ => ?_
  rw [values_apply, weight_apply, hG c k]

theorem finished_apply (x2 : Vec Ideal S1x1x64x8192 .bf16) (T : (c : ℕ) → c < 32 → FVec Ideal S256x512 .f32) (M : Vec Ideal S8x512 .f32)
    (d : Fin 64) (w : Fin 512) (G : Fin 8192 → EReal)
    (hG : ∀ (c : Fin 32) (k : Fin 256), T c.val c.isLt (ix2 k w) = G ⟨256 * c.val + k.val, by omega⟩) :
    finished (F := Ideal) x2 (stored T) M (ix2 d w)
      = Ideal.div (∑ s, x2 (ix4 0 0 d s) * Ideal.exp2 (G s - shiftAt M w)) (∑ s, Ideal.exp2 (G s - shiftAt M w)) := by
  rw [← mixed_apply x2 T M d w G hG, ← total_apply T M d w G hG]
  rfl

theorem block_apply (x2 : Vec Ideal S1x1x64x8192 .bf16) (S : Vec Ideal S32x256x512 .f32) (M : Vec Ideal S8x512 .f32) (r : Fin 128) (e : Fin 256) :
    block (F := Ideal) x2 S M (ix3 0 r e) = finished (F := Ideal) x2 S M (ix2 ⟨e.val % 64, by omega⟩ ⟨e.val / 64 * 128 + r.val, by omega⟩) := by
  unfold block
  pointwise [k0_pay3]
  split_ifs <;> exact congrArg₂ (fun a b => finished (F := Ideal) x2 S M (ix2 a b)) (Fin.ext (by dsimp only; omega)) (Fin.ext (by dsimp only; omega))

end Cert.Attn.Gqa

end
-- ==== Proof.GqaArray.lean ====
module
public import proofs.«01_k».proof.Proof.GqaPoints
public import proofs.«01_k».proof.Proof.GqaEntry
public import proofs.«01_k».proof.Proof.Gen.KernelIdeal.Value
public import Idealize.ShloMosaic.Lib.Pipeline.ValueKit
@[expose] public section
/-!
  The array the grouped attention leaves is the reference's, wherever queries and keys are real.
-/
set_option maxRecDepth 16384

namespace Cert.Attn.Gqa

open Idealize.ShloMosaic Idealize.ShloMosaic.TcCoe Cert.KernelIdeal Cert.KernelIdeal.Gen

variable (m : (ℓ : Loc nD τ sig) → Buf (Elt Ideal) ℓ) (c : Dev nD)

theorem index_q : ∀ t : Fin cfg0.N, t.val < 256 → win0_0.index t = ![t.val / 128, t.val / 64 % 2, t.val % 64] :=
  (by decide +kernel : ∀ t : Fin grid0.N, _)

theorem index_k : ∀ t : Fin cfg0.N, t.val < 256 → win0_1.index t = ![t.val / 128, t.val / 64 % 2, 0, 0] :=
  (by decide +kernel : ∀ t : Fin grid0.N, _)

theorem index_v : ∀ t : Fin cfg0.N, t.val ≠ 0 → win0_2.index t = ![(t.val - 1) / 128, (t.val - 1) / 64 % 2, 0, 0] :=
  (by decide +kernel : ∀ t : Fin grid0.N, _)

theorem index_o : ∀ t : Fin cfg0.N, t.val ≠ 0 → win0_3.index t = ![(t.val - 1) / 128, (t.val - 1) % 64, (t.val - 1) / 64 % 2] :=
  (by decide +kernel : ∀ t : Fin grid0.N, _)

theorem flush_ne : ∀ t : Fin cfg0.N, win0_3.flush t = true → t.val ≠ 0 :=
  (by decide +kernel : ∀ t : Fin grid0.N, _)

/-- The queries, keys and values as launched. -/
noncomputable abbrev argQ : Vec Ideal S2x8192x512 .bf16 := m ((c : Thread nD τ).loc main_arg0)
noncomputable abbrev argK : Vec Ideal S2x2x8192x128 .bf16 := m ((c : Thread nD τ).loc main_arg1)
noncomputable abbrev argV : Vec Ideal S2x128x8192 .bf16 := m ((c : Thread nD τ).loc main_arg2)

theorem block_q (t : Fin cfg0.N) (h : t.val < 256) (d : Fin 256) (q : Fin 128) :
    (iblk m c 0 t : Vec Ideal S1x256x128 .bf16) (ix3 0 d q)
      = argQ m c (ix3 ⟨t.val / 128, by omega⟩ ⟨t.val % 64 * 128 + q.val, by omega⟩ ⟨t.val / 64 % 2 * 256 + d.val, by omega⟩) := by
  have e := index_q t h
  blk_simp [iblk]
  entry_read
  pointwise
  blk_ext [e]

theorem block_k (t : Fin cfg0.N) (h : t.val < 256) (s : Fin 8192) (d : Fin 128) :
    (iblk m c 1 t : Vec Ideal S1x1x8192x128 .bf16) (ix4 0 0 s d)
      = argK m c (ix4 ⟨t.val / 128, by omega⟩ ⟨t.val / 64 % 2, by omega⟩ s d) := by
  have e := index_k t h
  blk_simp [iblk]
  entry_read
  blk_ext [e]

theorem block_v (t : Fin cfg0.N) (h : t.val ≠ 0) (d : Fin 64) (s : Fin 8192) :
    (iblk m c 2 t : Vec Ideal S1x1x64x8192 .bf16) (ix4 0 0 d s)
      = argV m c (ix3 ⟨(t.val - 1) / 128, by have : t.val < 257 := t.isLt; omega⟩ ⟨(t.val - 1) / 64 % 2 * 64 + d.val, by omega⟩ s) := by
  have e := index_v t h
  blk_simp [iblk]
  entry_read
  pointwise
  blk_ext [e]

/-- The block a point finishes, entry by entry, is the reference's. -/
theorem point (h0 : ∀ i, IsReal (argQ m c i)) (h1 : ∀ i, IsReal (argK m c i)) (t : Fin cfg0.N) (h : t.val ≠ 0)
    (q : Fin 128) (e : Fin 256) :
    (outsAt0 m c t.val t.isLt).1 (ix3 0 q e)
      = Cert.ReferenceIdeal.Read.val_main_v25 (F := Ideal) (argQ m c) (argK m c) (argV m c)
          (ix3 ⟨(t.val - 1) / 128, by have : t.val < 257 := t.isLt; omega⟩ ⟨(t.val - 1) % 64 * 128 + q.val, by omega⟩
            ⟨(t.val - 1) / 64 % 2 * 256 + e.val, by omega⟩) := by
  have hN : t.val < 257 := t.isLt
  have hs : ∀ s : Fin 8192, scoreAt (iblk m c 0 (prev t)) (iblk m c 1 (prev t)) ⟨e.val / 64 * 128 + q.val, by omega⟩ s
      = score (argQ m c) (argK m c) ⟨(t.val - 1) / 128, by omega⟩ ⟨(t.val - 1) % 64 * 128 + q.val, by omega⟩
            ⟨(t.val - 1) / 64 % 2 * 256 + e.val, by omega⟩ s := by
    intro s
    unfold scoreAt score
    refine Finset.sum_congr rfl fun d _ => ?_
    rw [block_q m c (prev t) (show t.val - 1 < 256 by omega), block_k m c (prev t) (show t.val - 1 < 256 by omega)]
    refine congrArg₂ (fun a b => a * b) (congrArg (argK m c) ?_) (congrArg (argQ m c) ?_)
    · exact congrArg (fun z => ix4 _ z s _) (Fin.ext (by show (t.val - 1) / 64 % 2 = ((t.val - 1) / 64 % 2 * 256 + e.val) / 256; omega))
    · refine congrArg₂ (fun y z => ix3 _ y z) (Fin.ext ?_) (Fin.ext ?_)
      · show (t.val - 1) % 64 * 128 + (e.val / 64 * 128 + q.val) % 128 = (t.val - 1) % 64 * 128 + q.val
        omega
      · show (t.val - 1) / 64 % 2 * 256 + ((e.val / 64 * 128 + q.val) / 128 * 64 + d.val)
          = ((t.val - 1) / 64 % 2 * 256 + e.val) / 64 * 64 + d.val
        omega
  have hr : ∀ s, IsReal (scoreAt (iblk m c 0 (prev t)) (iblk m c 1 (prev t)) ⟨e.val / 64 * 128 + q.val, by omega⟩ s) := by
    intro s; rw [hs]; exact score_isReal h0 h1 _ _ _ _
  have ha : IsReal (shiftAt (maxima (F := Ideal) (family m c (prev t))) ⟨e.val / 64 * 128 + q.val, by omega⟩) := by
    refine shiftAt_isReal _ _ fun r => maxima_isReal _ _ (fun n hn k => ?_) r
    rw [show family m c (prev t) n hn (ix2 k ⟨e.val / 64 * 128 + q.val, by omega⟩) = _ from
      scores_apply (iblk m c 0 (prev t)) (iblk m c 1 (prev t)) ⟨n, hn⟩ k ⟨e.val / 64 * 128 + q.val, by omega⟩]
    exact hr _
  rw [finishes m c t h, block_apply, finished_apply (iblk m c 2 t) (family m c (prev t)) _ _ _
    (scoreAt (iblk m c 0 (prev t)) (iblk m c 1 (prev t)) ⟨e.val / 64 * 128 + q.val, by omega⟩)
    (fun n k => scores_apply (iblk m c 0 (prev t)) (iblk m c 1 (prev t)) n k _),
    reference_apply _ _ _ h0 h1 _ ha]
  unfold attn
  refine congrArg₂ Ideal.div (Finset.sum_congr rfl fun s _ => ?_) (Finset.sum_congr rfl fun s _ => by rw [hs])
  rw [hs, block_v m c t h]
  unfold value
  refine congrArg (fun z => z * _) (congrArg (argV m c) (congrArg (fun z => ix3 _ z s) (Fin.ext ?_)))
  show (t.val - 1) / 64 % 2 * 64 + e.val % 64
    = ((t.val - 1) / 64 % 2 * 256 + e.val) / 256 * 64 + ((t.val - 1) / 64 % 2 * 256 + e.val) % 64
  omega

/-- The whole array after the run. -/
theorem array (h0 : ∀ i, IsReal (argQ m c i)) (h1 : ∀ i, IsReal (argK m c i)) :
    (dats m 0 c).arrAt 3 cfg0.N = Cert.ReferenceIdeal.Read.val_main_v25 (F := Ideal) (argQ m c) (argK m c) (argV m c) := by
  refine (dats m 0 c).arrAt_eq_of_covers 3 _ (by decide +kernel) fun t hf y => ?_
  have h : t.val ≠ 0 := flush_ne t hf
  have e := index_o t h
  blk_simp
  rw [after0_3]
  have hy : (y : S1x128x256.Idx) = ix3 0 (y 1) (y 2) := by
    funext a
    fin_cases a
    · exact Fin.ext (by have : (y 0).val < 1 := (y 0).isLt; show (y 0).val = 0; omega)
    · rfl
    · rfl
  refine (congrArg (outsAt0 m c t.val t.isLt).1 hy).trans ((point m c h0 h1 t h (y 1) (y 2)).trans ?_)
  have hz : (y 0).val < 1 := (y 0).isLt
  blk_ext [e]

end Cert.Attn.Gqa

end
-- ==== Proof.Finite.lean ====
module
public import proofs.«01_k».proof.Proof.Softmax
public import proofs.«01_k».proof.Pre_finite_queries_keys
public import proofs.«01_k».proof.Pre_finite_queries_keys2
@[expose] public section
/-!
  What the precondition says of the queries and keys: every entry is a real.
-/
set_option maxRecDepth 16384

namespace Cert.Attn

open Idealize.ShloMosaic

theorem ofBits_inf : Ideal.ofBits .f32 0x7F800000#32 = (⊤ : EReal) := by
  simp [Ideal.ofBits, Ideal.ieee]

/-- A value whose magnitude is below infinity is real. -/
theorem isReal_of_abs_lt {x : EReal} (h : BitVec.ofBool (decide (FloatOps.absf (F := Ideal) (φ := .f32) x < Ideal.ofBits .f32 0x7F800000#32)) = 1#1) :
    IsReal x := by
  rw [ofBits_inf] at h
  have h' : max x (-x) < ⊤ := by
    by_contra hn
    have : decide (FloatOps.absf (F := Ideal) (φ := .f32) x < (⊤ : EReal)) = false := decide_eq_false hn
    rw [this] at h
    exact absurd h (by decide)
  have h1 : x ≠ ⊤ := by rintro rfl; simp at h'
  have h2 : x ≠ ⊥ := by rintro rfl; simp at h'
  exact ⟨x.toReal, (EReal.coe_toReal h1 h2).symm⟩

namespace Gqa

variable [Cert.Pre_finite_queries_keys.Facts]

open Cert.Pre_finite_queries_keys

variable (x0 : FVec Ideal S2x8192x512 .bf16) (x1 : FVec Ideal S2x2x8192x128 .bf16) (x2 : FVec Ideal S2x128x8192 .bf16)

theorem real_queries (h : (fn (F := Ideal) x0 x1 x2).1 = fun _ => 1#1) (i : S2x8192x512.Idx) : IsReal (x0 i) := by
  have hi := congrFun h i
  unfold fn at hi
  dsimp only at hi
  pointwise at hi
  exact isReal_of_abs_lt hi

theorem real_keys (h : (fn (F := Ideal) x0 x1 x2).2 = fun _ => 1#1) (i : S2x2x8192x128.Idx) : IsReal (x1 i) := by
  have hi := congrFun h i
  unfold fn at hi
  dsimp only at hi
  pointwise at hi
  exact isReal_of_abs_lt hi

end Gqa

namespace Mla

variable [Cert.Pre_finite_queries_keys2.Facts]

open Cert.Pre_finite_queries_keys2

variable (x0 : FVec Ideal S2x8192x512 .bf16) (x1 : FVec Ideal S2x4x8192x128 .bf16) (x2 : FVec Ideal S2x256x8192 .bf16)

theorem real_queries (h : (fn (F := Ideal) x0 x1 x2).1 = fun _ => 1#1) (i : S2x8192x512.Idx) : IsReal (x0 i) := by
  have hi := congrFun h i
  unfold fn at hi
  dsimp only at hi
  pointwise at hi
  exact isReal_of_abs_lt hi

theorem real_keys (h : (fn (F := Ideal) x0 x1 x2).2 = fun _ => 1#1) (i : S2x4x8192x128.Idx) : IsReal (x1 i) := by
  have hi := congrFun h i
  unfold fn at hi
  dsimp only at hi
  pointwise at hi
  exact isReal_of_abs_lt hi

end Mla
end Cert.Attn

end
-- ==== Proof.GqaClaim.lean ====
module
public import proofs.«01_k».proof.Proof.GqaArray
public import proofs.«01_k».proof.Proof.Finite
public import proofs.«01_k».proof.Proof.Gen.ReferenceIdeal.Run
public import proofs.«01_k».proof.Proof.Gen.Pre_finite_queries_keys
public import proofs.«01_k».proof.Defs
@[expose] public section
/-!
  The grouped attention and its reference leave the same array.
-/
set_option maxRecDepth 16384

namespace Cert.Attn.Gqa

open Idealize.ShloMosaic Idealize.ShloMosaic.TcCoe Idealize.SL.Sem

theorem algebraic : Cert.algebraic_KernelIdeal_ReferenceIdeal_pre_finite_queries_keys := by
  intro m g m' g' hpre hm
  refine ⟨fun c => Cert.ReferenceIdeal.Read.val_main_v25 (F := Ideal) (argQ m c) (argK m c) (argV m c), ?_, ?_⟩
  · refine (θ_run _ _ _).mono (fun r h c => ?_) (Cert.KernelIdeal.Value.run_blocks m g)
    obtain ⟨h0, h1⟩ := hpre c
    exact ⟨(h c).1.trans (array m c (real_queries _ _ _ h0) (real_keys _ _ _ h1)), (h c).2⟩
  · refine (θ_run _ _ _).mono (fun r h c => ?_) (Cert.ReferenceIdeal.Value.run m' g')
    refine ⟨(h c).1.trans ((Cert.ReferenceIdeal.Read.val_main_v25_eq _ _ _).trans ?_), (h c).2⟩
    obtain ⟨e0, e1, e2⟩ := hm c
    rw [e0, e1, e2]

end Cert.Attn.Gqa

end
-- ==== Proof.MlaWords.lean ====
module
public import proofs.«01_k».proof.Proof.Chain
public import proofs.«01_k».proof.Proof.Gen.Kernel2Ideal.Skeleton
@[expose] public section
/-!
  The words of one step of the latent attention: two heads side by side, 256 query columns each, every head with its
  own keys and values.
-/
set_option maxRecDepth 16384

namespace Cert.Attn.Mla

open Idealize.ShloMosaic Cert.Kernel2Ideal Cert.Kernel2Ideal.Gen

variable {F : FTy → Type} [FloatOps F]

theorem inb_key (a : ℕ) (ha : a < 2) (c : ℕ) (h : c < 32) :
    ∀ i, (![0, a, 256 * c, 0] : Fin 4 → ℕ) i + S1x1x256x128.size i ≤ S1x2x8192x128.size i := by
  intro i; fin_cases i
  · show 0 + 1 ≤ 1; omega
  · show a + 1 ≤ 2; omega
  · show 256 * c + 256 ≤ 8192; omega
  · show 0 + 128 ≤ 128; omega

theorem inb_val (a : ℕ) (ha : a < 2) (c : ℕ) (h : c < 32) :
    ∀ i, (![0, a, 0, 256 * c] : Fin 4 → ℕ) i + S1x1x64x256.size i ≤ S1x2x64x8192.size i := by
  intro i; fin_cases i
  · show 0 + 1 ≤ 1; omega
  · show a + 1 ≤ 2; omega
  · show 0 + 64 ≤ 64; omega
  · show 256 * c + 256 ≤ 8192; omega

/-- The first head's queries. -/
noncomputable def queries0 (x0 : Vec F S1x256x256 .bf16) : FVec F S128x256 .bf16 :=
  shapeCast S128x256 (View.ld x0 (Rect.unit (s := S1x256x256) ![0, 0, 0] S1x128x256.size inb_S1x256x256_S1x128x256_0_0_0) : Vec F S1x128x256 .bf16)
    shapeCasts_S1x128x256_S128x256

/-- The second head's queries. -/
noncomputable def queries1 (x0 : Vec F S1x256x256 .bf16) : FVec F S128x256 .bf16 :=
  shapeCast S128x256 (View.ld x0 (Rect.unit (s := S1x256x256) ![0, 128, 0] S1x128x256.size inb_S1x256x256_S1x128x256_0_128_0) : Vec F S1x128x256 .bf16)
    shapeCasts_S1x128x256_S128x256

/-- Chunk `c` of head `a`'s keys. -/
noncomputable def keys (x1 : Vec F S1x2x8192x128 .bf16) (a : ℕ) (ha : a < 2) (c : ℕ) (h : c < 32) : FVec F S256x128 .bf16 :=
  shapeCast S256x128 (View.ld x1 (Rect.unit (s := S1x2x8192x128) ![0, a, 256 * c, 0] S1x1x256x128.size (inb_key a ha c h)) : Vec F S1x1x256x128 .bf16)
    shapeCasts_S1x1x256x128_S256x128

/-- Chunk `c` of head `a`'s values. -/
noncomputable def values (x2 : Vec F S1x2x64x8192 .bf16) (a : ℕ) (ha : a < 2) (c : ℕ) (h : c < 32) : FVec F S64x256 .bf16 :=
  shapeCast S64x256 (View.ld x2 (Rect.unit (s := S1x2x64x8192) ![0, a, 0, 256 * c] S1x1x64x256.size (inb_val a ha c h)) : Vec F S1x1x64x256 .bf16)
    shapeCasts_S1x1x64x256_S64x256

/-- The product of a head's keys and queries. -/
noncomputable def product (k : FVec F S256x128 .bf16) (q : FVec F S128x256 .bf16) : FVec F S256x256 .f32 :=
  matmul dot_S256x128_S128x256_S256x256_1_0_0_1_n_n none k q (constant S256x256 .f32 0x00000000#32)

/-- The scores of chunk `c`, the heads side by side. -/
noncomputable def scores (x0 : Vec F S1x256x256 .bf16) (x1 : Vec F S1x2x8192x128 .bf16) (c : ℕ) (h : c < 32) : FVec F S256x512 .f32 :=
  concatenate S256x512 1 [⟨S256x256, product (keys x1 0 (by decide) c h) (queries0 x0)⟩, ⟨S256x256, product (keys x1 1 (by decide) c h) (queries1 x0)⟩]
    concatenates_S256x256_S256x256_S256x512_d1

/-- The weighted sum of head `a`'s values, its columns taken from the weights by `part`. -/
noncomputable def mixed (part : FVec F S256x512 .bf16 → FVec F S256x256 .bf16) (x2 : Vec F S1x2x64x8192 .bf16) (a : ℕ) (ha : a < 2)
    (S : Vec F S32x256x512 .f32) (M : Vec F S8x512 .f32) : FVec F S64x256 .f32 :=
  chain 32 (broadcast S64x256 (Scalar.ofBits .f32 0x00000000#32 : F .f32))
    (fun c h z => addf z (matmul dot_S64x256_S256x256_S64x256_1_0_0_1_n_n none (values x2 a ha c h)
      (part (truncf .bf16 (weight S M c h) bitsLt_bf16_f32)) (constant S64x256 .f32 0x00000000#32))) 32 (Nat.le_refl 32)

/-- The first head's columns. -/
noncomputable def part0 (X : FVec F S256x512 .bf16) : FVec F S256x256 .bf16 := extractStridedSlice S256x256 ![0, 0] X slices_S256x512_o0_0_S256x256

/-- The second head's columns. -/
noncomputable def part1 (X : FVec F S256x512 .bf16) : FVec F S256x256 .bf16 := extractStridedSlice S256x256 ![0, 256] X slices_S256x512_o0_256_S256x256

/-- The finished block as it is written. -/
noncomputable def block (x2 : Vec F S1x2x64x8192 .bf16) (S : Vec F S32x256x512 .f32) (M : Vec F S8x512 .f32) : FVec F S1x256x128 .bf16 :=
  k0_pay4 (sums S M) (mixed part0 x2 0 (by decide) S M) (mixed part1 x2 1 (by decide) S M)

/-- A load of all the maxima reads them. -/
theorem ld_whole (M : Vec F S8x512 .f32) (h : ∀ a, (![0, 0] : Fin 2 → ℕ) a + S8x512.size a ≤ S8x512.size a) :
    View.ld M (Rect.unit (s := S8x512) ![0, 0] S8x512.size h) = M :=
  View.ld_unit_zero (by decide) h M

end Cert.Attn.Mla
end
-- ==== Proof.MlaKernel.lean ====
module
public import proofs.«01_k».proof.Proof.MlaWords
public import proofs.«01_k».proof.Proof.MlaFrameI
@[expose] public section
/-!
  One step of the latent attention in the words of `Chain`: what it stores of its own block's scores and what it
  finishes of the block before.
-/
set_option maxRecDepth 16384

namespace Cert.Attn.Mla

open Idealize.ShloMosaic Idealize.ShloMosaic.TcCoe Idealize.ShloMosaic.Tactic Cert.Kernel2Ideal Cert.Kernel2Ideal.Gen Cert.Kernel2Ideal.Steps

variable {F : FTy → Type} [FloatOps F]

section Bridge

variable (c : Dev nD) (i : grid0.Coords) (arg1 : Memref sig .tc .vmem S1x256x256 .bf16) (harg1 : arg1.IsWhole) (arg2 : Memref sig .tc .vmem S1x2x8192x128 .bf16) (harg2 : arg2.IsWhole) (arg3 : Memref sig .tc .vmem S1x2x64x8192 .bf16) (harg3 : arg3.IsWhole) (arg4 : Memref sig .tc .vmem S1x256x128 .bf16) (harg4 : arg4.IsWhole) (arg5 : Memref sig .tc .vmem S32x256x512 .f32) (harg5 : arg5.IsWhole) (arg6 : Memref sig .tc .vmem S32x256x512 .f32) (harg6 : arg6.IsWhole) (arg7 : Memref sig .tc .vmem S8x512 .f32) (harg7 : arg7.IsWhole) (arg8 : Memref sig .tc .vmem S8x512 .f32) (harg8 : arg8.IsWhole)
  (x0 : Vec F S1x256x256 .bf16) (x1 : Vec F S1x2x8192x128 .bf16) (x2 : Vec F S1x2x64x8192 .bf16) (xs0 xs1 : Vec F S32x256x512 .f32) (xs2 xs3 : Vec F S8x512 .f32)

theorem out_B (hc0 : ¬cond0_0 i) (hc1 : ¬cond0_1 i) (hc2 : cond0_2 i) :
    out0_B_3 c i arg1 harg1 arg2 harg2 arg3 harg3 arg4 harg4 arg5 harg5 arg6 harg6 arg7 harg7 arg8 harg8 hc0 hc1 hc2 x0 x1 x2 xs0 xs2
      = block x2 xs0 xs2 := by
  unfold out0_B_3
  rw [View.read_writes_eq_canon _ _ _ (cover0_B_3 c i arg1 harg1 arg2 harg2 arg3 harg3 arg4 harg4 arg5 harg5 arg6 harg6 arg7 harg7 arg8 harg8 hc0 hc1 hc2 x0 x1 x2 xs0 xs2)]
  unfold kernelRun0_B
  dsimp only
  sl_unfold_words
  simp only [View.readAt_eq_ld, harg1.read_unread, harg2.read_unread, harg3.read_unread, harg5.read_unread, harg6.read_unread, harg7.read_unread, harg8.read_unread]
  rw [View.canon_unit_zero (by decide), ld_whole]
  sl_kernel_rfl

theorem out_C (hc0 : ¬cond0_0 i) (hc1 : cond0_1 i) (hc2 : ¬cond0_2 i) :
    out0_C_3 c i arg1 harg1 arg2 harg2 arg3 harg3 arg4 harg4 arg5 harg5 arg6 harg6 arg7 harg7 arg8 harg8 hc0 hc1 hc2 x0 x1 x2 xs1 xs3
      = block x2 xs1 xs3 := by
  unfold out0_C_3
  rw [View.read_writes_eq_canon _ _ _ (cover0_C_3 c i arg1 harg1 arg2 harg2 arg3 harg3 arg4 harg4 arg5 harg5 arg6 harg6 arg7 harg7 arg8 harg8 hc0 hc1 hc2 x0 x1 x2 xs1 xs3)]
  unfold kernelRun0_C
  dsimp only
  sl_unfold_words
  simp only [View.readAt_eq_ld, harg1.read_unread, harg2.read_unread, harg3.read_unread, harg5.read_unread, harg6.read_unread, harg7.read_unread, harg8.read_unread]
  rw [View.canon_unit_zero (by decide), ld_whole]
  sl_kernel_rfl

theorem stored_A (hc0 : cond0_0 i) (hc1 : cond0_1 i) (hc2 : ¬cond0_2 i) :
    sout0_A_0 c i arg1 harg1 arg2 harg2 arg3 harg3 arg4 harg4 arg5 harg5 arg6 harg6 arg7 harg7 arg8 harg8 hc0 hc1 hc2 x0 x1 x2
      = stored (scores x0 x1) := by
  unfold sout0_A_0
  rw [View.read_writes_eq_canon _ _ _ (scover0_A_0 c i arg1 harg1 arg2 harg2 arg3 harg3 arg4 harg4 arg5 harg5 arg6 harg6 arg7 harg7 arg8 harg8 hc0 hc1 hc2 x0 x1 x2)]
  refine canon_stores (scores x0 x1) _ ?_ (scover0_A_0 c i arg1 harg1 arg2 harg2 arg3 harg3 arg4 harg4 arg5 harg5 arg6 harg6 arg7 harg7 arg8 harg8 hc0 hc1 hc2 x0 x1 x2)
  unfold kernelRun0_A
  dsimp only
  sl_unfold_words
  simp only [View.readAt_eq_ld, harg1.read_unread, harg2.read_unread, harg3.read_unread, harg5.read_unread, harg6.read_unread, harg7.read_unread, harg8.read_unread]
  sl_kernel_rfl

theorem maxima_A (hc0 : cond0_0 i) (hc1 : cond0_1 i) (hc2 : ¬cond0_2 i) :
    sout0_A_2 c i arg1 harg1 arg2 harg2 arg3 harg3 arg4 harg4 arg5 harg5 arg6 harg6 arg7 harg7 arg8 harg8 hc0 hc1 hc2 x0 x1 x2
      = maxima (scores x0 x1) := by
  unfold sout0_A_2
  rw [View.read_writes_eq_canon _ _ _ (scover0_A_2 c i arg1 harg1 arg2 harg2 arg3 harg3 arg4 harg4 arg5 harg5 arg6 harg6 arg7 harg7 arg8 harg8 hc0 hc1 hc2 x0 x1 x2)]
  unfold kernelRun0_A
  dsimp only
  sl_unfold_words
  simp only [View.readAt_eq_ld, harg1.read_unread, harg2.read_unread, harg3.read_unread, harg5.read_unread, harg6.read_unread, harg7.read_unread, harg8.read_unread]
  rw [View.canon_unit_zero (by decide)]
  refine Eq.trans (b := (shapeCast S8x512 (maxima (scores x0 x1)) shapeCasts_S8x512_S8x512 : FVec F S8x512 .f32)) ?_ ?_
  · sl_kernel_rfl
  · funext j
    pointwise

theorem stored_B (hc0 : ¬cond0_0 i) (hc1 : ¬cond0_1 i) (hc2 : cond0_2 i) :
    sout0_B_1 c i arg1 harg1 arg2 harg2 arg3 harg3 arg4 harg4 arg5 harg5 arg6 harg6 arg7 harg7 arg8 harg8 hc0 hc1 hc2 x0 x1 x2 xs0 xs2
      = stored (scores x0 x1) := by
  unfold sout0_B_1
  rw [View.read_writes_eq_canon _ _ _ (scover0_B_1 c i arg1 harg1 arg2 harg2 arg3 harg3 arg4 harg4 arg5 harg5 arg6 harg6 arg7 harg7 arg8 harg8 hc0 hc1 hc2 x0 x1 x2 xs0 xs2)]
  refine canon_stores (scores x0 x1) _ ?_ (scover0_B_1 c i arg1 harg1 arg2 harg2 arg3 harg3 arg4 harg4 arg5 harg5 arg6 harg6 arg7 harg7 arg8 harg8 hc0 hc1 hc2 x0 x1 x2 xs0 xs2)
  unfold kernelRun0_B
  dsimp only
  sl_unfold_words
  simp only [View.readAt_eq_ld, harg1.read_unread, harg2.read_unread, harg3.read_unread, harg5.read_unread, harg6.read_unread, harg7.read_unread, harg8.read_unread]
  sl_kernel_rfl

theorem maxima_B (hc0 : ¬cond0_0 i) (hc1 : ¬cond0_1 i) (hc2 : cond0_2 i) :
    sout0_B_3 c i arg1 harg1 arg2 harg2 arg3 harg3 arg4 harg4 arg5 harg5 arg6 harg6 arg7 harg7 arg8 harg8 hc0 hc1 hc2 x0 x1 x2 xs0 xs2
      = maxima (scores x0 x1) := by
  unfold sout0_B_3
  rw [View.read_writes_eq_canon _ _ _ (scover0_B_3 c i arg1 harg1 arg2 harg2 arg3 harg3 arg4 harg4 arg5 harg5 arg6 harg6 arg7 harg7 arg8 harg8 hc0 hc1 hc2 x0 x1 x2 xs0 xs2)]
  unfold kernelRun0_B
  dsimp only
  sl_unfold_words
  simp only [View.readAt_eq_ld, harg1.read_unread, harg2.read_unread, harg3.read_unread, harg5.read_unread, harg6.read_unread, harg7.read_unread, harg8.read_unread]
  rw [View.canon_unit_zero (by decide)]
  refine Eq.trans (b := (shapeCast S8x512 (maxima (scores x0 x1)) shapeCasts_S8x512_S8x512 : FVec F S8x512 .f32)) ?_ ?_
  · sl_kernel_rfl
  · funext j
    pointwise

theorem stored_C (hc0 : ¬cond0_0 i) (hc1 : cond0_1 i) (hc2 : ¬cond0_2 i) :
    sout0_C_0 c i arg1 harg1 arg2 harg2 arg3 harg3 arg4 harg4 arg5 harg5 arg6 harg6 arg7 harg7 arg8 harg8 hc0 hc1 hc2 x0 x1 x2 xs1 xs3
      = stored (scores x0 x1) := by
  unfold sout0_C_0
  rw [View.read_writes_eq_canon _ _ _ (scover0_C_0 c i arg1 harg1 arg2 harg2 arg3 harg3 arg4 harg4 arg5 harg5 arg6 harg6 arg7 harg7 arg8 harg8 hc0 hc1 hc2 x0 x1 x2 xs1 xs3)]
  refine canon_stores (scores x0 x1) _ ?_ (scover0_C_0 c i arg1 harg1 arg2 harg2 arg3 harg3 arg4 harg4 arg5 harg5 arg6 harg6 arg7 harg7 arg8 harg8 hc0 hc1 hc2 x0 x1 x2 xs1 xs3)
  unfold kernelRun0_C
  dsimp only
  sl_unfold_words
  simp only [View.readAt_eq_ld, harg1.read_unread, harg2.read_unread, harg3.read_unread, harg5.read_unread, harg6.read_unread, harg7.read_unread, harg8.read_unread]
  sl_kernel_rfl

theorem maxima_C (hc0 : ¬cond0_0 i) (hc1 : cond0_1 i) (hc2 : ¬cond0_2 i) :
    sout0_C_2 c i arg1 harg1 arg2 harg2 arg3 harg3 arg4 harg4 arg5 harg5 arg6 harg6 arg7 harg7 arg8 harg8 hc0 hc1 hc2 x0 x1 x2 xs1 xs3
      = maxima (scores x0 x1) := by
  unfold sout0_C_2
  rw [View.read_writes_eq_canon _ _ _ (scover0_C_2 c i arg1 harg1 arg2 harg2 arg3 harg3 arg4 harg4 arg5 harg5 arg6 harg6 arg7 harg7 arg8 harg8 hc0 hc1 hc2 x0 x1 x2 xs1 xs3)]
  unfold kernelRun0_C
  dsimp only
  sl_unfold_words
  simp only [View.readAt_eq_ld, harg1.read_unread, harg2.read_unread, harg3.read_unread, harg5.read_unread, harg6.read_unread, harg7.read_unread, harg8.read_unread]
  rw [View.canon_unit_zero (by decide)]
  refine Eq.trans (b := (shapeCast S8x512 (maxima (scores x0 x1)) shapeCasts_S8x512_S8x512 : FVec F S8x512 .f32)) ?_ ?_
  · sl_kernel_rfl
  · funext j
    pointwise

end Bridge
end Cert.Attn.Mla
end
-- ==== Proof.MlaPoints.lean ====
module
public import proofs.«01_k».proof.Proof.MlaKernel
@[expose] public section
/-!
  The latent attention's points in order: a point stores its own block's scores into the scratch of its parity and
  finishes, from the other one, the block of the point before.
-/
set_option maxRecDepth 16384

namespace Cert.Attn.Mla

open Idealize.ShloMosaic Idealize.ShloMosaic.TcCoe Cert.Kernel2Ideal Cert.Kernel2Ideal.Gen Cert.Kernel2Ideal.Steps

variable {F : FTy → Type} [FloatOps F]
variable (m : (ℓ : Loc nD τ sig) → Buf (Elt F) ℓ) (c : Dev nD)

/-- The scores point `t` works out. -/
noncomputable abbrev family (t : Fin cfg0.N) : (n : ℕ) → n < 32 → FVec F S256x512 .f32 := scores (iblk m c 0 t) (iblk m c 1 t)

/-- An odd point finishes from the first pair of scratches. -/
theorem out_at_B (t : Fin cfg0.N) (h0 : ¬t.val % 129 = 0) (h1 : ¬t.val % 2 = 0) (h2 : t.val % 2 = 1) :
    (outsAt0 m c t.val t.isLt).1 = block (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 := by
  rw [outsAt0_B m c t h0 h1 h2]
  dsimp only
  exact out_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 (fun h => h0 ((hcond0_0 t).mp h)) (fun h => h1 ((hcond0_1 t).mp h)) ((hcond0_2 t).mpr h2)

/-- A later even point finishes from the second pair. -/
theorem out_at_C (t : Fin cfg0.N) (h0 : ¬t.val % 129 = 0) (h1 : t.val % 2 = 0) (h2 : ¬t.val % 2 = 1) :
    (outsAt0 m c t.val t.isLt).1 = block (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 := by
  rw [outsAt0_C m c t h0 h1 h2]
  dsimp only
  exact out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 (fun h => h0 ((hcond0_0 t).mp h)) ((hcond0_1 t).mpr h1) (fun h => h2 ((hcond0_2 t).mp h))

/-- The scores the first point leaves. -/
theorem stored_at_A (t : Fin cfg0.N) (h0 : t.val % 129 = 0) (h1 : t.val % 2 = 0) (h2 : ¬t.val % 2 = 1) :
    (outsAt0 m c t.val t.isLt).2.1 = stored (family m c t) := by
  rw [outsAt0_A m c t h0 h1 h2]
  dsimp only
  exact stored_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) ((hcond0_1 t).mpr h1) (fun h => h2 ((hcond0_2 t).mp h))

/-- The maxima the first point leaves. -/
theorem maxima_at_A (t : Fin cfg0.N) (h0 : t.val % 129 = 0) (h1 : t.val % 2 = 0) (h2 : ¬t.val % 2 = 1) :
    (outsAt0 m c t.val t.isLt).2.2.2.1 = maxima (family m c t) := by
  rw [outsAt0_A m c t h0 h1 h2]
  dsimp only
  exact maxima_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) ((hcond0_1 t).mpr h1) (fun h => h2 ((hcond0_2 t).mp h))

/-- The scores an odd point leaves. -/
theorem stored_at_B (t : Fin cfg0.N) (h0 : ¬t.val % 129 = 0) (h1 : ¬t.val % 2 = 0) (h2 : t.val % 2 = 1) :
    (outsAt0 m c t.val t.isLt).2.2.1 = stored (family m c t) := by
  rw [outsAt0_B m c t h0 h1 h2]
  dsimp only
  exact stored_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 (fun h => h0 ((hcond0_0 t).mp h)) (fun h => h1 ((hcond0_1 t).mp h)) ((hcond0_2 t).mpr h2)

/-- The maxima an odd point leaves. -/
theorem maxima_at_B (t : Fin cfg0.N) (h0 : ¬t.val % 129 = 0) (h1 : ¬t.val % 2 = 0) (h2 : t.val % 2 = 1) :
    (outsAt0 m c t.val t.isLt).2.2.2.2 = maxima (family m c t) := by
  rw [outsAt0_B m c t h0 h1 h2]
  dsimp only
  exact maxima_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2.1 (fun h => h0 ((hcond0_0 t).mp h)) (fun h => h1 ((hcond0_1 t).mp h)) ((hcond0_2 t).mpr h2)

/-- The scores a later even point leaves. -/
theorem stored_at_C (t : Fin cfg0.N) (h0 : ¬t.val % 129 = 0) (h1 : t.val % 2 = 0) (h2 : ¬t.val % 2 = 1) :
    (outsAt0 m c t.val t.isLt).2.1 = stored (family m c t) := by
  rw [outsAt0_C m c t h0 h1 h2]
  dsimp only
  exact stored_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 (fun h => h0 ((hcond0_0 t).mp h)) ((hcond0_1 t).mpr h1) (fun h => h2 ((hcond0_2 t).mp h))

/-- The maxima a later even point leaves. -/
theorem maxima_at_C (t : Fin cfg0.N) (h0 : ¬t.val % 129 = 0) (h1 : t.val % 2 = 0) (h2 : ¬t.val % 2 = 1) :
    (outsAt0 m c t.val t.isLt).2.2.2.1 = maxima (family m c t) := by
  rw [outsAt0_C m c t h0 h1 h2]
  dsimp only
  exact maxima_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.2 (fun h => h0 ((hcond0_0 t).mp h)) ((hcond0_1 t).mpr h1) (fun h => h2 ((hcond0_2 t).mp h))

/-- An even point leaves its scores and their maxima in the first pair of scratches. -/
theorem left_even (t : Fin cfg0.N) (h : t.val % 2 = 0) :
    (outsAt0 m c t.val t.isLt).2.1 = stored (family m c t) ∧ (outsAt0 m c t.val t.isLt).2.2.2.1 = maxima (family m c t) := by
  by_cases h0 : t.val % 129 = 0
  · exact ⟨stored_at_A m c t h0 h (by omega), maxima_at_A m c t h0 h (by omega)⟩
  · exact ⟨stored_at_C m c t h0 h (by omega), maxima_at_C m c t h0 h (by omega)⟩

/-- An odd point leaves them in the second pair. -/
theorem left_odd (t : Fin cfg0.N) (h : t.val % 2 = 1) :
    (outsAt0 m c t.val t.isLt).2.2.1 = stored (family m c t) ∧ (outsAt0 m c t.val t.isLt).2.2.2.2 = maxima (family m c t) := by
  have hN : t.val < 129 := t.isLt
  exact ⟨stored_at_B m c t (by omega) (by omega) h, maxima_at_B m c t (by omega) (by omega) h⟩

/-- The point before. -/
def prev (t : Fin cfg0.N) : Fin cfg0.N := ⟨t.val - 1, Nat.lt_of_le_of_lt (Nat.sub_le _ _) t.isLt⟩

/-- Every point but the first finishes the block of the point before. -/
theorem finishes (t : Fin cfg0.N) (h : t.val ≠ 0) :
    (outsAt0 m c t.val t.isLt).1 = block (iblk m c 2 t) (stored (family m c (prev t))) (maxima (family m c (prev t))) := by
  have hN : t.val < 129 := t.isLt
  rcases Nat.mod_two_eq_zero_or_one t.val with hp | hp
  · obtain ⟨e1, e2⟩ := left_odd m c (prev t) (by show (t.val - 1) % 2 = 1; omega)
    rw [out_at_C m c t (by omega) hp (by omega), ← e1, ← e2]
    rfl
  · obtain ⟨e1, e2⟩ := left_even m c (prev t) (by show (t.val - 1) % 2 = 0; omega)
    rw [out_at_B m c t (by omega) (by omega) hp, ← e1, ← e2]
    rfl

end Cert.Attn.Mla

end
-- ==== Proof.RefMla.lean ====
/-
  The latent attention's reference read at one element of its result: the softmax average of the values over the keys,
  in the base-two form that the kernel computes, with any real shift of the scores.
-/
module

public import proofs.«01_k».proof.Proof.Softmax
public import proofs.«01_k».proof.Proof.Gen.Reference2Ideal.Read

@[expose] public section

noncomputable section

open scoped BigOperators

namespace Cert.Attn.Mla

open Idealize.ShloMosaic Cert.Attn Cert.Reference2Ideal Cert.Reference2Ideal.Gen Cert.Reference2Ideal.Read

variable (x0 : (⟨S2x8192x512, .bf16⟩ : BufTy).Contents (Elt Ideal)) (x1 : (⟨S2x4x8192x128, .bf16⟩ : BufTy).Contents (Elt Ideal))
  (x2 : (⟨S2x256x8192, .bf16⟩ : BufTy).Contents (Elt Ideal))

/-- The score, in base two, of key `s` for the query at `q` and result lane `c` (lanes `64 h … 64 h + 63` are head `h`). -/
def score (b : Fin 2) (q : Fin 8192) (c : Fin 256) (s : Fin 8192) : EReal :=
  ∑ d : Fin 128, (x1 (ix4 b ⟨c.val / 64, by omega⟩ s d) : EReal) * x0 (ix3 b q ⟨c.val / 64 * 128 + d.val, by omega⟩)

/-- The value of key `s` in result lane `c`. -/
def value (b : Fin 2) (c : Fin 256) (s : Fin 8192) : EReal := x2 (ix3 b c s)

/-- The result at one element, with the scores shifted by `a`. -/
def attn (a : EReal) (b : Fin 2) (q : Fin 8192) (c : Fin 256) : EReal :=
  Ideal.div (∑ s, value x2 b c s * Ideal.exp2 (score x0 x1 b q c s - a)) (∑ s, Ideal.exp2 (score x0 x1 b q c s - a))

variable {x0 x1}

theorem score_isReal (h0 : ∀ i, IsReal (x0 i)) (h1 : ∀ i, IsReal (x1 i)) (b : Fin 2) (q : Fin 8192) (c : Fin 256)
    (s : Fin 8192) : IsReal (score x0 x1 b q c s) :=
  IsReal.sum _ _ fun _ _ => (h1 _).mul (h0 _)

variable (x0 x1)

/-- The index of a scaled score: batch, head, query, key. -/
abbrev six (b : Fin 2) (q : Fin 8192) (c : Fin 256) (s : Fin 8192) : S2x4x8192x8192.Idx :=
  ix4 b ⟨c.val / 64, by omega⟩ q s

theorem query_apply (b : Fin 2) (q : Fin 8192) (h : Fin 4) (d : Fin 128) :
    val_main_v1 (F := Ideal) x0 (ix4 b q h d) = x0 (ix3 b q ⟨h.val * 128 + d.val, by omega⟩) := by
  rw [val_main_v1_apply, val_main_v0_apply]
  refine congrArg x0 (funext fun a => Fin.ext ?_)
  have hb := b.isLt
  have hq := q.isLt
  have hh := h.isLt
  have hd := d.isLt
  match a with
  | ⟨0, _⟩ =>
    show (((b.val * 8192 + q.val) * 4 + h.val) * 128 + d.val) / 4194304 = b.val
    omega
  | ⟨1, _⟩ =>
    show (((b.val * 8192 + q.val) * 4 + h.val) * 128 + d.val) / 512 % 8192 = q.val
    omega
  | ⟨2, _⟩ =>
    show (((b.val * 8192 + q.val) * 4 + h.val) * 128 + d.val) % 512 = h.val * 128 + d.val
    omega

theorem v7_apply (b : Fin 2) (q : Fin 8192) (c : Fin 256) (s : Fin 8192) :
    val_main_v7 (F := Ideal) x0 x1 (six b q c s)
      = ∑ d : Fin 64, (x1 (ix4 b ⟨c.val / 64, by omega⟩ s ⟨d.val, by omega⟩) : EReal) * x0 (ix3 b q ⟨c.val / 64 * 128 + d.val, by omega⟩) := by
  rw [val_main_v7_apply]
  refine Finset.sum_congr rfl fun d _ => ?_
  rw [val_main_v5_apply, val_main_v6_apply, val_main_v2_apply, mul_comm]
  refine congrArg₂ (fun y z : EReal => y * z) (congrArg x1 (funext fun a => Fin.ext ?_)) ?_
  · match a with
    | ⟨0, _⟩ => rfl
    | ⟨1, _⟩ => rfl
    | ⟨2, _⟩ => rfl
    | ⟨3, _⟩ => rfl
  · refine Eq.trans (congrArg (val_main_v1 (F := Ideal) x0) (funext fun a => Fin.ext ?_)) (query_apply x0 b q ⟨c.val / 64, by omega⟩ ⟨d.val, by omega⟩)
    match a with
    | ⟨0, _⟩ => rfl
    | ⟨1, _⟩ => rfl
    | ⟨2, _⟩ => rfl
    | ⟨3, _⟩ => rfl

theorem v10_apply (b : Fin 2) (q : Fin 8192) (c : Fin 256) (s : Fin 8192) :
    val_main_v10 (F := Ideal) x0 x1 (six b q c s)
      = ∑ d : Fin 64, (x1 (ix4 b ⟨c.val / 64, by omega⟩ s ⟨64 + d.val, by omega⟩) : EReal) * x0 (ix3 b q ⟨c.val / 64 * 128 + (64 + d.val), by omega⟩) := by
  rw [val_main_v10_apply]
  refine Finset.sum_congr rfl fun d _ => ?_
  rw [val_main_v8_apply, val_main_v9_apply, val_main_v2_apply, mul_comm]
  refine congrArg₂ (fun y z : EReal => y * z) (congrArg x1 (funext fun a => Fin.ext ?_)) ?_
  · match a with
    | ⟨0, _⟩ => rfl
    | ⟨1, _⟩ => rfl
    | ⟨2, _⟩ => rfl
    | ⟨3, _⟩ => rfl
  · refine Eq.trans (congrArg (val_main_v1 (F := Ideal) x0) (funext fun a => Fin.ext ?_)) (query_apply x0 b q ⟨c.val / 64, by omega⟩ ⟨64 + d.val, by omega⟩)
    match a with
    | ⟨0, _⟩ => rfl
    | ⟨1, _⟩ => rfl
    | ⟨2, _⟩ => rfl
    | ⟨3, _⟩ => rfl

theorem v14_apply (b : Fin 2) (q : Fin 8192) (c : Fin 256) (s : Fin 8192) :
    val_main_v14 (F := Ideal) x0 x1 (six b q c s) = score x0 x1 b q c s * Ideal.log ((2 : ℝ) : EReal) := by
  rw [val_main_v14_apply, val_main_v11_apply, val_main_v13_apply, val_main_v12_apply, val_main_cst_apply, v7_apply, v10_apply]
  show _ * Ideal.log (Ideal.ofBits .f32 0x40000000#32) = _
  rw [ofBits_two]
  refine congrArg (fun y : EReal => y * _) ?_
  unfold score
  exact (Fin.sum_univ_add (fun d : Fin (64 + 64) => (x1 (ix4 b ⟨c.val / 64, by omega⟩ s d) : EReal) * x0 (ix3 b q ⟨c.val / 64 * 128 + d.val, by omega⟩))).symm

/-- The index of a row's maximum and of its normalizer. -/
abbrev mix (b : Fin 2) (q : Fin 8192) (c : Fin 256) : S2x4x8192.Idx := ix3 b ⟨c.val / 64, by omega⟩ q

theorem v17_isReal (h0 : ∀ i, IsReal (x0 i)) (h1 : ∀ i, IsReal (x1 i)) (b : Fin 2) (q : Fin 8192) (c : Fin 256) :
    IsReal (val_main_v17 (F := Ideal) x0 x1 (mix b q c)) := by
  rw [val_main_v17_apply, val_main_v16_apply, val_main_cst_1_apply]
  show IsReal (max (Ideal.ofBits .f32 0xFF800000#32) _)
  rw [ofBits_neg_inf, max_bot_left]
  unfold val_main_v15
  have hy : ∀ s, IsReal (val_main_v14 (F := Ideal) x0 x1 (six b q c s)) := fun s => by
    rw [v14_apply]
    refine (score_isReal h0 h1 b q c s).mul ?_
    show IsReal (if (2 : ℝ) ≤ 0 then (⊥ : EReal) else ((Real.log 2 : ℝ) : EReal))
    rw [if_neg (by norm_num)]; exact isReal_coe _
  revert hy
  generalize val_main_v14 (F := Ideal) x0 x1 = y
  intro hy
  refine Eq.mpr (congrArg IsReal (Host.reduce_eq_fold_single (FloatOps.maximumf (F := Ideal) (φ := .f32))
    (s := S2x4x8192x8192) y _ reducesTo_S2x4x8192x8192_S2x4x8192_d3 (by decide) h_S_ (mix b q c))) ?_
  show IsReal (Finset.univ.fold max (Ideal.ofBits .f32 0xFF800000#32) _)
  rw [ofBits_neg_inf]
  haveI : Nonempty (Fin (S2x4x8192x8192.size 3)) := ⟨(0 : Fin 8192)⟩
  refine isReal_fold_max _ fun s => ?_
  have e := hy s
  refine (congrArg (fun i => IsReal (y i)) (funext fun a => Fin.ext ?_)).mp e
  match a with
  | ⟨0, _⟩ => rfl
  | ⟨1, _⟩ => rfl
  | ⟨2, _⟩ => rfl
  | ⟨3, _⟩ => rfl

theorem v21_apply (b : Fin 2) (q : Fin 8192) (c : Fin 256) (s : Fin 8192) :
    val_main_v21 (F := Ideal) x0 x1 (six b q c s)
      = Ideal.exp (score x0 x1 b q c s * Ideal.log ((2 : ℝ) : EReal) - val_main_v17 (F := Ideal) x0 x1 (mix b q c)) := by
  rw [val_main_v21_apply, val_main_v20_apply, v14_apply, val_main_v19_apply, val_main_v18_apply]
  refine congrArg (fun z => Ideal.exp (score x0 x1 b q c s * Ideal.log ((2 : ℝ) : EReal) - z))
    (congrArg (val_main_v17 (F := Ideal) x0 x1) (funext fun a => Fin.ext ?_))
  match a with
  | ⟨0, _⟩ => rfl
  | ⟨1, _⟩ => rfl
  | ⟨2, _⟩ => rfl

theorem v22_apply (b : Fin 2) (q : Fin 8192) (c : Fin 256) :
    val_main_v22 (F := Ideal) x0 x1 (mix b q c)
      = ∑ s, Ideal.exp (score x0 x1 b q c s * Ideal.log ((2 : ℝ) : EReal) - val_main_v17 (F := Ideal) x0 x1 (mix b q c)) := by
  rw [val_main_v22_apply, val_main_cst_2_apply]
  show Ideal.ofBits .f32 0x00000000#32 + _ = _
  rw [Ideal.ofBits_zero_f32, zero_add]
  refine Finset.sum_congr rfl fun s _ => ?_
  rw [← v21_apply]
  refine congrArg (val_main_v21 (F := Ideal) x0 x1) (funext fun a => Fin.ext ?_)
  match a with
  | ⟨0, _⟩ => rfl
  | ⟨1, _⟩ => rfl
  | ⟨2, _⟩ => rfl
  | ⟨3, _⟩ => rfl

/-- THE REFERENCE AT AN ELEMENT, for real queries and keys. -/
theorem reference_apply (h0 : ∀ i, IsReal (x0 i)) (h1 : ∀ i, IsReal (x1 i)) (a : EReal) (ha : IsReal a) (b : Fin 2)
    (q : Fin 8192) (c : Fin 256) : val_main_v29 (F := Ideal) x0 x1 x2 (ix3 b q c) = attn x0 x1 x2 a b q c := by
  haveI : Nonempty (Fin 8192) := ⟨0⟩
  unfold attn
  rw [softmax_eq _ _ a _ (fun s => score_isReal h0 h1 b q c s) ha (v17_isReal x0 x1 h0 h1 b q c)]
  rw [val_main_v29_apply, val_main_v28_apply, val_main_v27_apply, val_main_v26_apply]
  refine Finset.sum_congr rfl fun s _ => ?_
  have hb := b.isLt
  have hq := q.isLt
  have hc := c.isLt
  have hs := s.isLt
  have e0 : ((b.val * 8192 + q.val) * 256 + c.val) / 2097152 = b.val := by omega
  have e1 : ((b.val * 8192 + q.val) * 256 + c.val) / 256 % 8192 = q.val := by omega
  have e2 : ((b.val * 8192 + q.val) * 256 + c.val) / 64 % 4 = c.val / 64 := by omega
  have e3 : ((b.val * 8192 + q.val) * 256 + c.val) % 64 = c.val % 64 := by omega
  refine congrArg₂ (fun y z : EReal => y * z) ?_ ?_
  · rw [val_main_v4_apply, val_main_v3_apply]
    refine congrArg x2 (funext fun a => Fin.ext ?_)
    match a with
    | ⟨0, _⟩ =>
      show (((((b.val * 8192 + q.val) * 256 + c.val) / 2097152 * 4 + ((b.val * 8192 + q.val) * 256 + c.val) / 64 % 4) * 64
        + ((b.val * 8192 + q.val) * 256 + c.val) % 64) * 8192 + s.val) / 2097152 = b.val
      rw [e0, e2, e3]
      omega
    | ⟨1, _⟩ =>
      show (((((b.val * 8192 + q.val) * 256 + c.val) / 2097152 * 4 + ((b.val * 8192 + q.val) * 256 + c.val) / 64 % 4) * 64
        + ((b.val * 8192 + q.val) * 256 + c.val) % 64) * 8192 + s.val) / 8192 % 256 = c.val
      rw [e0, e2, e3]
      omega
    | ⟨2, _⟩ =>
      show (((((b.val * 8192 + q.val) * 256 + c.val) / 2097152 * 4 + ((b.val * 8192 + q.val) * 256 + c.val) / 64 % 4) * 64
        + ((b.val * 8192 + q.val) * 256 + c.val) % 64) * 8192 + s.val) % 8192 = s.val
      rw [e0, e2, e3]
      omega
  · have hi : ridx_main_v26 (idx_main_v27 (idx_main_v28 (ix3 b q c))) s = six b q c s := by
      funext a
      refine Fin.ext ?_
      match a with
      | ⟨0, _⟩ => exact e0
      | ⟨1, _⟩ => exact e2
      | ⟨2, _⟩ => exact e1
      | ⟨3, _⟩ => rfl
    rw [hi, val_main_v25_apply, v21_apply, val_main_v24_apply, val_main_v23_apply, ← v22_apply]
    refine congrArg (Ideal.div _) (congrArg (val_main_v22 (F := Ideal) x0 x1) (funext fun a => Fin.ext ?_))
    match a with
    | ⟨0, _⟩ => rfl
    | ⟨1, _⟩ => rfl
    | ⟨2, _⟩ => rfl

end Cert.Attn.Mla

end
-- ==== Proof.MlaEntry.lean ====
module
public import proofs.«01_k».proof.Proof.MlaWords
public import proofs.«01_k».proof.Proof.Columns
public import proofs.«01_k».proof.Proof.RefMla
@[expose] public section
/-!
  The finished block of the latent attention, entry by entry, over the extended reals.
-/
set_option maxRecDepth 16384

namespace Cert.Attn.Mla

open Idealize.ShloMosaic Cert.Kernel2Ideal Cert.Kernel2Ideal.Gen

theorem cast_keys (X : Vec Ideal S1x1x256x128 .bf16) (k : Fin 256) (d : Fin 128) :
    (shapeCast S256x128 X shapeCasts_S1x1x256x128_S256x128 : FVec Ideal S256x128 .bf16) (ix2 k d) = X (ix4 0 0 k d) := by
  pointwise

theorem cast_values (X : Vec Ideal S1x1x64x256 .bf16) (d : Fin 64) (k : Fin 256) :
    (shapeCast S64x256 X shapeCasts_S1x1x64x256_S64x256 : FVec Ideal S64x256 .bf16) (ix2 d k) = X (ix4 0 0 d k) := by
  pointwise

theorem cast_queries (X : Vec Ideal S1x128x256 .bf16) (d : Fin 128) (q : Fin 256) :
    (shapeCast S128x256 X shapeCasts_S1x128x256_S128x256 : FVec Ideal S128x256 .bf16) (ix2 d q) = X (ix3 0 d q) := by
  pointwise

theorem keys_apply (x1 : Vec Ideal S1x2x8192x128 .bf16) (a : ℕ) (ha : a < 2) (c : Fin 32) (k : Fin 256) (d : Fin 128) :
    keys (F := Ideal) x1 a ha c.val c.isLt (ix2 k d) = x1 (ix4 0 ⟨a, ha⟩ ⟨256 * c.val + k.val, by omega⟩ d) := by
  unfold keys
  rw [cast_keys]
  refine congrArg x1 (funext fun i => ?_)
  fin_cases i
  · rfl
  · exact Fin.ext (show a + 1 * 0 = a by omega)
  · exact Fin.ext (show 256 * c.val + 1 * k.val = 256 * c.val + k.val by omega)
  · exact Fin.ext (show 0 + 1 * d.val = d.val by omega)

theorem values_apply (x2 : Vec Ideal S1x2x64x8192 .bf16) (a : ℕ) (ha : a < 2) (c : Fin 32) (d : Fin 64) (k : Fin 256) :
    values (F := Ideal) x2 a ha c.val c.isLt (ix2 d k) = x2 (ix4 0 ⟨a, ha⟩ d ⟨256 * c.val + k.val, by omega⟩) := by
  unfold values
  rw [cast_values]
  refine congrArg x2 (funext fun i => ?_)
  fin_cases i
  · rfl
  · exact Fin.ext (show a + 1 * 0 = a by omega)
  · exact Fin.ext (show 0 + 1 * d.val = d.val by omega)
  · exact Fin.ext (show 256 * c.val + 1 * k.val = 256 * c.val + k.val by omega)

theorem queries0_apply (x0 : Vec Ideal S1x256x256 .bf16) (d : Fin 128) (q : Fin 256) :
    queries0 (F := Ideal) x0 (ix2 d q) = x0 (ix3 0 ⟨d.val, by omega⟩ q) := by
  unfold queries0
  rw [cast_queries]
  refine congrArg x0 (funext fun i => ?_)
  fin_cases i
  · rfl
  · exact Fin.ext (show 0 + 1 * d.val = d.val by omega)
  · exact Fin.ext (show 0 + 1 * q.val = q.val by omega)

theorem queries1_apply (x0 : Vec Ideal S1x256x256 .bf16) (d : Fin 128) (q : Fin 256) :
    queries1 (F := Ideal) x0 (ix2 d q) = x0 (ix3 0 ⟨128 + d.val, by omega⟩ q) := by
  unfold queries1
  rw [cast_queries]
  refine congrArg x0 (funext fun i => ?_)
  fin_cases i
  · rfl
  · exact Fin.ext (show 128 + 1 * d.val = 128 + d.val by omega)
  · exact Fin.ext (show 0 + 1 * q.val = q.val by omega)

theorem product_apply (K : FVec Ideal S256x128 .bf16) (Q : FVec Ideal S128x256 .bf16) (k q : Fin 256) :
    product (F := Ideal) K Q (ix2 k q) = ∑ d : Fin 128, K (ix2 k d) * Q (ix2 d q) := by
  unfold product
  pointwise

theorem beside_apply (A B : FVec Ideal S256x256 .f32) (k : Fin 256) (w : Fin 512) :
    (concatenate S256x512 1 [⟨S256x256, A⟩, ⟨S256x256, B⟩] concatenates_S256x256_S256x256_S256x512_d1 : FVec Ideal S256x512 .f32) (ix2 k w)
      = if h : w.val < 256 then A (ix2 k ⟨w.val, h⟩) else B (ix2 k ⟨w.val - 256, by omega⟩) := by
  pointwise

/-- The score of key `s` in column `w`: head `w / 256` of the block, query `w % 256`. -/
noncomputable def scoreAt (x0 : Vec Ideal S1x256x256 .bf16) (x1 : Vec Ideal S1x2x8192x128 .bf16) (w : Fin 512) (s : Fin 8192) : EReal :=
  ∑ d : Fin 128, x1 (ix4 0 ⟨w.val / 256, by omega⟩ s d) * x0 (ix3 0 ⟨w.val / 256 * 128 + d.val, by omega⟩ ⟨w.val % 256, by omega⟩)

theorem scores_apply (x0 : Vec Ideal S1x256x256 .bf16) (x1 : Vec Ideal S1x2x8192x128 .bf16) (c : Fin 32) (k : Fin 256) (w : Fin 512) :
    scores (F := Ideal) x0 x1 c.val c.isLt (ix2 k w) = scoreAt x0 x1 w ⟨256 * c.val + k.val, by omega⟩ := by
  unfold scores
  rw [beside_apply]
  unfold scoreAt
  by_cases h : w.val < 256
  · rw [dif_pos h, product_apply]
    refine Finset.sum_congr rfl fun d _ => ?_
    rw [keys_apply, queries0_apply]
    refine congrArg₂ (fun y z => y * z) (congrArg (fun z => x1 (ix4 0 z _ _)) (Fin.ext (show 0 = w.val / 256 by omega)))
      (congrArg₂ (fun y z => x0 (ix3 0 y z)) (Fin.ext (show d.val = w.val / 256 * 128 + d.val by omega)) (Fin.ext (show w.val = w.val % 256 by omega)))
  · rw [dif_neg h, product_apply]
    refine Finset.sum_congr rfl fun d _ => ?_
    rw [keys_apply, queries1_apply]
    refine congrArg₂ (fun y z => y * z) (congrArg (fun z => x1 (ix4 0 z _ _)) (Fin.ext (show 1 = w.val / 256 by omega)))
      (congrArg₂ (fun y z => x0 (ix3 0 y z)) (Fin.ext (show 128 + d.val = w.val / 256 * 128 + d.val by omega)) (Fin.ext (show w.val - 256 = w.val % 256 by omega)))

theorem part0_apply (X : FVec Ideal S256x512 .bf16) (k q : Fin 256) : part0 (F := Ideal) X (ix2 k q) = X (ix2 k ⟨q.val, by omega⟩) := by
  unfold part0
  pointwise

theorem part1_apply (X : FVec Ideal S256x512 .bf16) (k q : Fin 256) : part1 (F := Ideal) X (ix2 k q) = X (ix2 k ⟨256 + q.val, by omega⟩) := by
  unfold part1
  pointwise

theorem mixed_apply (part : FVec Ideal S256x512 .bf16 → FVec Ideal S256x256 .bf16) (x2 : Vec Ideal S1x2x64x8192 .bf16) (a : ℕ) (ha : a < 2)
    (T : (c : ℕ) → c < 32 → FVec Ideal S256x512 .f32) (M : Vec Ideal S8x512 .f32)
    (d : Fin 64) (q : Fin 256) (w : Fin 512) (hp : ∀ X k, part X (ix2 k q) = X (ix2 k w)) (G : Fin 8192 → EReal)
    (hG : ∀ (c : Fin 32) (k : Fin 256), T c.val c.isLt (ix2 k w) = G ⟨256 * c.val + k.val, by omega⟩) :
    mixed (F := Ideal) part x2 a ha (stored T) M (ix2 d q) = ∑ s, x2 (ix4 0 ⟨a, ha⟩ d s) * Ideal.exp2 (G s - shiftAt M w) := by
  unfold mixed
  refine (chain_add_apply _ (fun c h => matmul (F := Ideal) dot_S64x256_S256x256_S64x256_1_0_0_1_n_n none (values x2 a ha c h)
      (part (truncf .bf16 (weight (stored T) M c h) bitsLt_bf16_f32)) (constant S64x256 .f32 0x00000000#32)) (ix2 d q) 32 (Nat.le_refl 32)).trans ?_
  rw [zero_apply, zero_add]
  refine Eq.trans ?_ (sum_runs 32 256 fun s => x2 (ix4 0 ⟨a, ha⟩ d s) * Ideal.exp2 (G s - shiftAt M w)).symm
  refine Finset.sum_congr rfl fun c _ => ?_
  pointwise
  refine Finset.sum_congr rfl fun k _ => ?_
  rw [values_apply, hp]
  refine congrArg (fun y => _ * y) ?_
  show weight (stored T) M c.val c.isLt (ix2 k w) = _
  rw [weight_apply, hG c k]

/-- The finished block before it is cut into its two heads' lanes. -/
theorem pay4_apply (s : FVec Ideal S8x512 .f32) (A B : FVec Ideal S64x256 .f32) (r : Fin 256) (e : Fin 128) :
    k0_pay4 (F := Ideal) s A B (ix3 0 r e)
      = if h : e.val < 64 then Ideal.div (A (ix2 ⟨e.val, h⟩ r)) (∑ j : Fin 8, s (ix2 j ⟨r.val, by omega⟩))
        else Ideal.div (B (ix2 ⟨e.val - 64, by omega⟩ r)) (∑ j : Fin 8, s (ix2 j ⟨256 + r.val, by omega⟩)) := by
  pointwise [k0_pay4]

theorem sums_total (T : (c : ℕ) → c < 32 → FVec Ideal S256x512 .f32) (M : Vec Ideal S8x512 .f32) (w : Fin 512) (G : Fin 8192 → EReal)
    (hG : ∀ (c : Fin 32) (k : Fin 256), T c.val c.isLt (ix2 k w) = G ⟨256 * c.val + k.val, by omega⟩) :
    ∑ j : Fin 8, sums (F := Ideal) (stored T) M (ix2 j w) = ∑ s, Ideal.exp2 (G s - shiftAt M w) := by
  have e : total (F := Ideal) (stored T) M (ix2 0 w) = ∑ j : Fin 8, sums (F := Ideal) (stored T) M (ix2 j w) := by
    unfold total
    generalize sums (F := Ideal) (stored T) M = y
    pointwise
  rw [← e, total_apply T M 0 w G hG]

theorem block_apply (x2 : Vec Ideal S1x2x64x8192 .bf16) (T : (c : ℕ) → c < 32 → FVec Ideal S256x512 .f32) (M : Vec Ideal S8x512 .f32)
    (r : Fin 256) (e : Fin 128) (G : Fin 8192 → EReal)
    (hG : ∀ (c : Fin 32) (k : Fin 256), T c.val c.isLt (ix2 k ⟨e.val / 64 * 256 + r.val, by omega⟩) = G ⟨256 * c.val + k.val, by omega⟩) :
    block (F := Ideal) x2 (stored T) M (ix3 0 r e)
      = Ideal.div (∑ s, x2 (ix4 0 ⟨e.val / 64, by omega⟩ ⟨e.val % 64, by omega⟩ s) * Ideal.exp2 (G s - shiftAt M ⟨e.val / 64 * 256 + r.val, by omega⟩))
          (∑ s, Ideal.exp2 (G s - shiftAt M ⟨e.val / 64 * 256 + r.val, by omega⟩)) := by
  unfold block
  rw [pay4_apply]
  by_cases h : e.val < 64
  · have hw : (⟨e.val / 64 * 256 + r.val, by omega⟩ : Fin 512) = ⟨r.val, by omega⟩ := Fin.ext (by dsimp only; omega)
    rw [hw] at hG ⊢
    rw [dif_pos h, mixed_apply part0 x2 0 (by decide) T M _ r ⟨r.val, by omega⟩ (fun X k => part0_apply X k r) G hG, sums_total T M _ G hG]
    refine congrArg (fun y => Ideal.div y _) (Finset.sum_congr rfl fun s _ => congrArg (fun y => y * _) ?_)
    exact congrArg₂ (fun y z => x2 (ix4 0 y z s)) (Fin.ext (show 0 = e.val / 64 by omega)) (Fin.ext (show e.val = e.val % 64 by omega))
  · have hw : (⟨e.val / 64 * 256 + r.val, by omega⟩ : Fin 512) = ⟨256 + r.val, by omega⟩ := Fin.ext (by dsimp only; omega)
    rw [hw] at hG ⊢
    rw [dif_neg h, mixed_apply part1 x2 1 (by decide) T M _ r ⟨256 + r.val, by omega⟩ (fun X k => part1_apply X k r) G hG, sums_total T M _ G hG]
    refine congrArg (fun y => Ideal.div y _) (Finset.sum_congr rfl fun s _ => congrArg (fun y => y * _) ?_)
    exact congrArg₂ (fun y z => x2 (ix4 0 y z s)) (Fin.ext (show 1 = e.val / 64 by omega)) (Fin.ext (show e.val - 64 = e.val % 64 by omega))

end Cert.Attn.Mla

end
-- ==== Proof.MlaArray.lean ====
module
public import proofs.«01_k».proof.Proof.MlaPoints
public import proofs.«01_k».proof.Proof.MlaEntry
public import proofs.«01_k».proof.Proof.MlaValueI
public import Idealize.ShloMosaic.Lib.Pipeline.ValueKit
@[expose] public section
/-!
  The array the latent attention leaves is the reference's, wherever queries and keys are real.
-/
set_option maxRecDepth 16384

namespace Cert.Attn.Mla

open Idealize.ShloMosaic Idealize.ShloMosaic.TcCoe Cert.Kernel2Ideal Cert.Kernel2Ideal.Gen Cert.Kernel2Ideal.Steps

variable (m : (ℓ : Loc nD τ sig) → Buf (Elt Ideal) ℓ) (c : Dev nD)

theorem index_q : ∀ t : Fin cfg0.N, t.val < 128 → win0_0.index t = ![t.val / 64, t.val / 32 % 2, t.val % 32] :=
  (by decide +kernel : ∀ t : Fin grid0.N, _)

theorem index_k : ∀ t : Fin cfg0.N, t.val < 128 → win0_1.index t = ![t.val / 64, t.val / 32 % 2, 0, 0] :=
  (by decide +kernel : ∀ t : Fin grid0.N, _)

theorem index_v : ∀ t : Fin cfg0.N, t.val ≠ 0 → win0_2.index t = ![(t.val - 1) / 64, (t.val - 1) / 32 % 2, 0, 0] :=
  (by decide +kernel : ∀ t : Fin grid0.N, _)

theorem index_o : ∀ t : Fin cfg0.N, t.val ≠ 0 → win0_3.index t = ![(t.val - 1) / 64, (t.val - 1) % 32, (t.val - 1) / 32 % 2] :=
  (by decide +kernel : ∀ t : Fin grid0.N, _)

theorem flush_ne : ∀ t : Fin cfg0.N, win0_3.flush t = true → t.val ≠ 0 :=
  (by decide +kernel : ∀ t : Fin grid0.N, _)

/-- The queries, keys and values as launched. -/
noncomputable abbrev argQ : Vec Ideal S2x8192x512 .bf16 := m ((c : Thread nD τ).loc main_arg0)
noncomputable abbrev argK : Vec Ideal S2x4x8192x128 .bf16 := m ((c : Thread nD τ).loc main_arg1)
noncomputable abbrev argV : Vec Ideal S2x256x8192 .bf16 := m ((c : Thread nD τ).loc main_arg2)

theorem block_q (t : Fin cfg0.N) (h : t.val < 128) (d : Fin 256) (q : Fin 256) :
    (iblk m c 0 t : Vec Ideal S1x256x256 .bf16) (ix3 0 d q)
      = argQ m c (ix3 ⟨t.val / 64, by omega⟩ ⟨t.val % 32 * 256 + q.val, by omega⟩ ⟨t.val / 32 % 2 * 256 + d.val, by omega⟩) := by
  have e := index_q t h
  blk_simp [iblk]
  entry_read
  pointwise
  blk_ext [e]

theorem block_k (t : Fin cfg0.N) (h : t.val < 128) (a : Fin 2) (s : Fin 8192) (d : Fin 128) :
    (iblk m c 1 t : Vec Ideal S1x2x8192x128 .bf16) (ix4 0 a s d)
      = argK m c (ix4 ⟨t.val / 64, by omega⟩ ⟨t.val / 32 % 2 * 2 + a.val, by omega⟩ s d) := by
  have e := index_k t h
  blk_simp [iblk]
  entry_read
  blk_ext [e]

theorem block_v (t : Fin cfg0.N) (h : t.val ≠ 0) (a : Fin 2) (d : Fin 64) (s : Fin 8192) :
    (iblk m c 2 t : Vec Ideal S1x2x64x8192 .bf16) (ix4 0 a d s)
      = argV m c (ix3 ⟨(t.val - 1) / 64, by have : t.val < 129 := t.isLt; omega⟩
          ⟨((t.val - 1) / 32 % 2 * 2 + a.val) * 64 + d.val, by omega⟩ s) := by
  have e := index_v t h
  blk_simp [iblk]
  entry_read
  pointwise
  blk_ext [e]

/-- The block a point finishes, entry by entry, is the reference's. -/
theorem point (h0 : ∀ i, IsReal (argQ m c i)) (h1 : ∀ i, IsReal (argK m c i)) (t : Fin cfg0.N) (h : t.val ≠ 0)
    (q : Fin 256) (e : Fin 128) :
    (outsAt0 m c t.val t.isLt).1 (ix3 0 q e)
      = Cert.Reference2Ideal.Read.val_main_v29 (F := Ideal) (argQ m c) (argK m c) (argV m c)
          (ix3 ⟨(t.val - 1) / 64, by have : t.val < 129 := t.isLt; omega⟩ ⟨(t.val - 1) % 32 * 256 + q.val, by omega⟩
            ⟨(t.val - 1) / 32 % 2 * 128 + e.val, by omega⟩) := by
  have hN : t.val < 129 := t.isLt
  have hs : ∀ s : Fin 8192, scoreAt (iblk m c 0 (prev t)) (iblk m c 1 (prev t)) ⟨e.val / 64 * 256 + q.val, by omega⟩ s
      = score (argQ m c) (argK m c) ⟨(t.val - 1) / 64, by omega⟩ ⟨(t.val - 1) % 32 * 256 + q.val, by omega⟩
            ⟨(t.val - 1) / 32 % 2 * 128 + e.val, by omega⟩ s := by
    intro s
    unfold scoreAt score
    refine Finset.sum_congr rfl fun d _ => ?_
    rw [block_q m c (prev t) (show t.val - 1 < 128 by omega), block_k m c (prev t) (show t.val - 1 < 128 by omega)]
    refine congrArg₂ (fun a b => a * b) (congrArg (argK m c) ?_) (congrArg (argQ m c) ?_)
    · refine congrArg (fun z => ix4 _ z s _) (Fin.ext ?_)
      show (t.val - 1) / 32 % 2 * 2 + (e.val / 64 * 256 + q.val) / 256 = ((t.val - 1) / 32 % 2 * 128 + e.val) / 64
      omega
    · refine congrArg₂ (fun y z => ix3 _ y z) (Fin.ext ?_) (Fin.ext ?_)
      · show (t.val - 1) % 32 * 256 + (e.val / 64 * 256 + q.val) % 256 = (t.val - 1) % 32 * 256 + q.val
        omega
      · show (t.val - 1) / 32 % 2 * 256 + ((e.val / 64 * 256 + q.val) / 256 * 128 + d.val)
          = ((t.val - 1) / 32 % 2 * 128 + e.val) / 64 * 128 + d.val
        omega
  have hr : ∀ s, IsReal (scoreAt (iblk m c 0 (prev t)) (iblk m c 1 (prev t)) ⟨e.val / 64 * 256 + q.val, by omega⟩ s) := by
    intro s; rw [hs]; exact score_isReal h0 h1 _ _ _ _
  have ha : IsReal (shiftAt (maxima (F := Ideal) (family m c (prev t))) ⟨e.val / 64 * 256 + q.val, by omega⟩) := by
    refine shiftAt_isReal _ _ fun r => maxima_isReal _ _ (fun n hn k => ?_) r
    rw [show family m c (prev t) n hn (ix2 k ⟨e.val / 64 * 256 + q.val, by omega⟩) = _ from
      scores_apply (iblk m c 0 (prev t)) (iblk m c 1 (prev t)) ⟨n, hn⟩ k ⟨e.val / 64 * 256 + q.val, by omega⟩]
    exact hr _
  rw [finishes m c t h, block_apply (iblk m c 2 t) (family m c (prev t)) _ q e
    (scoreAt (iblk m c 0 (prev t)) (iblk m c 1 (prev t)) ⟨e.val / 64 * 256 + q.val, by omega⟩)
    (fun n k => scores_apply (iblk m c 0 (prev t)) (iblk m c 1 (prev t)) n k _),
    reference_apply _ _ _ h0 h1 _ ha]
  unfold attn
  refine congrArg₂ Ideal.div (Finset.sum_congr rfl fun s _ => ?_) (Finset.sum_congr rfl fun s _ => by rw [hs])
  rw [hs, block_v m c t h]
  unfold value
  refine congrArg (fun z => z * _) (congrArg (argV m c) (congrArg (fun z => ix3 _ z s) (Fin.ext ?_)))
  show ((t.val - 1) / 32 % 2 * 2 + e.val / 64) * 64 + e.val % 64 = (t.val - 1) / 32 % 2 * 128 + e.val
  omega

/-- The whole array after the run. -/
theorem array (h0 : ∀ i, IsReal (argQ m c i)) (h1 : ∀ i, IsReal (argK m c i)) :
    (dats m 0 c).arrAt 3 cfg0.N = Cert.Reference2Ideal.Read.val_main_v29 (F := Ideal) (argQ m c) (argK m c) (argV m c) := by
  refine (dats m 0 c).arrAt_eq_of_covers 3 _ (by decide +kernel) fun t hf y => ?_
  have h : t.val ≠ 0 := flush_ne t hf
  have e := index_o t h
  blk_simp
  rw [after0_3]
  have hy : (y : S1x256x128.Idx) = ix3 0 (y 1) (y 2) := by
    funext a
    fin_cases a
    · exact Fin.ext (by have : (y 0).val < 1 := (y 0).isLt; show (y 0).val = 0; omega)
    · rfl
    · rfl
  refine (congrArg (outsAt0 m c t.val t.isLt).1 hy).trans ((point m c h0 h1 t h (y 1) (y 2)).trans ?_)
  have hz : (y 0).val < 1 := (y 0).isLt
  blk_ext [e]

end Cert.Attn.Mla

end
-- ==== Proof.MlaClaim.lean ====
module
public import proofs.«01_k».proof.Proof.MlaArray
public import proofs.«01_k».proof.Proof.Finite
public import proofs.«01_k».proof.Proof.Gen.Reference2Ideal.Run
public import proofs.«01_k».proof.Proof.Gen.Pre_finite_queries_keys2
public import proofs.«01_k».proof.Defs
@[expose] public section
/-!
  The latent attention and its reference leave the same array.
-/
set_option maxRecDepth 16384

namespace Cert.Attn.Mla

open Idealize.ShloMosaic Idealize.ShloMosaic.TcCoe Idealize.SL.Sem

theorem algebraic : Cert.algebraic_Kernel2Ideal_Reference2Ideal_pre_finite_queries_keys2 := by
  intro m g m' g' hpre hm
  refine ⟨fun c => Cert.Reference2Ideal.Read.val_main_v29 (F := Ideal) (argQ m c) (argK m c) (argV m c), ?_, ?_⟩
  · refine (θ_run _ _ _).mono (fun r h c => ?_) (Cert.Kernel2Ideal.Blocks.run_blocks m g)
    obtain ⟨h0, h1⟩ := hpre c
    exact ⟨(h c).1.trans (array m c (real_queries _ _ _ h0) (real_keys _ _ _ h1)), (h c).2⟩
  · refine (θ_run _ _ _).mono (fun r h c => ?_) (Cert.Reference2Ideal.Value.run m' g')
    refine ⟨(h c).1.trans ((Cert.Reference2Ideal.Read.val_main_v29_eq _ _).trans ?_), (h c).2⟩
    obtain ⟨e0, e1, e2⟩ := hm c
    rw [e0, e1, e2]

end Cert.Attn.Mla

end
-- ==== Proof.FfnWords.lean ====
module
public import proofs.«01_k».proof.Proof.Gen.Kernel3Ideal.Skeleton
public import Idealize.ShloMosaic.Lib.Pointwise
public import Idealize.ShloMosaic.Lib.Pipeline.Value
public import Idealize.ShloMosaic.Lib.Ring
@[expose] public section
/-!
  The words in which one step of the feed-forward kernel is told, over any arithmetic: 512 rows with 16 before and 16
  after them, and 11 tiles of 256 hidden columns that are stored side by side before the down projection.
-/
set_option maxRecDepth 16384

namespace Cert.Ffn

open Idealize.ShloMosaic Cert.Kernel3Ideal Cert.Kernel3Ideal.Gen

variable {F : FTy → Type} [FloatOps F]

theorem inb_weight (c : ℕ) (h : c + 256 ≤ 5632) : ∀ a, (![0, c] : Fin 2 → ℕ) a + S1024x256.size a ≤ S1024x5632.size a := by
  intro a; fin_cases a
  · show 0 + 1024 ≤ 1024; omega
  · exact h

theorem inb_tap (r c : ℕ) (hr : r < 3) (h : c + 256 ≤ 5632) : ∀ a, (![r, c] : Fin 2 → ℕ) a + S1x256.size a ≤ S3x5632.size a := by
  intro a; fin_cases a
  · show r + 1 ≤ 3; omega
  · exact h

theorem inb_bias (c : ℕ) (h : c + 256 ≤ 5632) : ∀ a, (![0, c] : Fin 2 → ℕ) a + S1x256.size a ≤ S1x5632.size a := by
  intro a; fin_cases a
  · show 0 + 1 ≤ 1; omega
  · exact h

theorem inb_tile (j : ℕ) (h : j < 11) : ∀ a, (![0, 256 * j] : Fin 2 → ℕ) a + S512x256.size a ≤ S512x2816.size a := by
  intro a; fin_cases a
  · show 0 + 512 ≤ 512; omega
  · show 256 * j + 256 ≤ 2816; omega

/-- The convolution of the projected rows, for 256 columns from `c` on. -/
noncomputable def convolved (H : FVec F S544x1024 .bf16) (x4 : Vec F S1024x5632 .bf16) (x5 : Vec F S3x5632 .f32) (x6 : Vec F S1x5632 .f32)
    (c : ℕ) (h : c + 256 ≤ 5632) : FVec F S512x256 .f32 :=
  k0_pay6 H (View.ld x4 (Rect.unit (s := S1024x5632) ![0, c] S1024x256.size (inb_weight c h)))
    (View.ld x5 (Rect.unit (s := S3x5632) ![0, c] S1x256.size (inb_tap 0 c (by omega) h)))
    (View.ld x5 (Rect.unit (s := S3x5632) ![1, c] S1x256.size (inb_tap 1 c (by omega) h)))
    (View.ld x5 (Rect.unit (s := S3x5632) ![2, c] S1x256.size (inb_tap 2 c (by omega) h)))
    (View.ld x6 (Rect.unit (s := S1x5632) ![0, c] S1x256.size (inb_bias c h)))

/-- The gate's activation times the gated value. -/
noncomputable def gated (g u : FVec F S512x256 .f32) : FVec F S512x256 .bf16 :=
  truncf .bf16 (mulf (mulf (mulf (broadcast S512x256 (Scalar.ofBits .f32 0x3F000000#32 : F .f32)) g)
    (addf (broadcast S512x256 (Scalar.ofBits .f32 0x3F800000#32 : F .f32))
      (tanh (mulf (broadcast S512x256 (Scalar.ofBits .f32 0x3F4C422A#32 : F .f32))
        (addf g (mulf (broadcast S512x256 (Scalar.ofBits .f32 0x3D372713#32 : F .f32)) (mulf (mulf g g) g))))))) u) bitsLt_bf16_f32

/-- Tile `j` of the hidden layer. -/
noncomputable def tile (H : FVec F S544x1024 .bf16) (x4 : Vec F S1024x5632 .bf16) (x5 : Vec F S3x5632 .f32) (x6 : Vec F S1x5632 .f32)
    (j : ℕ) (h : j < 11) : FVec F S512x256 .bf16 :=
  gated (convolved H x4 x5 x6 (256 * j) (by omega)) (convolved H x4 x5 x6 (2816 + 256 * j) (by omega))

/-- The tiles side by side. -/
noncomputable def abreast (T : (j : ℕ) → j < 11 → FVec F S512x256 .bf16) : Vec F S512x2816 .bf16 :=
  fun i => T ((i 1).val / 256) (by have : (i 1).val < 2816 := (i 1).isLt; omega) (ix2 (i 0) ⟨(i 1).val % 256, by omega⟩)

/-- The store of tile `j`. -/
noncomputable def store (T : (j : ℕ) → j < 11 → FVec F S512x256 .bf16) (j : ℕ) (h : j < 11) : View.Piece (Elt F) S512x2816 .bf16 :=
  ⟨Rect.unit (s := S512x2816) ![0, 256 * j] S512x256.size (inb_tile j h),
    (shapeCast S512x256 (T j h) shapeCasts_S512x256_S512x256 : FVec F S512x256 .bf16)⟩

/-- The first `n` stores, the last first. -/
noncomputable def stores (T : (j : ℕ) → j < 11 → FVec F S512x256 .bf16) (n : ℕ) : n ≤ 11 → List (View.Piece (Elt F) S512x2816 .bf16) :=
  Nat.rec (motive := fun n => n ≤ 11 → List (View.Piece (Elt F) S512x2816 .bf16)) (fun _ => [])
    (fun j ih h => store T j h :: ih (Nat.le_of_succ_le h)) n

theorem tiles_congr (T : (j : ℕ) → j < 11 → FVec F S512x256 .bf16) {j j' : ℕ} (h : j < 11) (h' : j' < 11)
    {i i' : S512x256.Idx} (hj : j = j') (hi : i = i') : T j h i = T j' h' i' := by
  subst hj; subst hi; rfl

theorem store_apply (T : (j : ℕ) → j < 11 → FVec F S512x256 .bf16) (j : ℕ) (h : j < 11) (y : (store T j h).1.shape.Idx) :
    (store T j h).2 y = abreast T ((store T j h).1.emb y) := by
  have e : (store T j h).2 y = T j h (ix2 (y 0) (y 1)) := by
    show (shapeCast S512x256 (T j h) shapeCasts_S512x256_S512x256 : FVec F S512x256 .bf16) y = _
    pointwise
  have hy : (y 1).val < 256 := (y 1).isLt
  rw [e]
  refine tiles_congr T h _ ?_ ?_
  · show j = (256 * j + 1 * (y 1).val) / 256
    omega
  · funext a
    fin_cases a
    · exact Fin.ext (by show (y 0).val = 0 + 1 * (y 0).val; omega)
    · exact Fin.ext (by show (y 1).val = (256 * j + 1 * (y 1).val) % 256; omega)

theorem stores_apply (T : (j : ℕ) → j < 11 → FVec F S512x256 .bf16) : ∀ (n : ℕ) (h : n ≤ 11), ∀ p ∈ stores T n h,
    ∀ y : p.1.shape.Idx, p.2 y = abreast T (p.1.emb y)
  | 0, _, p, hp, _ => absurd hp (List.not_mem_nil)
  | n + 1, h, p, hp, y => by
    rcases List.mem_cons.mp (show p ∈ store T n h :: stores T n (Nat.le_of_succ_le h) from hp) with rfl | hp
    · exact store_apply T n h y
    · exact stores_apply T n (Nat.le_of_succ_le h) p hp y

/-- Every entry lies in one of the stores. -/
theorem stores_cover (T : (j : ℕ) → j < 11 → FVec F S512x256 .bf16) (i : S512x2816.Idx) :
    ∃ p ∈ stores T 11 (Nat.le_refl 11), i ∈ p.1.set :=
  View.cover_of_tiledL (stores T 11 (Nat.le_refl 11)) S512x256.size (by rfl) i

/-- The 11 stores together leave the tiles side by side. -/
theorem canon_stores (T : (j : ℕ) → j < 11 → FVec F S512x256 .bf16) : View.canon (stores T 11 (Nat.le_refl 11)) = abreast T :=
  funext fun i => View.canon_apply_of_pieces (abreast T) _ (fun p hp => stores_apply T 11 (Nat.le_refl 11) p hp) i (stores_cover T i)

/-- The hidden layer of a step. -/
noncomputable def acts (H : FVec F S544x1024 .bf16) (x4 : Vec F S1024x5632 .bf16) (x5 : Vec F S3x5632 .f32) (x6 : Vec F S1x5632 .f32) :
    Vec F S512x2816 .bf16 :=
  abreast (tile H x4 x5 x6)

/-- A step's result from its hidden layer. -/
noncomputable def finished (A : Vec F S512x2816 .bf16) (x3 : Vec F S1x512x1024 .f32) (x7 : Vec F S2816x1024 .bf16) (x8 : Vec F S1x1024 .f32) :
    FVec F S1x512x1024 .f32 :=
  k0_pay1 (k0_pay69 A x7) (k0_pay70 x3) (k0_pay71 x8) (k0_pay72 A x7) k0_pay73

end Cert.Ffn
end
-- ==== Proof.FfnKernel.lean ====
module
public import proofs.«01_k».proof.Proof.FfnWords
public import proofs.«01_k».proof.Proof.Gen.Kernel3Ideal.Frame
public import Idealize.ShloMosaic.Lib.Pipeline.ValueKit
@[expose] public section
/-!
  One step of the feed-forward kernel in the words of `FfnWords`.
-/
set_option maxRecDepth 16384

namespace Cert.Ffn

open Idealize.ShloMosaic Idealize.ShloMosaic.TcCoe Idealize.ShloMosaic.Tactic Cert.Kernel3Ideal Cert.Kernel3Ideal.Gen

variable {F : FTy → Type} [FloatOps F]

/-- A load of the whole scratch after the 11 stores reads the tiles side by side. -/
theorem covered {κ : Kind} {sp : Space} (v : View sig κ sp S512x2816 .bf16) (T : (j : ℕ) → j < 11 → FVec F S512x256 .bf16)
    (h : ∀ a, (![0, 0] : Fin 2 → ℕ) a + S512x2816.size a ≤ S512x2816.size a) :
    v.readCov (stores T 11 (Nat.le_refl 11)) (Rect.unit (s := S512x2816) ![0, 0] S512x2816.size h).toLoadRect = abreast T := by
  rw [View.readCov_eq_canon', canon_stores]
  exact View.ld_unit_zero (by decide) h (abreast T)

theorem out_A (c : Dev nD) (i : grid0.Coords) (arg2 : Memref sig .tc .vmem S1x512x1024 .bf16) (harg2 : arg2.IsWhole) (arg3 : Memref sig .tc .vmem S1x16x1024 .bf16) (harg3 : arg3.IsWhole) (arg4 : Memref sig .tc .vmem S1x16x1024 .bf16) (harg4 : arg4.IsWhole) (arg5 : Memref sig .tc .vmem S1x512x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S1x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S512x2816 .bf16) (harg12 : arg12.IsWhole)
    (x0 : Vec F S1x512x1024 .bf16) (x1 : Vec F S1x16x1024 .bf16) (x2 : Vec F S1x16x1024 .bf16) (x3 : Vec F S1x512x1024 .f32) (x4 : Vec F S1024x5632 .bf16) (x5 : Vec F S3x5632 .f32) (x6 : Vec F S1x5632 .f32) (x7 : Vec F S2816x1024 .bf16) (x8 : Vec F S1x1024 .f32) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = finished (acts (k0_pay2 i x1 x2 x0) x4 x5 x6) x3 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  rw [View.canon_unit_zero (by decide)]
  sl_unfold_words
  simp only [View.readAt_eq_ld, harg2.read_unread, harg3.read_unread, harg4.read_unread, harg5.read_unread, harg6.read_unread, harg7.read_unread, harg8.read_unread, harg9.read_unread, harg10.read_unread]
  simp (disch := decide) only [View.ld_unit_lit']
  refine Eq.trans (b := finished (arg12.view.readCov (stores (tile (k0_pay2 i x1 x2 x0) x4 x5 x6) 11 (Nat.le_refl 11))
    (Rect.unit (s := S512x2816) ![0, 0] S512x2816.size inb_S512x2816_S512x2816_0_0).toLoadRect) x3 x7 x8) ?_ ?_
  · sl_kernel_rfl
  · rw [covered]
    rfl

end Cert.Ffn
end
-- ==== Proof.RefFfn.lean ====
module
public import proofs.«01_k».proof.Proof.Gen.Reference3Ideal.Read
public import Idealize.ShloMosaic.Lib.Pointwise
@[expose] public section
/-!
  The plain feed-forward part read at one element of its result, over the extended reals.
-/
set_option maxRecDepth 16384

noncomputable section

open scoped BigOperators

namespace Cert.Ffn

open Idealize.ShloMosaic Cert.Reference3Ideal Cert.Reference3Ideal.Gen Cert.Reference3Ideal.Read

variable (x0 : Vec Ideal S2x8192x1024 .bf16) (x1 : Vec Ideal S2x8192x1024 .f32) (x2 : Vec Ideal S1024x5632 .f32)
  (x3 : Vec Ideal S3x5632 .f32) (x4 : Vec Ideal S5632 .f32) (x5 : Vec Ideal S2816x1024 .f32) (x6 : Vec Ideal S1024 .f32)

/-- Row `p` of the input with a row of zeros before it and one after it. -/
def row (b : Fin 2) (p : ℕ) (k : Fin 1024) : EReal :=
  if h : 1 ≤ p ∧ p ≤ 8192 then x0 (ix3 b ⟨p - 1, by omega⟩ k) else 0

/-- The up projection of a padded row. -/
def up (b : Fin 2) (p : ℕ) (f : Fin 5632) : EReal := ∑ k : Fin 1024, row x0 b p k * x2 (ix2 k f)

/-- Three neighbouring rows with their weights, and the bias. -/
def taps (u v w a b c d : EReal) : EReal := u * a + v * b + w * c + d

/-- The convolution of the projected rows. -/
def conv (b : Fin 2) (l : ℕ) (f : Fin 5632) : EReal :=
  taps (up x0 x2 b l f) (up x0 x2 b (l + 1) f) (up x0 x2 b (l + 2) f) (x3 (ix2 0 f)) (x3 (ix2 1 f)) (x3 (ix2 2 f)) (x4 (ix1 f))

/-- The gate's activation times the gated value. -/
def gate (g u : EReal) : EReal :=
  Ideal.ofBits .f32 0x3F000000#32 * g * (Ideal.ofBits .f32 0x3F800000#32
    + Ideal.tanh (Ideal.ofBits .f32 0x3F4C422A#32 * (g + Ideal.ofBits .f32 0x3D372713#32 * (g * g * g)))) * u

/-- The hidden layer. -/
def hidden (b : Fin 2) (l : ℕ) (f : Fin 2816) : EReal :=
  gate (conv x0 x2 x3 x4 b l ⟨f.val, by omega⟩) (conv x0 x2 x3 x4 b l ⟨2816 + f.val, by omega⟩)

/-- The down projection. -/
def down (b : Fin 2) (l : ℕ) (n : Fin 1024) : EReal := ∑ f : Fin 2816, hidden x0 x2 x3 x4 b l f * x5 (ix2 f n)

/-- The norm of a row, the scale and the residual. -/
def normed (r : Fin 1024 → EReal) (n : Fin 1024) (x g : EReal) : EReal :=
  x + r n * Ideal.rsqrt (Ideal.div (∑ k, r k * r k) (Ideal.ofBits .f32 0x44800000#32) + Ideal.ofBits .f32 0x358637BD#32) * g

/-- The result at one element. -/
def result (b : Fin 2) (l : Fin 8192) (n : Fin 1024) : EReal :=
  normed (down x0 x2 x3 x4 x5 b l.val) n (x1 (ix3 b l n)) (x6 (ix1 n))

theorem v1_apply (b : Fin 2) (l : Fin 8192) (f : Fin 5632) :
    val_main_v1 (F := Ideal) x0 x2 (ix3 b l f) = ∑ k : Fin 1024, x0 (ix3 b l k) * x2 (ix2 k f) := by
  rw [val_main_v1_apply]
  refine Finset.sum_congr rfl fun k _ => congrArg₂ (fun y z => y * z) (congrArg x0 (funext fun a => ?_)) (congrArg x2 (funext fun a => ?_))
  · fin_cases a <;> rfl
  · fin_cases a <;> rfl

theorem v2_apply (b : Fin 2) (p : Fin 8194) (f : Fin 5632) :
    val_main_v2 (F := Ideal) x0 x2 (ix3 b p f) = up x0 x2 b p.val f := by
  unfold val_main_v2 up row
  by_cases h : 1 ≤ p.val ∧ p.val ≤ 8192
  · simp only [dif_pos h]
    rw [← v1_apply x0 x2 b ⟨p.val - 1, by omega⟩ f]
    generalize val_main_v1 (F := Ideal) x0 x2 = y
    rw [pad_apply, dif_pos (by
      intro a; fin_cases a
      · exact ⟨Nat.zero_le _, Nat.mod_one _, by show (b.val - 0) / 1 < 2; omega⟩
      · exact ⟨h.1, Nat.mod_one _, by show (p.val - 1) / 1 < 8192; omega⟩
      · exact ⟨Nat.zero_le _, Nat.mod_one _, by show (f.val - 0) / 1 < 5632; omega⟩)]
    refine congrArg y (funext fun a => ?_)
    fin_cases a
    · exact Fin.ext (by show (b.val - 0) / 1 = b.val; omega)
    · exact Fin.ext (by show (p.val - 1) / 1 = p.val - 1; omega)
    · exact Fin.ext (by show (f.val - 0) / 1 = f.val; omega)
  · simp only [dif_neg h]
    generalize val_main_v1 (F := Ideal) x0 x2 = y
    rw [pad_apply, dif_neg (by
      intro H
      have h1 := H 1
      have h2 : (p.val - 1) / 1 < 8192 := h1.2.2
      have h3 : 1 ≤ p.val := h1.1
      omega)]
    rw [val_main_call0_v0_apply, val_main_c_apply]
    refine Eq.trans (b := (((0#32 : BitVec 32).toInt : ℝ) : EReal)) rfl ?_
    simp

theorem v25_apply (b : Fin 2) (l : Fin 8192) (f : Fin 5632) :
    val_main_v25 (F := Ideal) x0 x2 x3 x4 (ix3 b l f) = conv x0 x2 x3 x4 b l.val f := by
  unfold conv taps
  rw [← v2_apply x0 x2 b ⟨l.val, by omega⟩ f, ← v2_apply x0 x2 b ⟨l.val + 1, by omega⟩ f, ← v2_apply x0 x2 b ⟨l.val + 2, by omega⟩ f]
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply]
  generalize val_main_v2 (F := Ideal) x0 x2 = y
  have hf : f.val % 5632 = f.val := Nat.mod_eq_of_lt f.isLt
  refine congrArg₂ (fun p q : EReal => p + q) (congrArg₂ (fun p q : EReal => p + q) (congrArg₂ (fun p q : EReal => p + q)
    (congrArg₂ (fun p q : EReal => p * q) ?_ ?_) (congrArg₂ (fun p q : EReal => p * q) ?_ ?_)) (congrArg₂ (fun p q : EReal => p * q) ?_ ?_)) ?_
  · exact congrArg y (funext fun a => by fin_cases a <;> rfl)
  · refine congrArg x3 (funext fun a => ?_)
    fin_cases a
    · rfl
    · exact Fin.ext hf
  · refine congrArg y (funext fun a => ?_)
    fin_cases a
    · rfl
    · exact Fin.ext (Nat.add_comm 1 l.val)
    · rfl
  · refine congrArg x3 (funext fun a => ?_)
    fin_cases a
    · rfl
    · exact Fin.ext hf
  · refine congrArg y (funext fun a => ?_)
    fin_cases a
    · rfl
    · exact Fin.ext (Nat.add_comm 2 l.val)
    · rfl
  · refine congrArg x3 (funext fun a => ?_)
    fin_cases a
    · rfl
    · exact Fin.ext hf
  · exact congrArg x4 (funext fun a => by fin_cases a; rfl)

theorem v41_apply (b : Fin 2) (l : Fin 8192) (f : Fin 2816) :
    val_main_v41 (F := Ideal) x0 x2 x3 x4 (ix3 b l f) = hidden x0 x2 x3 x4 b l.val f := by
  unfold hidden
  rw [← v25_apply x0 x2 x3 x4 b l ⟨f.val, by omega⟩, ← v25_apply x0 x2 x3 x4 b l ⟨2816 + f.val, by omega⟩]
  have h27 : val_main_v27 (F := Ideal) x0 x2 x3 x4 (ix3 b l f) = val_main_v25 (F := Ideal) x0 x2 x3 x4 (ix3 b l ⟨2816 + f.val, by omega⟩) := by
    rw [val_main_v27_apply]
    generalize val_main_v25 (F := Ideal) x0 x2 x3 x4 = y
    exact congrArg y (funext fun a => by fin_cases a <;> rfl)
  have h26 : val_main_v26 (F := Ideal) x0 x2 x3 x4 (ix3 b l f) = val_main_v25 (F := Ideal) x0 x2 x3 x4 (ix3 b l ⟨f.val, by omega⟩) := by
    rw [val_main_v26_apply]
    generalize val_main_v25 (F := Ideal) x0 x2 x3 x4 = y
    exact congrArg y (funext fun a => by fin_cases a <;> rfl)
  rw [← h26, ← h27]
  rw [val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_cst_apply, val_main_cst_0_apply, val_main_cst_1_apply, val_main_cst_2_apply]
  generalize val_main_v26 (F := Ideal) x0 x2 x3 x4 (ix3 b l f) = g
  generalize val_main_v27 (F := Ideal) x0 x2 x3 x4 (ix3 b l f) = u
  unfold gate
  rw [mul_comm (Ideal.ofBits .f32 0x3F000000#32) g, mul_assoc g]
  rfl

theorem v42_apply (b : Fin 2) (l : Fin 8192) (n : Fin 1024) :
    val_main_v42 (F := Ideal) x0 x2 x3 x4 x5 (ix3 b l n) = down x0 x2 x3 x4 x5 b l.val n := by
  rw [val_main_v42_apply]
  unfold down
  refine Finset.sum_congr rfl fun f _ => ?_
  rw [← v41_apply x0 x2 x3 x4 b l f]
  generalize val_main_v41 (F := Ideal) x0 x2 x3 x4 = y
  refine congrArg₂ (fun y z : EReal => y * z) (congrArg y (funext fun a => ?_)) (congrArg x5 (funext fun a => ?_))
  · fin_cases a <;> rfl
  · fin_cases a <;> rfl

theorem reference_apply (b : Fin 2) (l : Fin 8192) (n : Fin 1024) :
    val_main_v56 (F := Ideal) x0 x1 x2 x3 x4 x5 x6 (ix3 b l n) = result x0 x1 x2 x3 x4 x5 x6 b l n := by
  unfold result normed
  simp only [← v42_apply]
  rw [val_main_v56_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_cst_3_apply, val_main_cst_4_apply, val_main_cst_5_apply]
  simp only [val_main_v43_apply]
  generalize val_main_v42 (F := Ideal) x0 x2 x3 x4 x5 = y
  refine congrArg₂ (fun p q : EReal => p + q) rfl (congrArg₂ (fun p q : EReal => p * q) (congrArg₂ (fun p q : EReal => p * q) rfl
    (congrArg Ideal.rsqrt (congrArg₂ (fun p q : EReal => p + q) (congrArg₂ Ideal.div ?_ rfl) rfl))) ?_)
  · refine (congrArg₂ (fun p q : EReal => p + q) Ideal.ofBits_zero_f32 (Finset.sum_congr rfl fun k _ => ?_)).trans (zero_add _)
    have e : idx_main_v44 (idx_main_v45 (idx_main_v51 (ix3 b l n))) k = ix3 b l k := funext fun a => by fin_cases a <;> rfl
    exact congrArg (fun i => y i * y i) e
  · exact congrArg x6 (funext fun a => by fin_cases a; rfl)

end Cert.Ffn

end
-- ==== Proof.FfnEntry.lean ====
module
public import proofs.«01_k».proof.Proof.FfnWords
public import proofs.«01_k».proof.Proof.RefFfn
@[expose] public section
/-!
  A step of the feed-forward kernel, entry by entry, over the extended reals.
-/
set_option maxRecDepth 16384

namespace Cert.Ffn

open Idealize.ShloMosaic Cert.Kernel3Ideal Cert.Kernel3Ideal.Gen

/-- Rows 15 to 17 of a convolution's window are the neighbours of row 0, and so on. -/
theorem pay6_apply (H : FVec Ideal S544x1024 .bf16) (W : Vec Ideal S1024x256 .bf16) (a b c d : Vec Ideal S1x256 .f32) (q : Fin 512) (l : Fin 256) :
    k0_pay6 (F := Ideal) H W a b c d (ix2 q l)
      = taps (∑ k : Fin 1024, H (ix2 ⟨q.val + 15, by omega⟩ k) * W (ix2 k l)) (∑ k : Fin 1024, H (ix2 ⟨q.val + 16, by omega⟩ k) * W (ix2 k l))
          (∑ k : Fin 1024, H (ix2 ⟨q.val + 17, by omega⟩ k) * W (ix2 k l)) (a (ix2 0 l)) (b (ix2 0 l)) (c (ix2 0 l)) (d (ix2 0 l)) := by
  unfold k0_pay6 taps
  pointwise
  have h1 : (⟨(16 + q.val + 544 - 1) % 544, by omega⟩ : Fin 544) = ⟨q.val + 15, by omega⟩ := Fin.ext (by dsimp only; omega)
  have h2 : (⟨16 + q.val, by omega⟩ : Fin 544) = ⟨q.val + 16, by omega⟩ := Fin.ext (by dsimp only; omega)
  have h3 : (⟨(16 + q.val + 544 - 543) % 544, by omega⟩ : Fin 544) = ⟨q.val + 17, by omega⟩ := Fin.ext (by dsimp only; omega)
  have e : ∀ r r' : Fin 544, r = r' → ∑ x : Fin 1024, H (ix2 r x) * W (ix2 x l) = ∑ x : Fin 1024, H (ix2 r' x) * W (ix2 x l) := by
    rintro r _ rfl; rfl
  exact congrArg (fun y => y + d (ix2 0 l)) (congrArg₂ (fun y z => y + z) (congrArg₂ (fun y z => y + z)
    (congrArg (fun y => y * a (ix2 0 l)) (e _ _ h1)) (congrArg (fun y => y * b (ix2 0 l)) (e _ _ h2)))
    (congrArg (fun y => y * c (ix2 0 l)) (e _ _ h3)))

theorem first_iff : ∀ n : Fin 16, Scalar.cmpi .sgt (BitVec.ofNat 32 n.val) 0#32 = if 0 < n.val then 1#1 else 0#1 := by decide

theorem last_iff : ∀ n : Fin 16, Scalar.cmpi .slt (BitVec.ofNat 32 n.val) 15#32 = if n.val < 15 then 1#1 else 0#1 := by decide

theorem select_ite (c : Prop) [Decidable c] (a b : EReal) : Scalar.select (if c then 1#1 else 0#1) a b = if c then a else b := by
  split_ifs <;> rfl

theorem extended_apply (i : grid0.Coords) (n : Fin 16) (hn : (i 1).val = n.val) (p : Vec Ideal S1x16x1024 .bf16) (s : Vec Ideal S1x16x1024 .bf16)
    (x : Vec Ideal S1x512x1024 .bf16) (r : Fin 544) (k : Fin 1024) :
    k0_pay2 (F := Ideal) i p s x (ix2 r k)
      = if h : r.val < 16 then (if 0 < n.val then p (ix3 0 ⟨r.val, h⟩ k) else 0)
        else if h' : r.val < 528 then x (ix3 0 ⟨r.val - 16, by omega⟩ k)
        else (if n.val < 15 then s (ix3 0 ⟨r.val - 528, by omega⟩ k) else 0) := by
  unfold k0_pay2
  rw [hn, first_iff, last_iff]
  pointwise
  simp only [select_ite]
  by_cases h : r.val < 16
  · simp only [dif_pos h]
  · simp only [dif_neg h]
    by_cases h' : r.val < 528
    · rw [dif_pos (show r.val - 16 < 512 by omega), dif_pos h']
    · rw [dif_neg (show ¬r.val - 16 < 512 by omega), dif_neg h']
      have e : (⟨r.val - 16 - 512, by omega⟩ : Fin 16) = ⟨r.val - 528, by omega⟩ := Fin.ext (by dsimp only; omega)
      rw [e]

/-- The convolution read at column `f`. -/
noncomputable def tapped (H : FVec Ideal S544x1024 .bf16) (x4 : Vec Ideal S1024x5632 .bf16) (x5 : Vec Ideal S3x5632 .f32) (x6 : Vec Ideal S1x5632 .f32)
    (q : Fin 512) (f : Fin 5632) : EReal :=
  taps (∑ k : Fin 1024, H (ix2 ⟨q.val + 15, by omega⟩ k) * x4 (ix2 k f)) (∑ k : Fin 1024, H (ix2 ⟨q.val + 16, by omega⟩ k) * x4 (ix2 k f))
    (∑ k : Fin 1024, H (ix2 ⟨q.val + 17, by omega⟩ k) * x4 (ix2 k f)) (x5 (ix2 0 f)) (x5 (ix2 1 f)) (x5 (ix2 2 f)) (x6 (ix2 0 f))

theorem convolved_apply (H : FVec Ideal S544x1024 .bf16) (x4 : Vec Ideal S1024x5632 .bf16) (x5 : Vec Ideal S3x5632 .f32) (x6 : Vec Ideal S1x5632 .f32)
    (c : ℕ) (h : c + 256 ≤ 5632) (q : Fin 512) (l : Fin 256) :
    convolved (F := Ideal) H x4 x5 x6 c h (ix2 q l) = tapped H x4 x5 x6 q ⟨c + l.val, by omega⟩ := by
  have hl : (0 : ℕ) + 1 * 0 = 0 := rfl
  have e4 : ∀ k : Fin 1024, View.ld x4 (Rect.unit (s := S1024x5632) ![0, c] S1024x256.size (inb_weight c h)) (ix2 k l)
      = x4 (ix2 k ⟨c + l.val, by omega⟩) := fun k => congrArg x4 (funext fun a => by
    fin_cases a
    · exact Fin.ext (show 0 + 1 * k.val = k.val by omega)
    · exact Fin.ext (show c + 1 * l.val = c + l.val by omega))
  have e5 : ∀ (r : ℕ) (hr : r < 3), View.ld x5 (Rect.unit (s := S3x5632) ![r, c] S1x256.size (inb_tap r c hr h)) (ix2 0 l)
      = x5 (ix2 ⟨r, hr⟩ ⟨c + l.val, by omega⟩) := fun r hr => congrArg x5 (funext fun a => by
    fin_cases a
    · exact Fin.ext (show r + 1 * 0 = r by omega)
    · exact Fin.ext (show c + 1 * l.val = c + l.val by omega))
  have e6 : View.ld x6 (Rect.unit (s := S1x5632) ![0, c] S1x256.size (inb_bias c h)) (ix2 0 l)
      = x6 (ix2 0 ⟨c + l.val, by omega⟩) := congrArg x6 (funext fun a => by
    fin_cases a
    · rfl
    · exact Fin.ext (show c + 1 * l.val = c + l.val by omega))
  unfold convolved
  rw [pay6_apply, e5 0 (by omega), e5 1 (by omega), e5 2 (by omega), e6]
  simp only [e4]
  rfl

theorem gated_apply (g u : FVec Ideal S512x256 .f32) (i : S512x256.Idx) : gated (F := Ideal) g u i = gate (g i) (u i) := by
  unfold gated gate
  pointwise

theorem acts_apply (H : FVec Ideal S544x1024 .bf16) (x4 : Vec Ideal S1024x5632 .bf16) (x5 : Vec Ideal S3x5632 .f32) (x6 : Vec Ideal S1x5632 .f32)
    (q : Fin 512) (f : Fin 2816) :
    acts (F := Ideal) H x4 x5 x6 (ix2 q f)
      = gate (tapped H x4 x5 x6 q ⟨f.val, by omega⟩) (tapped H x4 x5 x6 q ⟨2816 + f.val, by omega⟩) := by
  show tile (F := Ideal) H x4 x5 x6 (f.val / 256) (by omega) (ix2 q ⟨f.val % 256, by omega⟩) = _
  unfold tile
  rw [gated_apply, convolved_apply, convolved_apply]
  exact congrArg₂ (fun y z => gate (tapped H x4 x5 x6 q y) (tapped H x4 x5 x6 q z)) (Fin.ext (by dsimp only; omega)) (Fin.ext (by dsimp only; omega))

theorem finished_apply (A : Vec Ideal S512x2816 .bf16) (x3 : Vec Ideal S1x512x1024 .f32) (x7 : Vec Ideal S2816x1024 .bf16) (x8 : Vec Ideal S1x1024 .f32)
    (q : Fin 512) (n : Fin 1024) :
    finished (F := Ideal) A x3 x7 x8 (ix3 0 q n)
      = normed (fun n => ∑ f : Fin 2816, A (ix2 q f) * x7 (ix2 f n)) n (x3 (ix3 0 q n)) (x8 (ix2 0 n)) := by
  have e : ∀ n, k0_pay69 (F := Ideal) A x7 (ix2 q n) = ∑ f : Fin 2816, A (ix2 q f) * x7 (ix2 f n) := by
    intro n
    pointwise [k0_pay69]
  unfold finished normed
  simp only [← e]
  unfold k0_pay72
  generalize k0_pay69 (F := Ideal) A x7 = y
  pointwise [k0_pay1, k0_pay70, k0_pay71, k0_pay73]

end Cert.Ffn
end
-- ==== Proof.FfnArray.lean ====
module
public import proofs.«01_k».proof.Proof.FfnKernel
public import proofs.«01_k».proof.Proof.FfnEntry
public import proofs.«01_k».proof.Proof.Gen.Kernel3Ideal.Value
public import Idealize.ShloMosaic.Lib.Pipeline.ValueKit
@[expose] public section
/-!
  The array the feed-forward kernel leaves is the reference's.
-/
set_option maxRecDepth 16384

namespace Cert.Ffn

open Idealize.ShloMosaic Idealize.ShloMosaic.TcCoe Cert.Kernel3Ideal Cert.Kernel3Ideal.Gen

variable (m : (ℓ : Loc nD τ sig) → Buf (Elt Ideal) ℓ) (c : Dev nD)

theorem index_block : ∀ t : Fin cfg0.N, win0_0.index t = ![t.val / 16, t.val % 16, 0] :=
  (by decide +kernel : ∀ t : Fin grid0.N, _)

theorem index_before : ∀ t : Fin cfg0.N, win0_1.index t = ![t.val / 16, t.val % 16 * 32 - 1, 0] :=
  (by decide +kernel : ∀ t : Fin grid0.N, _)

theorem index_after : ∀ t : Fin cfg0.N, t.val % 16 < 15 → win0_2.index t = ![t.val / 16, (t.val % 16 + 1) * 32, 0] :=
  (by decide +kernel : ∀ t : Fin grid0.N, _)

theorem index_resid : ∀ t : Fin cfg0.N, win0_3.index t = ![t.val / 16, t.val % 16, 0] :=
  (by decide +kernel : ∀ t : Fin grid0.N, _)

theorem index_up : ∀ t : Fin cfg0.N, win0_4.index t = ![0, 0] :=
  (by decide +kernel : ∀ t : Fin grid0.N, _)

theorem index_taps : ∀ t : Fin cfg0.N, win0_5.index t = ![0, 0] :=
  (by decide +kernel : ∀ t : Fin grid0.N, _)

theorem index_bias : ∀ t : Fin cfg0.N, win0_6.index t = ![0, 0] :=
  (by decide +kernel : ∀ t : Fin grid0.N, _)

theorem index_down : ∀ t : Fin cfg0.N, win0_7.index t = ![0, 0] :=
  (by decide +kernel : ∀ t : Fin grid0.N, _)

theorem index_scale : ∀ t : Fin cfg0.N, win0_8.index t = ![0, 0] :=
  (by decide +kernel : ∀ t : Fin grid0.N, _)

theorem index_out : ∀ t : Fin cfg0.N, win0_9.index t = ![t.val / 16, t.val % 16, 0] :=
  (by decide +kernel : ∀ t : Fin grid0.N, _)

theorem coord : ∀ t : Fin cfg0.N, (grid0.coords t 1).val = t.val % 16 :=
  (by decide +kernel : ∀ t : Fin grid0.N, _)

/-- The arguments as launched. -/
noncomputable abbrev argH : Vec Ideal S2x8192x1024 .bf16 := m ((c : Thread nD τ).loc main_arg0)
noncomputable abbrev argX : Vec Ideal S2x8192x1024 .f32 := m ((c : Thread nD τ).loc main_arg1)
noncomputable abbrev argUp : Vec Ideal S1024x5632 .f32 := m ((c : Thread nD τ).loc main_arg2)
noncomputable abbrev argTaps : Vec Ideal S3x5632 .f32 := m ((c : Thread nD τ).loc main_arg3)
noncomputable abbrev argBias : Vec Ideal S5632 .f32 := m ((c : Thread nD τ).loc main_arg4)
noncomputable abbrev argDown : Vec Ideal S2816x1024 .f32 := m ((c : Thread nD τ).loc main_arg5)
noncomputable abbrev argScale : Vec Ideal S1024 .f32 := m ((c : Thread nD τ).loc main_arg6)

theorem block_in (t : Fin cfg0.N) (r : Fin 512) (k : Fin 1024) :
    (iblk m c 0 t : Vec Ideal S1x512x1024 .bf16) (ix3 0 r k)
      = argH m c (ix3 ⟨t.val / 16, by have : t.val < 32 := t.isLt; omega⟩ ⟨t.val % 16 * 512 + r.val, by omega⟩ k) := by
  have e := index_block t
  blk_simp [iblk]
  entry_read
  blk_ext [e]

theorem block_before (t : Fin cfg0.N) (h : 0 < t.val % 16) (r : Fin 16) (k : Fin 1024) :
    (iblk m c 1 t : Vec Ideal S1x16x1024 .bf16) (ix3 0 r k)
      = argH m c (ix3 ⟨t.val / 16, by have : t.val < 32 := t.isLt; omega⟩ ⟨t.val % 16 * 512 + r.val - 16, by omega⟩ k) := by
  have e := index_before t
  blk_simp [iblk]
  entry_read
  blk_ext [e]

theorem block_after (t : Fin cfg0.N) (h : t.val % 16 < 15) (r : Fin 16) (k : Fin 1024) :
    (iblk m c 2 t : Vec Ideal S1x16x1024 .bf16) (ix3 0 r k)
      = argH m c (ix3 ⟨t.val / 16, by have : t.val < 32 := t.isLt; omega⟩ ⟨t.val % 16 * 512 + 512 + r.val, by omega⟩ k) := by
  have e := index_after t h
  blk_simp [iblk]
  entry_read
  blk_ext [e]

theorem block_resid (t : Fin cfg0.N) (r : Fin 512) (k : Fin 1024) :
    (iblk m c 3 t : Vec Ideal S1x512x1024 .f32) (ix3 0 r k)
      = argX m c (ix3 ⟨t.val / 16, by have : t.val < 32 := t.isLt; omega⟩ ⟨t.val % 16 * 512 + r.val, by omega⟩ k) := by
  have e := index_resid t
  blk_simp [iblk]
  entry_read
  blk_ext [e]

theorem block_up (t : Fin cfg0.N) (k : Fin 1024) (f : Fin 5632) :
    (iblk m c 4 t : Vec Ideal S1024x5632 .bf16) (ix2 k f) = argUp m c (ix2 k f) := by
  have e := index_up t
  blk_simp [iblk]
  entry_read
  pointwise
  blk_ext [e]

theorem block_taps (t : Fin cfg0.N) (k : Fin 3) (f : Fin 5632) :
    (iblk m c 5 t : Vec Ideal S3x5632 .f32) (ix2 k f) = argTaps m c (ix2 k f) := by
  have e := index_taps t
  blk_simp [iblk]
  entry_read
  blk_ext [e]

theorem block_bias (t : Fin cfg0.N) (f : Fin 5632) :
    (iblk m c 6 t : Vec Ideal S1x5632 .f32) (ix2 0 f) = argBias m c (ix1 f) := by
  have e := index_bias t
  blk_simp [iblk]
  entry_read
  pointwise
  blk_ext [e]

theorem block_down (t : Fin cfg0.N) (f : Fin 2816) (n : Fin 1024) :
    (iblk m c 7 t : Vec Ideal S2816x1024 .bf16) (ix2 f n) = argDown m c (ix2 f n) := by
  have e := index_down t
  blk_simp [iblk]
  entry_read
  pointwise
  blk_ext [e]

theorem block_scale (t : Fin cfg0.N) (n : Fin 1024) :
    (iblk m c 8 t : Vec Ideal S1x1024 .f32) (ix2 0 n) = argScale m c (ix1 n) := by
  have e := index_scale t
  blk_simp [iblk]
  entry_read
  pointwise
  blk_ext [e]

/-- The rows a step extends its block to, the 15 it does not read left out. -/
theorem extended_row (t : Fin cfg0.N) (r : Fin 544) (hr : 15 ≤ r.val) (k : Fin 1024) :
    k0_pay2 (F := Ideal) (grid0.coords t) (iblk m c 1 t) (iblk m c 2 t) (iblk m c 0 t) (ix2 r k)
      = row (argH m c) ⟨t.val / 16, by have : t.val < 32 := t.isLt; omega⟩ (t.val % 16 * 512 + r.val - 15) k := by
  have hN : t.val < 32 := t.isLt
  rw [extended_apply (grid0.coords t) ⟨t.val % 16, by omega⟩ (coord t)]
  unfold row
  by_cases h : r.val < 16
  · rw [dif_pos h]
    by_cases h0 : 0 < t.val % 16
    · rw [if_pos h0, dif_pos (by omega), block_before m c t h0]
      exact congrArg (fun z => argH m c (ix3 _ z k)) (Fin.ext (by dsimp only; omega))
    · rw [if_neg h0, dif_neg (by omega)]
  · rw [dif_neg h]
    by_cases h' : r.val < 528
    · rw [dif_pos h', dif_pos (by omega), block_in]
      exact congrArg (fun z => argH m c (ix3 _ z k)) (Fin.ext (by dsimp only; omega))
    · rw [dif_neg h']
      by_cases h1 : t.val % 16 < 15
      · rw [if_pos h1, dif_pos (by omega), block_after m c t h1]
        exact congrArg (fun z => argH m c (ix3 _ z k)) (Fin.ext (by dsimp only; omega))
      · rw [if_neg h1, dif_neg (by omega)]

theorem tapped_conv (t : Fin cfg0.N) (q : Fin 512) (f : Fin 5632) :
    tapped (k0_pay2 (F := Ideal) (grid0.coords t) (iblk m c 1 t) (iblk m c 2 t) (iblk m c 0 t)) (iblk m c 4 t) (iblk m c 5 t) (iblk m c 6 t) q f
      = conv (argH m c) (argUp m c) (argTaps m c) (argBias m c) ⟨t.val / 16, by have : t.val < 32 := t.isLt; omega⟩ (t.val % 16 * 512 + q.val) f := by
  have hu : ∀ (d : ℕ) (hd : d < 3), (∑ k : Fin 1024, k0_pay2 (F := Ideal) (grid0.coords t) (iblk m c 1 t) (iblk m c 2 t) (iblk m c 0 t)
        (ix2 ⟨q.val + (15 + d), by omega⟩ k) * (iblk m c 4 t : Vec Ideal S1024x5632 .bf16) (ix2 k f))
      = up (argH m c) (argUp m c) ⟨t.val / 16, by have : t.val < 32 := t.isLt; omega⟩ (t.val % 16 * 512 + q.val + d) f := by
    intro d hd
    unfold up
    refine Finset.sum_congr rfl fun k _ => ?_
    rw [extended_row m c t _ (by dsimp only; omega), block_up]
    exact congrArg (fun p => row (argH m c) _ p k * _) (by dsimp only; omega)
  unfold tapped conv
  rw [hu 0 (by omega), hu 1 (by omega), hu 2 (by omega), block_taps, block_taps, block_taps, block_bias]
  rfl

/-- The block a point leaves, entry by entry, is the reference's. -/
theorem point (t : Fin cfg0.N) (q : Fin 512) (n : Fin 1024) :
    (outsAt0 m c t : Vec Ideal S1x512x1024 .f32) (ix3 0 q n)
      = Cert.Reference3Ideal.Read.val_main_v56 (F := Ideal) (argH m c) (argX m c) (argUp m c) (argTaps m c) (argBias m c) (argDown m c) (argScale m c)
          (ix3 ⟨t.val / 16, by have : t.val < 32 := t.isLt; omega⟩ ⟨t.val % 16 * 512 + q.val, by omega⟩ n) := by
  unfold outsAt0
  rw [out_A, finished_apply, reference_apply, block_resid, block_scale]
  unfold result
  refine congrArg (fun y => normed y n _ _) (funext fun n' => ?_)
  unfold down
  refine Finset.sum_congr rfl fun f _ => ?_
  rw [acts_apply, tapped_conv, tapped_conv, block_down]
  rfl

/-- The whole array after the run. -/
theorem array :
    (dats m 0 c).arrAt 9 cfg0.N
      = Cert.Reference3Ideal.Read.val_main_v56 (F := Ideal) (argH m c) (argX m c) (argUp m c) (argTaps m c) (argBias m c) (argDown m c) (argScale m c) := by
  refine (dats m 0 c).arrAt_eq_of_covers 9 _ (by decide +kernel) fun t hf y => ?_
  have e := index_out t
  blk_simp
  rw [after0_9]
  have hy : (y : S1x512x1024.Idx) = ix3 0 (y 1) (y 2) := by
    funext a
    fin_cases a
    · exact Fin.ext (by have : (y 0).val < 1 := (y 0).isLt; show (y 0).val = 0; omega)
    · rfl
    · rfl
  refine (congrArg (outsAt0 m c t) hy).trans ((point m c t (y 1) (y 2)).trans ?_)
  have hz : (y 0).val < 1 := (y 0).isLt
  blk_ext [e]

end Cert.Ffn

end
-- ==== Proof.FfnClaim.lean ====
module
public import proofs.«01_k».proof.Proof.FfnArray
public import proofs.«01_k».proof.Proof.Gen.Reference3Ideal.Run
public import proofs.«01_k».proof.Defs
@[expose] public section
/-!
  The feed-forward kernel and its reference leave the same array.
-/
set_option maxRecDepth 16384

namespace Cert.Ffn

open Idealize.ShloMosaic Idealize.ShloMosaic.TcCoe Idealize.SL.Sem

theorem algebraic : Cert.algebraic_Kernel3Ideal_Reference3Ideal := by
  intro m g m' g' _ hm
  refine ⟨fun c => Cert.Reference3Ideal.Read.val_main_v56 (F := Ideal) (argH m c) (argX m c) (argUp m c) (argTaps m c) (argBias m c) (argDown m c) (argScale m c), ?_, ?_⟩
  · refine (θ_run _ _ _).mono (fun r h c => ?_) (Cert.Kernel3Ideal.Value.run_blocks m g)
    exact ⟨(h c).1.trans (array m c), (h c).2⟩
  · refine (θ_run _ _ _).mono (fun r h c => ?_) (Cert.Reference3Ideal.Value.run m' g')
    refine ⟨(h c).1.trans ((Cert.Reference3Ideal.Read.val_main_v56_eq _ _).trans ?_), (h c).2⟩
    obtain ⟨e0, e1, e2, e3, e4, e5, e6⟩ := hm c
    rw [e0, e1, e2, e3, e4, e5, e6]

end Cert.Ffn

end
-- ==== Proof.RefOut.lean ====
module
public import proofs.«01_k».proof.Proof.Gen.Reference4Ideal.Read
public import Idealize.ShloMosaic.Lib.Pointwise
@[expose] public section
/-!
  The plain output projection read at one element of its two results, over the extended reals.
-/
set_option maxRecDepth 16384

noncomputable section

open scoped BigOperators

namespace Cert.Out

open Idealize.ShloMosaic Cert.Reference4Ideal Cert.Reference4Ideal.Gen Cert.Reference4Ideal.Read

/-- Entry `k` of a row divided by the root of its mean square, times a scale. -/
def normed {n : ℕ} (d : BitVec 32) (r : Fin n → EReal) (k : Fin n) (g : EReal) : EReal :=
  r k * Ideal.rsqrt (Ideal.div (∑ k, r k * r k) (Ideal.ofBits .f32 d) + Ideal.ofBits .f32 0x358637BD#32) * g

/-- Three products, one after another, are the product of what they take side by side. -/
theorem three (f : Fin 1024 → EReal) :
    ∑ k, f k = (∑ k : Fin 256, f ⟨k.val, by omega⟩) + (∑ k : Fin 512, f ⟨256 + k.val, by omega⟩) + ∑ k : Fin 256, f ⟨768 + k.val, by omega⟩ :=
  (Fin.sum_univ_add (a := 768) (b := 256) f).trans (congrArg (fun y => y + ∑ k : Fin 256, f ⟨768 + k.val, by omega⟩)
    (Fin.sum_univ_add (a := 256) (b := 512) fun k => f ⟨k.val, by omega⟩))

variable (x0 : Vec Ideal S2x8192x1024 .f32) (x1 : Vec Ideal S2x8192x256 .f32) (x2 : Vec Ideal S2x8192x512 .bf16)
  (x3 : Vec Ideal S2x8192x256 .bf16) (x4 : Vec Ideal S256 .f32) (x5 : Vec Ideal S512 .f32) (x6 : Vec Ideal S256 .f32)
  (x7 : Vec Ideal S1024x1024 .f32) (x8 x9 : Vec Ideal S1024 .f32)

/-- The norms of the three mixers' rows. -/
def first (b : Fin 2) (l : Fin 8192) (k : Fin 256) : EReal := normed 0x43800000#32 (fun k => x1 (ix3 b l k)) k (x4 (ix1 k))
def second (b : Fin 2) (l : Fin 8192) (k : Fin 512) : EReal := normed 0x44000000#32 (fun k => x2 (ix3 b l k)) k (x5 (ix1 k))
def third (b : Fin 2) (l : Fin 8192) (k : Fin 256) : EReal := normed 0x43800000#32 (fun k => x3 (ix3 b l k)) k (x6 (ix1 k))

/-- The output projection of the three rows. -/
def mixed (b : Fin 2) (l : Fin 8192) (n : Fin 1024) : EReal :=
  (∑ k : Fin 256, first x1 x4 b l k * x7 (ix2 ⟨k.val, by omega⟩ n)) + (∑ k : Fin 512, second x2 x5 b l k * x7 (ix2 ⟨256 + k.val, by omega⟩ n))
    + ∑ k : Fin 256, third x3 x6 b l k * x7 (ix2 ⟨768 + k.val, by omega⟩ n)

/-- The first result: the residual with the norm of the projection. -/
def resid (b : Fin 2) (l : Fin 8192) (n : Fin 1024) : EReal :=
  x0 (ix3 b l n) + normed 0x44800000#32 (mixed x1 x2 x3 x4 x5 x6 x7 b l) n (x8 (ix1 n))

/-- The second result: the norm of the first. -/
def after (b : Fin 2) (l : Fin 8192) (n : Fin 1024) : EReal :=
  normed 0x44800000#32 (resid x0 x1 x2 x3 x4 x5 x6 x7 x8 b l) n (x9 (ix1 n))

theorem v12_apply (b : Fin 2) (l : Fin 8192) (k : Fin 256) : val_main_v12 (F := Ideal) x1 x4 (ix3 b l k) = first x1 x4 b l k := by
  unfold first normed
  rw [val_main_v12_apply, val_main_v11_apply, val_main_v10_apply, val_main_v9_apply, val_main_v8_apply, val_main_v7_apply, val_main_v6_apply, val_main_v5_apply, val_main_v4_apply, val_main_v3_apply, val_main_v2_apply, val_main_v1_apply,
    val_main_cst_apply, val_main_cst_0_apply, val_main_cst_1_apply]
  simp only [val_main_v0_apply]
  refine congrArg₂ (fun p q : EReal => p * q) (congrArg₂ (fun p q : EReal => p * q) rfl
    (congrArg Ideal.rsqrt (congrArg₂ (fun p q : EReal => p + q) (congrArg₂ Ideal.div ?_ rfl) rfl))) ?_
  · refine (congrArg₂ (fun p q : EReal => p + q) Ideal.ofBits_zero_f32 (Finset.sum_congr rfl fun k' _ => ?_)).trans (zero_add _)
    have e : idx_main_v1 (idx_main_v2 (idx_main_v8 (ix3 b l k))) k' = ix3 b l k' := funext fun a => by fin_cases a <;> rfl
    exact congrArg (fun i => (x1 i : EReal) * x1 i) e
  · exact congrArg x4 (funext fun a => by fin_cases a; rfl)

theorem v26_apply (b : Fin 2) (l : Fin 8192) (k : Fin 512) : val_main_v26 (F := Ideal) x2 x5 (ix3 b l k) = second x2 x5 b l k := by
  unfold second normed
  rw [val_main_v26_apply, val_main_v25_apply, val_main_v24_apply, val_main_v23_apply, val_main_v22_apply, val_main_v21_apply, val_main_v20_apply, val_main_v19_apply, val_main_v18_apply, val_main_v17_apply, val_main_v16_apply, val_main_v15_apply,
    val_main_cst_2_apply, val_main_cst_3_apply, val_main_cst_4_apply]
  simp only [val_main_v14_apply, val_main_v13_apply]
  refine congrArg₂ (fun p q : EReal => p * q) (congrArg₂ (fun p q : EReal => p * q) rfl
    (congrArg Ideal.rsqrt (congrArg₂ (fun p q : EReal => p + q) (congrArg₂ Ideal.div ?_ rfl) rfl))) ?_
  · refine (congrArg₂ (fun p q : EReal => p + q) Ideal.ofBits_zero_f32 (Finset.sum_congr rfl fun k' _ => ?_)).trans (zero_add _)
    have e : idx_main_v15 (idx_main_v16 (idx_main_v22 (ix3 b l k))) k' = ix3 b l k' := funext fun a => by fin_cases a <;> rfl
    exact congrArg (fun i => (x2 i : EReal) * x2 i) e
  · exact congrArg x5 (funext fun a => by fin_cases a; rfl)

theorem v40_apply (b : Fin 2) (l : Fin 8192) (k : Fin 256) : val_main_v40 (F := Ideal) x3 x6 (ix3 b l k) = third x3 x6 b l k := by
  unfold third normed
  rw [val_main_v40_apply, val_main_v39_apply, val_main_v38_apply, val_main_v37_apply, val_main_v36_apply, val_main_v35_apply, val_main_v34_apply, val_main_v33_apply, val_main_v32_apply, val_main_v31_apply, val_main_v30_apply, val_main_v29_apply,
    val_main_cst_5_apply, val_main_cst_6_apply, val_main_cst_7_apply]
  simp only [val_main_v28_apply, val_main_v27_apply]
  refine congrArg₂ (fun p q : EReal => p * q) (congrArg₂ (fun p q : EReal => p * q) rfl
    (congrArg Ideal.rsqrt (congrArg₂ (fun p q : EReal => p + q) (congrArg₂ Ideal.div ?_ rfl) rfl))) ?_
  · refine (congrArg₂ (fun p q : EReal => p + q) Ideal.ofBits_zero_f32 (Finset.sum_congr rfl fun k' _ => ?_)).trans (zero_add _)
    have e : idx_main_v29 (idx_main_v30 (idx_main_v36 (ix3 b l k))) k' = ix3 b l k' := funext fun a => by fin_cases a <;> rfl
    exact congrArg (fun i => (x3 i : EReal) * x3 i) e
  · exact congrArg x6 (funext fun a => by fin_cases a; rfl)

theorem v41_apply (b : Fin 2) (l : Fin 8192) (k : Fin 1024) :
    val_main_v41 (F := Ideal) x1 x2 x3 x4 x5 x6 (ix3 b l k)
      = if h : k.val < 256 then first x1 x4 b l ⟨k.val, h⟩
        else if h' : k.val < 768 then second x2 x5 b l ⟨k.val - 256, by omega⟩ else third x3 x6 b l ⟨k.val - 768, by omega⟩ := by
  simp only [← v12_apply, ← v26_apply, ← v40_apply]
  unfold val_main_v41
  generalize val_main_v12 (F := Ideal) x1 x4 = u
  generalize val_main_v26 (F := Ideal) x2 x5 = v
  generalize val_main_v40 (F := Ideal) x3 x6 = w
  pointwise
  by_cases h : k.val < 256
  · simp only [dif_pos h]
  · simp only [dif_neg h]
    by_cases h' : k.val < 768
    · rw [dif_pos (show k.val - 256 < 512 by omega), dif_pos h']
    · rw [dif_neg (show ¬k.val - 256 < 512 by omega), dif_neg h']
      exact congrArg (fun i => w (ix3 b l i)) (Fin.ext (by dsimp only; omega))

theorem v42_apply (b : Fin 2) (l : Fin 8192) (n : Fin 1024) :
    val_main_v42 (F := Ideal) x1 x2 x3 x4 x5 x6 x7 (ix3 b l n) = mixed x1 x2 x3 x4 x5 x6 x7 b l n := by
  rw [val_main_v42_apply]
  have e : ∀ k, val_main_v41 (F := Ideal) x1 x2 x3 x4 x5 x6 (lidx_main_v42 (ix3 b l n) k) * x7 (ridx_main_v42 (ix3 b l n) k)
      = val_main_v41 (F := Ideal) x1 x2 x3 x4 x5 x6 (ix3 b l k) * x7 (ix2 k n) := by
    intro k
    generalize val_main_v41 (F := Ideal) x1 x2 x3 x4 x5 x6 = y
    exact congrArg₂ (fun y z : EReal => y * z) (congrArg y (funext fun a => by fin_cases a <;> rfl)) (congrArg x7 (funext fun a => by fin_cases a <;> rfl))
  refine (Finset.sum_congr rfl fun k _ => e k).trans ((three _).trans ?_)
  unfold mixed
  refine congrArg₂ (fun y z : EReal => y + z) (congrArg₂ (fun y z : EReal => y + z) ?_ ?_) ?_
  · refine Finset.sum_congr rfl fun k _ => congrArg (fun y : EReal => y * _) ?_
    rw [v41_apply, dif_pos (show k.val < 256 from k.isLt)]
  · refine Finset.sum_congr rfl fun k _ => congrArg (fun y : EReal => y * _) ?_
    rw [v41_apply, dif_neg (by dsimp only; omega), dif_pos (by dsimp only; omega)]
    exact congrArg (second x2 x5 b l) (Fin.ext (by dsimp only; omega))
  · refine Finset.sum_congr rfl fun k _ => congrArg (fun y : EReal => y * _) ?_
    rw [v41_apply, dif_neg (by dsimp only; omega), dif_neg (by dsimp only; omega)]
    exact congrArg (third x3 x6 b l) (Fin.ext (by dsimp only; omega))

theorem v56_apply (b : Fin 2) (l : Fin 8192) (n : Fin 1024) :
    val_main_v56 (F := Ideal) x0 x1 x2 x3 x4 x5 x6 x7 x8 (ix3 b l n) = resid x0 x1 x2 x3 x4 x5 x6 x7 x8 b l n := by
  unfold resid normed
  simp only [← v42_apply]
  rw [val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply,
    val_main_cst_8_apply, val_main_cst_9_apply, val_main_cst_10_apply]
  simp only [val_main_v43_apply]
  generalize val_main_v42 (F := Ideal) x1 x2 x3 x4 x5 x6 x7 = y
  refine congrArg₂ (fun p q : EReal => p + q) rfl (congrArg₂ (fun p q : EReal => p * q) (congrArg₂ (fun p q : EReal => p * q) rfl
    (congrArg Ideal.rsqrt (congrArg₂ (fun p q : EReal => p + q) (congrArg₂ Ideal.div ?_ rfl) rfl))) ?_)
  · refine (congrArg₂ (fun p q : EReal => p + q) Ideal.ofBits_zero_f32 (Finset.sum_congr rfl fun k _ => ?_)).trans (zero_add _)
    have e : idx_main_v44 (idx_main_v45 (idx_main_v51 (ix3 b l n))) k = ix3 b l k := funext fun a => by fin_cases a <;> rfl
    exact congrArg (fun i => (y i : EReal) * y i) e
  · exact congrArg x8 (funext fun a => by fin_cases a; rfl)

theorem v70_apply (b : Fin 2) (l : Fin 8192) (n : Fin 1024) :
    val_main_v70 (F := Ideal) x0 x1 x2 x3 x4 x5 x6 x7 x8 x9 (ix3 b l n) = after x0 x1 x2 x3 x4 x5 x6 x7 x8 x9 b l n := by
  unfold after normed
  simp only [← v56_apply]
  rw [val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply,
    val_main_cst_11_apply, val_main_cst_12_apply, val_main_cst_13_apply]
  simp only [val_main_v57_apply]
  generalize val_main_v56 (F := Ideal) x0 x1 x2 x3 x4 x5 x6 x7 x8 = y
  refine congrArg₂ (fun p q : EReal => p * q) (congrArg₂ (fun p q : EReal => p * q) rfl
    (congrArg Ideal.rsqrt (congrArg₂ (fun p q : EReal => p + q) (congrArg₂ Ideal.div ?_ rfl) rfl))) ?_
  · refine (congrArg₂ (fun p q : EReal => p + q) Ideal.ofBits_zero_f32 (Finset.sum_congr rfl fun k _ => ?_)).trans (zero_add _)
    have e : idx_main_v58 (idx_main_v59 (idx_main_v65 (ix3 b l n))) k = ix3 b l k := funext fun a => by fin_cases a <;> rfl
    exact congrArg (fun i => (y i : EReal) * y i) e
  · exact congrArg x9 (funext fun a => by fin_cases a; rfl)

end Cert.Out

end
-- ==== Proof.OutEntry.lean ====
module
public import proofs.«01_k».proof.Proof.RefOut
public import proofs.«01_k».proof.Proof.Gen.Kernel4Ideal.Frame
public import Idealize.ShloMosaic.Lib.Pipeline.ValueKit
@[expose] public section
/-!
  The blocks a step of the output projection leaves, entry by entry, over the extended reals.
-/
set_option maxRecDepth 16384

namespace Cert.Out

open Idealize.ShloMosaic Cert.Kernel4Ideal Cert.Kernel4Ideal.Gen

theorem pay4_apply (v : Vec Ideal S1x1024x256 .f32) (g : Vec Ideal S1x256 .f32) (r : Fin 1024) (k : Fin 256) :
    k0_pay4 (F := Ideal) v g (ix2 r k) = normed 0x43800000#32 (fun k => v (ix3 0 r k)) k (g (ix2 0 k)) := by
  unfold normed
  pointwise [k0_pay4]

theorem pay5_apply (v : Vec Ideal S1x1024x512 .bf16) (g : Vec Ideal S1x512 .f32) (r : Fin 1024) (k : Fin 512) :
    k0_pay5 (F := Ideal) v g (ix2 r k) = normed 0x44000000#32 (fun k => v (ix3 0 r k)) k (g (ix2 0 k)) := by
  unfold normed
  pointwise [k0_pay5]

theorem pay6_apply (v : Vec Ideal S1x1024x256 .bf16) (r : Fin 1024) (k : Fin 256) :
    k0_pay6 (F := Ideal) v (ix2 r k) = v (ix3 0 r k) := by
  pointwise [k0_pay6]

theorem pay7_apply (a : FVec Ideal S1024x256 .bf16) (b : FVec Ideal S1024x512 .bf16) (c : FVec Ideal S1024x256 .f32) (g : Vec Ideal S1x256 .f32)
    (u : Vec Ideal S256x1024 .bf16) (v : Vec Ideal S512x1024 .bf16) (w : Vec Ideal S256x1024 .bf16) (r n : Fin 1024) :
    k0_pay7 (F := Ideal) a b c g u v w (ix2 r n)
      = (∑ k : Fin 256, a (ix2 r k) * u (ix2 k n)) + (∑ k : Fin 512, b (ix2 r k) * v (ix2 k n))
        + ∑ k : Fin 256, normed 0x43800000#32 (fun k => c (ix2 r k)) k (g (ix2 0 k)) * w (ix2 k n) := by
  unfold normed
  pointwise [k0_pay7]

/-- The projection of a block's rows. -/
noncomputable def mix (x1 : Vec Ideal S1x1024x256 .f32) (x2 : Vec Ideal S1x1024x512 .bf16) (x3 : Vec Ideal S1x1024x256 .bf16) (x4 : Vec Ideal S1x256 .f32)
    (x5 : Vec Ideal S1x512 .f32) (x6 : Vec Ideal S1x256 .f32) (x7 : Vec Ideal S1024x1024 .bf16) (r n : Fin 1024) : EReal :=
  (∑ k : Fin 256, normed 0x43800000#32 (fun k => x1 (ix3 0 r k)) k (x4 (ix2 0 k)) * x7 (ix2 ⟨k.val, by omega⟩ n))
    + (∑ k : Fin 512, normed 0x44000000#32 (fun k => x2 (ix3 0 r k)) k (x5 (ix2 0 k)) * x7 (ix2 ⟨256 + k.val, by omega⟩ n))
    + ∑ k : Fin 256, normed 0x43800000#32 (fun k => x3 (ix3 0 r k)) k (x6 (ix2 0 k)) * x7 (ix2 ⟨768 + k.val, by omega⟩ n)

variable (x0 : Vec Ideal S1x1024x1024 .f32) (x1 : Vec Ideal S1x1024x256 .f32) (x2 : Vec Ideal S1x1024x512 .bf16) (x3 : Vec Ideal S1x1024x256 .bf16)
  (x4 : Vec Ideal S1x256 .f32) (x5 : Vec Ideal S1x512 .f32) (x6 : Vec Ideal S1x256 .f32) (x7 : Vec Ideal S1024x1024 .bf16) (x8 x9 : Vec Ideal S1x1024 .f32)

theorem top_rows (k : Fin 256) (n : Fin 1024) : View.ld x7 r0_4 (ix2 k n) = x7 (ix2 ⟨k.val, by omega⟩ n) :=
  congrArg x7 (funext fun a => by
    fin_cases a
    · exact Fin.ext (show 0 + 1 * k.val = k.val by omega)
    · exact Fin.ext (show 0 + 1 * n.val = n.val by omega))

theorem middle_rows (k : Fin 512) (n : Fin 1024) : View.ld x7 r0_5 (ix2 k n) = x7 (ix2 ⟨256 + k.val, by omega⟩ n) :=
  congrArg x7 (funext fun a => by
    fin_cases a
    · exact Fin.ext (show 256 + 1 * k.val = 256 + k.val by omega)
    · exact Fin.ext (show 0 + 1 * n.val = n.val by omega))

theorem bottom_rows (k : Fin 256) (n : Fin 1024) : View.ld x7 r0_6 (ix2 k n) = x7 (ix2 ⟨768 + k.val, by omega⟩ n) :=
  congrArg x7 (funext fun a => by
    fin_cases a
    · exact Fin.ext (show 768 + 1 * k.val = 768 + k.val by omega)
    · exact Fin.ext (show 0 + 1 * n.val = n.val by omega))

theorem pay14_apply (r n : Fin 1024) :
    k0_pay14 (F := Ideal) x0 x1 x2 x3 x4 x5 x6 x7 x8 x9 (ix2 r n) = mix x1 x2 x3 x4 x5 x6 x7 r n := by
  unfold k0_pay14 k0_pay11 k0_pay12 k0_pay13 mix
  have e1 : View.ld x1 r0_0 = x1 := View.ld_unit_zero (by decide) _ x1
  have e2 : View.ld x2 r0_2 = x2 := View.ld_unit_zero (by decide) _ x2
  have e3 : View.ld x3 r0_0 = x3 := View.ld_unit_zero (by decide) _ x3
  have e4 : View.ld x4 r0_1 = x4 := View.ld_unit_zero (by decide) _ x4
  have e5 : View.ld x5 r0_3 = x5 := View.ld_unit_zero (by decide) _ x5
  have e6 : View.ld x6 r0_1 = x6 := View.ld_unit_zero (by decide) _ x6
  rw [pay7_apply, e1, e2, e3, e4, e5, e6]
  simp only [pay4_apply, pay5_apply, pay6_apply]
  exact congrArg₂ (fun y z : EReal => y + z) (congrArg₂ (fun y z : EReal => y + z)
    (Finset.sum_congr rfl fun k _ => congrArg (fun y : EReal => _ * y) (top_rows x7 k n))
    (Finset.sum_congr rfl fun k _ => congrArg (fun y : EReal => _ * y) (middle_rows x7 k n)))
    (Finset.sum_congr rfl fun k _ => congrArg (fun y : EReal => _ * y) (bottom_rows x7 k n))

/-- A block's rows of the first result. -/
noncomputable def sum (r n : Fin 1024) : EReal :=
  x0 (ix3 0 r n) + normed 0x44800000#32 (mix x1 x2 x3 x4 x5 x6 x7 r) n (x8 (ix2 0 n))

theorem pay1_apply (r n : Fin 1024) :
    k0_pay1 (F := Ideal) (k0_pay14 x0 x1 x2 x3 x4 x5 x6 x7 x8 x9) (k0_pay15 x0 x1 x2 x3 x4 x5 x6 x7 x8 x9)
        (k0_pay16 x0 x1 x2 x3 x4 x5 x6 x7 x8 x9) (k0_pay17 x0 x1 x2 x3 x4 x5 x6 x7 x8 x9) (ix2 r n)
      = sum x0 x1 x2 x3 x4 x5 x6 x7 x8 r n := by
  unfold sum normed
  simp only [← pay14_apply x0 x1 x2 x3 x4 x5 x6 x7 x8 x9]
  have e : k0_pay17 (F := Ideal) x0 x1 x2 x3 x4 x5 x6 x7 x8 x9 = broadcastTo S1024x1024 (rsqrt (addf (divf (shapeCast S1024x1 (multiReduction .add [1] S1024
      (mulf (k0_pay14 x0 x1 x2 x3 x4 x5 x6 x7 x8 x9) (k0_pay14 x0 x1 x2 x3 x4 x5 x6 x7 x8 x9)) 0x00000000#32 reduces_S1024x1024_S1024 (.inl rfl) rfl)
      shapeCasts_S1024_S1024x1) (broadcast S1024x1 (Scalar.ofBits .f32 0x44800000#32))) (broadcast S1024x1 (Scalar.ofBits .f32 0x358637BD#32))))
      broadcasts_S1024x1_S1024x1024 := rfl
  rw [e]
  generalize k0_pay14 (F := Ideal) x0 x1 x2 x3 x4 x5 x6 x7 x8 x9 = y
  have e0 : View.ld x0 r0_7 = x0 := View.ld_unit_zero (by decide) _ x0
  have e8 : View.ld x8 r0_8 = x8 := View.ld_unit_zero (by decide) _ x8
  unfold k0_pay15 k0_pay16
  rw [e0, e8]
  pointwise [k0_pay1, k0_pay8, k0_pay9]

theorem out10_apply (r n : Fin 1024) :
    out0_10 (F := Ideal) x0 x1 x2 x3 x4 x5 x6 x7 x8 x9 (ix3 0 r n) = sum x0 x1 x2 x3 x4 x5 x6 x7 x8 r n := by
  unfold out0_10
  rw [View.canon_unit_zero (by decide), ← pay1_apply x0 x1 x2 x3 x4 x5 x6 x7 x8 x9]
  unfold k0_pay2
  generalize k0_pay1 (F := Ideal) (k0_pay14 x0 x1 x2 x3 x4 x5 x6 x7 x8 x9) (k0_pay15 x0 x1 x2 x3 x4 x5 x6 x7 x8 x9)
        (k0_pay16 x0 x1 x2 x3 x4 x5 x6 x7 x8 x9) (k0_pay17 x0 x1 x2 x3 x4 x5 x6 x7 x8 x9) = y
  pointwise

theorem out11_apply (r n : Fin 1024) :
    out0_11 (F := Ideal) x0 x1 x2 x3 x4 x5 x6 x7 x8 x9 (ix3 0 r n)
      = normed 0x44800000#32 (sum x0 x1 x2 x3 x4 x5 x6 x7 x8 r) n (x9 (ix2 0 n)) := by
  unfold out0_11 normed
  simp only [← pay1_apply x0 x1 x2 x3 x4 x5 x6 x7 x8 x9]
  rw [View.canon_unit_zero (by decide)]
  have e9 : View.ld x9 r0_8 = x9 := View.ld_unit_zero (by decide) _ x9
  rw [e9]
  unfold k0_pay3
  generalize k0_pay1 (F := Ideal) (k0_pay14 x0 x1 x2 x3 x4 x5 x6 x7 x8 x9) (k0_pay15 x0 x1 x2 x3 x4 x5 x6 x7 x8 x9)
        (k0_pay16 x0 x1 x2 x3 x4 x5 x6 x7 x8 x9) (k0_pay17 x0 x1 x2 x3 x4 x5 x6 x7 x8 x9) = y
  pointwise

end Cert.Out
end
-- ==== Proof.OutArray.lean ====
module
public import proofs.«01_k».proof.Proof.OutEntry
public import proofs.«01_k».proof.Proof.Gen.Kernel4Ideal.Value
public import Idealize.ShloMosaic.Lib.Pipeline.ValueKit
@[expose] public section
/-!
  The two arrays the output projection leaves are the reference's.
-/
set_option maxRecDepth 16384

namespace Cert.Out

open Idealize.ShloMosaic Idealize.ShloMosaic.TcCoe Cert.Kernel4Ideal Cert.Kernel4Ideal.Gen

variable (m : (ℓ : Loc nD τ sig) → Buf (Elt Ideal) ℓ) (c : Dev nD)

theorem index_x : ∀ t : Fin cfg0.N, win0_0.index t = ![t.val / 8, t.val % 8, 0] :=
  (by decide +kernel : ∀ t : Fin grid0.N, _)

theorem index_yh : ∀ t : Fin cfg0.N, win0_1.index t = ![t.val / 8, t.val % 8, 0] :=
  (by decide +kernel : ∀ t : Fin grid0.N, _)

theorem index_yg : ∀ t : Fin cfg0.N, win0_2.index t = ![t.val / 8, t.val % 8, 0] :=
  (by decide +kernel : ∀ t : Fin grid0.N, _)

theorem index_ym : ∀ t : Fin cfg0.N, win0_3.index t = ![t.val / 8, t.val % 8, 0] :=
  (by decide +kernel : ∀ t : Fin grid0.N, _)

theorem index_gh : ∀ t : Fin cfg0.N, win0_4.index t = ![0, 0] :=
  (by decide +kernel : ∀ t : Fin grid0.N, _)

theorem index_gg : ∀ t : Fin cfg0.N, win0_5.index t = ![0, 0] :=
  (by decide +kernel : ∀ t : Fin grid0.N, _)

theorem index_gm : ∀ t : Fin cfg0.N, win0_6.index t = ![0, 0] :=
  (by decide +kernel : ∀ t : Fin grid0.N, _)

theorem index_w : ∀ t : Fin cfg0.N, win0_7.index t = ![0, 0] :=
  (by decide +kernel : ∀ t : Fin grid0.N, _)

theorem index_post : ∀ t : Fin cfg0.N, win0_8.index t = ![0, 0] :=
  (by decide +kernel : ∀ t : Fin grid0.N, _)

theorem index_ffn : ∀ t : Fin cfg0.N, win0_9.index t = ![0, 0] :=
  (by decide +kernel : ∀ t : Fin grid0.N, _)

theorem index_out10 : ∀ t : Fin cfg0.N, win0_10.index t = ![t.val / 8, t.val % 8, 0] :=
  (by decide +kernel : ∀ t : Fin grid0.N, _)

theorem index_out11 : ∀ t : Fin cfg0.N, win0_11.index t = ![t.val / 8, t.val % 8, 0] :=
  (by decide +kernel : ∀ t : Fin grid0.N, _)

/-- The arguments as launched. -/
noncomputable abbrev argX : Vec Ideal S2x8192x1024 .f32 := m ((c : Thread nD τ).loc main_arg0)
noncomputable abbrev argYh : Vec Ideal S2x8192x256 .f32 := m ((c : Thread nD τ).loc main_arg1)
noncomputable abbrev argYg : Vec Ideal S2x8192x512 .bf16 := m ((c : Thread nD τ).loc main_arg2)
noncomputable abbrev argYm : Vec Ideal S2x8192x256 .bf16 := m ((c : Thread nD τ).loc main_arg3)
noncomputable abbrev argGh : Vec Ideal S256 .f32 := m ((c : Thread nD τ).loc main_arg4)
noncomputable abbrev argGg : Vec Ideal S512 .f32 := m ((c : Thread nD τ).loc main_arg5)
noncomputable abbrev argGm : Vec Ideal S256 .f32 := m ((c : Thread nD τ).loc main_arg6)
noncomputable abbrev argW : Vec Ideal S1024x1024 .f32 := m ((c : Thread nD τ).loc main_arg7)
noncomputable abbrev argPost : Vec Ideal S1024 .f32 := m ((c : Thread nD τ).loc main_arg8)
noncomputable abbrev argFfn : Vec Ideal S1024 .f32 := m ((c : Thread nD τ).loc main_arg9)

theorem block_x (t : Fin cfg0.N) (r : Fin 1024) (k : Fin 1024) :
    (iblk m c 0 t : Vec Ideal S1x1024x1024 .f32) (ix3 0 r k)
      = argX m c (ix3 ⟨t.val / 8, by have : t.val < 16 := t.isLt; omega⟩ ⟨t.val % 8 * 1024 + r.val, by omega⟩ k) := by
  have e := index_x t
  blk_simp [iblk]
  entry_read
  blk_ext [e]

theorem block_yh (t : Fin cfg0.N) (r : Fin 1024) (k : Fin 256) :
    (iblk m c 1 t : Vec Ideal S1x1024x256 .f32) (ix3 0 r k)
      = argYh m c (ix3 ⟨t.val / 8, by have : t.val < 16 := t.isLt; omega⟩ ⟨t.val % 8 * 1024 + r.val, by omega⟩ k) := by
  have e := index_yh t
  blk_simp [iblk]
  entry_read
  blk_ext [e]

theorem block_yg (t : Fin cfg0.N) (r : Fin 1024) (k : Fin 512) :
    (iblk m c 2 t : Vec Ideal S1x1024x512 .bf16) (ix3 0 r k)
      = argYg m c (ix3 ⟨t.val / 8, by have : t.val < 16 := t.isLt; omega⟩ ⟨t.val % 8 * 1024 + r.val, by omega⟩ k) := by
  have e := index_yg t
  blk_simp [iblk]
  entry_read
  blk_ext [e]

theorem block_ym (t : Fin cfg0.N) (r : Fin 1024) (k : Fin 256) :
    (iblk m c 3 t : Vec Ideal S1x1024x256 .bf16) (ix3 0 r k)
      = argYm m c (ix3 ⟨t.val / 8, by have : t.val < 16 := t.isLt; omega⟩ ⟨t.val % 8 * 1024 + r.val, by omega⟩ k) := by
  have e := index_ym t
  blk_simp [iblk]
  entry_read
  blk_ext [e]

theorem block_gh (t : Fin cfg0.N) (k : Fin 256) : (iblk m c 4 t : Vec Ideal S1x256 .f32) (ix2 0 k) = argGh m c (ix1 k) := by
  have e := index_gh t
  blk_simp [iblk]
  entry_read
  pointwise
  blk_ext [e]

theorem block_gg (t : Fin cfg0.N) (k : Fin 512) : (iblk m c 5 t : Vec Ideal S1x512 .f32) (ix2 0 k) = argGg m c (ix1 k) := by
  have e := index_gg t
  blk_simp [iblk]
  entry_read
  pointwise
  blk_ext [e]

theorem block_gm (t : Fin cfg0.N) (k : Fin 256) : (iblk m c 6 t : Vec Ideal S1x256 .f32) (ix2 0 k) = argGm m c (ix1 k) := by
  have e := index_gm t
  blk_simp [iblk]
  entry_read
  pointwise
  blk_ext [e]

theorem block_w (t : Fin cfg0.N) (k n : Fin 1024) : (iblk m c 7 t : Vec Ideal S1024x1024 .bf16) (ix2 k n) = argW m c (ix2 k n) := by
  have e := index_w t
  blk_simp [iblk]
  entry_read
  pointwise
  blk_ext [e]

theorem block_post (t : Fin cfg0.N) (k : Fin 1024) : (iblk m c 8 t : Vec Ideal S1x1024 .f32) (ix2 0 k) = argPost m c (ix1 k) := by
  have e := index_post t
  blk_simp [iblk]
  entry_read
  pointwise
  blk_ext [e]

theorem block_ffn (t : Fin cfg0.N) (k : Fin 1024) : (iblk m c 9 t : Vec Ideal S1x1024 .f32) (ix2 0 k) = argFfn m c (ix1 k) := by
  have e := index_ffn t
  blk_simp [iblk]
  entry_read
  pointwise
  blk_ext [e]

theorem mix_point (t : Fin cfg0.N) (r n : Fin 1024) :
    mix (iblk m c 1 t) (iblk m c 2 t) (iblk m c 3 t) (iblk m c 4 t) (iblk m c 5 t) (iblk m c 6 t) (iblk m c 7 t) r n
      = mixed (argYh m c) (argYg m c) (argYm m c) (argGh m c) (argGg m c) (argGm m c) (argW m c) ⟨t.val / 8, by have : t.val < 16 := t.isLt; omega⟩ ⟨t.val % 8 * 1024 + r.val, by omega⟩ n := by
  unfold mix mixed first second third
  simp only [block_yh, block_yg, block_ym, block_gh, block_gg, block_gm, block_w]

theorem sum_point (t : Fin cfg0.N) (r n : Fin 1024) :
    sum (iblk m c 0 t) (iblk m c 1 t) (iblk m c 2 t) (iblk m c 3 t) (iblk m c 4 t) (iblk m c 5 t) (iblk m c 6 t) (iblk m c 7 t) (iblk m c 8 t) r n
      = resid (argX m c) (argYh m c) (argYg m c) (argYm m c) (argGh m c) (argGg m c) (argGm m c) (argW m c) (argPost m c) ⟨t.val / 8, by have : t.val < 16 := t.isLt; omega⟩ ⟨t.val % 8 * 1024 + r.val, by omega⟩ n := by
  unfold sum resid
  rw [block_x, block_post]
  exact congrArg (fun y => _ + normed _ y n _) (funext fun n' => mix_point m c t r n')

/-- The blocks a point leaves, entry by entry, are the reference's. -/
theorem point10 (t : Fin cfg0.N) (r n : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
      = Cert.Reference4Ideal.Read.val_main_v56 (F := Ideal) (argX m c) (argYh m c) (argYg m c) (argYm m c) (argGh m c) (argGg m c) (argGm m c) (argW m c) (argPost m c)
          (ix3 ⟨t.val / 8, by have : t.val < 16 := t.isLt; omega⟩ ⟨t.val % 8 * 1024 + r.val, by omega⟩ n) := by
  rw [out10_apply, v56_apply, sum_point]

theorem point11 (t : Fin cfg0.N) (r n : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
      = Cert.Reference4Ideal.Read.val_main_v70 (F := Ideal) (argX m c) (argYh m c) (argYg m c) (argYm m c) (argGh m c) (argGg m c) (argGm m c) (argW m c) (argPost m c) (argFfn m c)
          (ix3 ⟨t.val / 8, by have : t.val < 16 := t.isLt; omega⟩ ⟨t.val % 8 * 1024 + r.val, by omega⟩ n) := by
  rw [out11_apply, v70_apply, block_ffn]
  unfold after
  exact congrArg (fun y => normed _ y n _) (funext fun n' => sum_point m c t r n')

/-- The whole first array after the run. -/
theorem array10 :
    (dats m 0 c).arrAt 10 cfg0.N = Cert.Reference4Ideal.Read.val_main_v56 (F := Ideal) (argX m c) (argYh m c) (argYg m c) (argYm m c) (argGh m c) (argGg m c) (argGm m c) (argW m c) (argPost m c) := by
  refine (dats m 0 c).arrAt_eq_of_covers 10 _ (by decide +kernel) fun t hf y => ?_
  have e := index_out10 t
  blk_simp
  rw [after0_10]
  have hy : (y : S1x1024x1024.Idx) = ix3 0 (y 1) (y 2) := by
    funext a
    fin_cases a
    · exact Fin.ext (by have : (y 0).val < 1 := (y 0).isLt; show (y 0).val = 0; omega)
    · rfl
    · rfl
  refine (congrArg (out0_10 (iblk m c 0 t) (iblk m c 1 t) (iblk m c 2 t) (iblk m c 3 t) (iblk m c 4 t) (iblk m c 5 t) (iblk m c 6 t) (iblk m c 7 t) (iblk m c 8 t) (iblk m c 9 t)) hy).trans ((point10 m c t (y 1) (y 2)).trans ?_)
  have hz : (y 0).val < 1 := (y 0).isLt
  blk_ext [e]

/-- The whole second array after the run. -/
theorem array11 :
    (dats m 0 c).arrAt 11 cfg0.N = Cert.Reference4Ideal.Read.val_main_v70 (F := Ideal) (argX m c) (argYh m c) (argYg m c) (argYm m c) (argGh m c) (argGg m c) (argGm m c) (argW m c) (argPost m c) (argFfn m c) := by
  refine (dats m 0 c).arrAt_eq_of_covers 11 _ (by decide +kernel) fun t hf y => ?_
  have e := index_out11 t
  blk_simp
  rw [after0_11]
  have hy : (y : S1x1024x1024.Idx) = ix3 0 (y 1) (y 2) := by
    funext a
    fin_cases a
    · exact Fin.ext (by have : (y 0).val < 1 := (y 0).isLt; show (y 0).val = 0; omega)
    · rfl
    · rfl
  refine (congrArg (out0_11 (iblk m c 0 t) (iblk m c 1 t) (iblk m c 2 t) (iblk m c 3 t) (iblk m c 4 t) (iblk m c 5 t) (iblk m c 6 t) (iblk m c 7 t) (iblk m c 8 t) (iblk m c 9 t)) hy).trans ((point11 m c t (y 1) (y 2)).trans ?_)
  have hz : (y 0).val < 1 := (y 0).isLt
  blk_ext [e]

end Cert.Out

end
-- ==== Proof.OutClaim.lean ====
module
public import proofs.«01_k».proof.Proof.OutArray
public import proofs.«01_k».proof.Proof.Gen.Reference4Ideal.Run
public import proofs.«01_k».proof.Defs
@[expose] public section
/-!
  The output projection and its reference leave the same two arrays.
-/
set_option maxRecDepth 16384

namespace Cert.Out

open Idealize.ShloMosaic Idealize.ShloMosaic.TcCoe Idealize.SL.Sem

theorem algebraic : Cert.algebraic_Kernel4Ideal_Reference4Ideal := by
  intro m g m' g' _ hm
  refine ⟨fun c => Cert.Reference4Ideal.Read.val_main_v56 (F := Ideal) (argX m c) (argYh m c) (argYg m c) (argYm m c) (argGh m c) (argGg m c) (argGm m c) (argW m c) (argPost m c),
    fun c => Cert.Reference4Ideal.Read.val_main_v70 (F := Ideal) (argX m c) (argYh m c) (argYg m c) (argYm m c) (argGh m c) (argGg m c) (argGm m c) (argW m c) (argPost m c) (argFfn m c), ?_, ?_⟩
  · refine (θ_run _ _ _).mono (fun r h c => ?_) (Cert.Kernel4Ideal.Value.run_blocks m g)
    exact ⟨(h c).1.trans (array10 m c), (h c).2.1.trans (array11 m c), (h c).2.2⟩
  · refine (θ_run _ _ _).mono (fun r h c => ?_) (Cert.Reference4Ideal.Value.run m' g')
    obtain ⟨e0, e1, e2, e3, e4, e5, e6, e7, e8, e9⟩ := hm c
    refine ⟨(h c).1.trans ((Cert.Reference4Ideal.Read.val_main_v56_eq _ _).trans ?_),
      (h c).2.1.trans ((Cert.Reference4Ideal.Read.val_main_v70_eq _ _).trans ?_), (h c).2.2⟩
    · rw [e0, e1, e2, e3, e4, e5, e6, e7, e8]
    · rw [e0, e1, e2, e3, e4, e5, e6, e7, e8, e9]

end Cert.Out

end
-- ==== Proof.InpTile.lean ====
module
public import proofs.«01_k».proof.Proof.RefOut
public import proofs.«01_k».proof.Proof.Gen.Kernel5Ideal.Skeleton
public import Idealize.ShloMosaic.Lib.Pointwise
@[expose] public section
/-!
  The values of a step of the input projection, entry by entry, over the extended reals: a tile holds two heads.
-/
set_option maxRecDepth 16384

noncomputable section

open scoped BigOperators

namespace Cert.Inp

open Idealize.ShloMosaic Cert.Kernel5Ideal Cert.Kernel5Ideal.Gen

/-- The two heads of a tile, rotated and divided by the roots of their mean squares; `b` tells the lanes of the first. -/
def tile (b : Fin 128 → BitVec 1) (x y c s : Fin 128 → EReal) (j : Fin 128) : EReal :=
  (x j * c j + y j * s j) * Ideal.rsqrt
    (Scalar.select (b j) (∑ k, Scalar.select (b k) (x k * x k) (0 : EReal))
        ((∑ k, x k * x k) - ∑ k, Scalar.select (b k) (x k * x k) (0 : EReal))
      * Ideal.ofBits .f32 0x3C800000#32 + Ideal.ofBits .f32 0x358637BD#32)

variable (h : FVec Ideal S1024x1024 .bf16) (b : IVec S1024x128 1)

theorem pay6_apply (x : Vec Ideal S1x1024x1024 .f32) (g : Vec Ideal S1x1024 .f32) (r k : Fin 1024) :
    k0_pay6 (F := Ideal) x g (ix2 r k) = Cert.Out.normed 0x44800000#32 (fun k => x (ix3 0 r k)) k (g (ix2 0 k)) := by
  unfold Cert.Out.normed
  pointwise [k0_pay6]

theorem pay13_apply (w : Vec Ideal S1024x512 .bf16) (r : Fin 1024) (j : Fin 512) :
    k0_pay13 (F := Ideal) h w (ix2 r j) = ∑ k : Fin 1024, h (ix2 r k) * w (ix2 k j) := by
  pointwise [k0_pay13]

theorem pay14_apply (w : Vec Ideal S1024x512 .bf16) (r : Fin 1024) (j : Fin 512) :
    k0_pay14 (F := Ideal) h w (ix2 r j) = ∑ k : Fin 1024, h (ix2 r k) * w (ix2 k j) := by
  pointwise [k0_pay14]

theorem pay10_apply (r : Fin 1024) (j : Fin 128) :
    k0_pay10 (ix2 r j) = BitVec.ofBool (decide (j.val < 64)) := by
  pointwise [k0_pay10]
  fin_cases j <;> rfl

theorem pay17_apply (c s : FVec Ideal S1024x128 .f32) (gc gs : FVec Ideal S1x128 .f32) (u w : Vec Ideal S1024x512 .bf16) (r : Fin 1024) (j : Fin 128) :
    k0_pay17 (F := Ideal) h c s b gc gs u w (ix2 r j)
      = tile (fun k => b (ix2 r k)) (fun k => k0_pay13 (F := Ideal) h u (ix2 r ⟨k.val, by omega⟩)) (fun k => k0_pay14 (F := Ideal) h w (ix2 r ⟨k.val, by omega⟩))
          (fun k => c (ix2 r k) * gc (ix2 0 k)) (fun k => s (ix2 r k) * gs (ix2 0 k)) j := by
  unfold tile k0_pay17
  generalize k0_pay13 (F := Ideal) h u = x
  generalize k0_pay14 (F := Ideal) h w = y
  pointwise [k0_pay15, k0_pay16]

theorem pay24_apply (c s : FVec Ideal S1024x128 .f32) (u w : Vec Ideal S1024x512 .bf16) (r : Fin 1024) (j : Fin 128) :
    k0_pay24 (F := Ideal) b c s (k0_pay18 h u) (k0_pay19 h w) (k0_pay22 h b u) (k0_pay23 h b u) (ix2 r j)
      = tile (fun k => b (ix2 r k)) (fun k => k0_pay13 (F := Ideal) h u (ix2 r ⟨128 + k.val, by omega⟩)) (fun k => k0_pay14 (F := Ideal) h w (ix2 r ⟨128 + k.val, by omega⟩))
          (fun k => c (ix2 r k)) (fun k => s (ix2 r k)) j := by
  unfold tile k0_pay24 k0_pay22 k0_pay23 k0_pay21 k0_pay20 k0_pay18 k0_pay19
  generalize k0_pay13 (F := Ideal) h u = x
  generalize k0_pay14 (F := Ideal) h w = y
  pointwise

theorem pay25_apply (c s : FVec Ideal S1024x128 .f32) (x y : FVec Ideal S1024x512 .f32) (r : Fin 1024) (j : Fin 128) :
    k0_pay25 (F := Ideal) b x y c s (ix2 r j)
      = tile (fun k => b (ix2 r k)) (fun k => x (ix2 r ⟨256 + k.val, by omega⟩)) (fun k => y (ix2 r ⟨256 + k.val, by omega⟩))
          (fun k => c (ix2 r k)) (fun k => s (ix2 r k)) j := by
  unfold tile
  pointwise [k0_pay25]

theorem pay35_apply (c s : FVec Ideal S1024x128 .f32) (x y : FVec Ideal S1024x512 .f32) (r : Fin 1024) (j : Fin 128) :
    k0_pay35 (F := Ideal) b c s (k0_pay26 x) (k0_pay27 y) (k0_pay30 b x) (k0_pay31 b x) (ix3 0 r j)
      = tile (fun k => b (ix2 r k)) (fun k => x (ix2 r ⟨384 + k.val, by omega⟩)) (fun k => y (ix2 r ⟨384 + k.val, by omega⟩))
          (fun k => c (ix2 r k)) (fun k => s (ix2 r k)) j := by
  unfold tile
  pointwise [k0_pay35, k0_pay26, k0_pay27, k0_pay28, k0_pay29, k0_pay30, k0_pay31]

theorem pay32_apply (v : FVec Ideal S1024x128 .f32) (r : Fin 1024) (j : Fin 128) : k0_pay32 (F := Ideal) v (ix3 0 r j) = v (ix2 r j) := by
  pointwise [k0_pay32]

theorem pay33_apply (v : FVec Ideal S1024x128 .f32) (r : Fin 1024) (j : Fin 128) : k0_pay33 (F := Ideal) v (ix3 0 r j) = v (ix2 r j) := by
  pointwise [k0_pay33]

theorem pay34_apply (v : FVec Ideal S1024x128 .f32) (r : Fin 1024) (j : Fin 128) : k0_pay34 (F := Ideal) v (ix3 0 r j) = v (ix2 r j) := by
  pointwise [k0_pay34]

theorem pay15_apply (c : FVec Ideal S1024x128 .f32) (g : FVec Ideal S1x128 .f32) (r : Fin 1024) (j : Fin 128) :
    k0_pay15 (F := Ideal) c g (ix2 r j) = c (ix2 r j) * g (ix2 0 j) := by
  pointwise [k0_pay15]

theorem pay16_apply (c : FVec Ideal S1024x128 .f32) (g : FVec Ideal S1x128 .f32) (r : Fin 1024) (j : Fin 128) :
    k0_pay16 (F := Ideal) c g (ix2 r j) = c (ix2 r j) * g (ix2 0 j) := by
  pointwise [k0_pay16]

/-- The product of a step's rows with a column of weights. -/
def prod {n : ℕ} (w : Fin 1024 → Fin n → EReal) (r : Fin 1024) (j : Fin n) : EReal := ∑ k : Fin 1024, h (ix2 r k) * w k j

theorem pay39_apply (c s : FVec Ideal S1024x128 .f32) (gc gs : FVec Ideal S1x128 .f32) (u w : Vec Ideal S1024x128 .bf16) (r : Fin 1024) (j : Fin 128) :
    k0_pay39 (F := Ideal) h c s b gc gs (k0_pay38 h u) w (ix2 r j)
      = tile (fun k => b (ix2 r k)) (prod h (fun k j => u (ix2 k j)) r) (prod h (fun k j => w (ix2 k j)) r)
          (fun k => c (ix2 r k) * gc (ix2 0 k)) (fun k => s (ix2 r k) * gs (ix2 0 k)) j := by
  unfold tile prod
  pointwise [k0_pay39, k0_pay38]

theorem pay41_apply (c s : FVec Ideal S1024x128 .f32) (gc gs : FVec Ideal S1x128 .f32) (x : FVec Ideal S1024x128 .f32) (w : Vec Ideal S1024x128 .bf16) (r : Fin 1024) (j : Fin 128) :
    k0_pay41 (F := Ideal) h c s b gc gs x w (ix4 0 0 r j)
      = Scalar.select (b (ix2 r j)) (k0_pay39 (F := Ideal) h c s b gc gs x w (ix2 r j))
          (k0_pay39 (F := Ideal) h c s b gc gs x w (ix2 r ⟨(j.val + 128 - 64) % 128, Nat.mod_lt _ (by decide)⟩)) := by
  unfold k0_pay41 k0_pay40
  generalize k0_pay39 (F := Ideal) h c s b gc gs x w = y
  pointwise

theorem pay42_apply (c s : FVec Ideal S1024x128 .f32) (gc gs : FVec Ideal S1x128 .f32) (x : FVec Ideal S1024x128 .f32) (w : Vec Ideal S1024x128 .bf16) (r : Fin 1024) (j : Fin 128) :
    k0_pay42 (F := Ideal) h c s b gc gs x w (ix4 0 0 r j)
      = Scalar.select (b (ix2 r j)) (k0_pay39 (F := Ideal) h c s b gc gs x w (ix2 r ⟨(j.val + 128 - 64) % 128, Nat.mod_lt _ (by decide)⟩))
          (k0_pay39 (F := Ideal) h c s b gc gs x w (ix2 r j)) := by
  unfold k0_pay42 k0_pay40
  generalize k0_pay39 (F := Ideal) h c s b gc gs x w = y
  pointwise

theorem pay43_apply (w : Vec Ideal S1024x128 .bf16) (r : Fin 1024) (j : Fin 128) :
    k0_pay43 (F := Ideal) h w (ix3 0 j r) = prod h (fun k j => w (ix2 k j)) r j := by
  unfold prod
  pointwise [k0_pay43]

theorem pay44_apply (w : Vec Ideal S1024x256 .bf16) (g : Vec Ideal S1x256 .f32) (v : Vec Ideal S256x1024 .bf16) (r : Fin 1024) (j : Fin 1024) :
    k0_pay44 (F := Ideal) h w g v (ix2 r j)
      = ∑ k : Fin 256, Cert.Out.normed 0x43800000#32 (prod h (fun k j => w (ix2 k j)) r) k (g (ix2 0 k)) * v (ix2 k j) := by
  unfold Cert.Out.normed prod
  pointwise [k0_pay44]

theorem pay48_apply (w : Vec Ideal S1024x256 .bf16) (g : Vec Ideal S1x256 .f32) (v : Vec Ideal S256x1024 .bf16) (c s : Vec Ideal S1024x128 .f32) (r : Fin 1024) (j : Fin 128) :
    k0_pay48 (F := Ideal) (k0_pay47 h w g v c s) (ix3 0 r j)
      = k0_pay44 (F := Ideal) h w g v (ix2 r ⟨j.val, by omega⟩) * c (ix2 r j) + k0_pay44 (F := Ideal) h w g v (ix2 r ⟨512 + j.val, by omega⟩) * s (ix2 r j) := by
  unfold k0_pay47
  generalize k0_pay44 (F := Ideal) h w g v = y
  pointwise [k0_pay48, k0_pay45, k0_pay46]

theorem pay49_apply (y : FVec Ideal S1024x1024 .f32) (c s : FVec Ideal S1024x128 .f32) (r : Fin 1024) (j : Fin 128) :
    k0_pay49 (F := Ideal) y c s (ix3 0 r j) = y (ix2 r ⟨128 + j.val, by omega⟩) * c (ix2 r j) + y (ix2 r ⟨640 + j.val, by omega⟩) * s (ix2 r j) := by
  pointwise [k0_pay49]

theorem pay50_apply (y : FVec Ideal S1024x1024 .f32) (c s : FVec Ideal S1024x128 .f32) (r : Fin 1024) (j : Fin 128) :
    k0_pay50 (F := Ideal) y c s (ix3 0 r j) = y (ix2 r ⟨256 + j.val, by omega⟩) * c (ix2 r j) + y (ix2 r ⟨768 + j.val, by omega⟩) * s (ix2 r j) := by
  pointwise [k0_pay50]

theorem pay51_apply (y : FVec Ideal S1024x1024 .f32) (c s : FVec Ideal S1024x128 .f32) (r : Fin 1024) (j : Fin 128) :
    k0_pay51 (F := Ideal) y c s (ix3 0 r j) = y (ix2 r ⟨384 + j.val, by omega⟩) * c (ix2 r j) + y (ix2 r ⟨896 + j.val, by omega⟩) * s (ix2 r j) := by
  pointwise [k0_pay51]

theorem pay56_apply (w : Vec Ideal S1024x128 .bf16) (g : Vec Ideal S1x128 .f32) (r : Fin 1024) (j : Fin 128) :
    k0_pay56 (F := Ideal) (k0_pay52 h w) (k0_pay53 g) (k0_pay54 h w) k0_pay55 (ix2 r j)
      = Cert.Out.normed 0x43000000#32 (prod h (fun k j => w (ix2 k j)) r) j (g (ix2 0 j)) := by
  unfold Cert.Out.normed prod
  pointwise [k0_pay56, k0_pay52, k0_pay53, k0_pay54, k0_pay55]

theorem pay57_apply (u w : Vec Ideal S1024x128 .bf16) (c s : Vec Ideal S1024x128 .f32) (r : Fin 1024) (j : Fin 128) :
    k0_pay57 (F := Ideal) h u c w s (ix2 r j)
      = prod h (fun k j => u (ix2 k j)) r j * c (ix2 r j) + prod h (fun k j => w (ix2 k j)) r j * s (ix2 r j) := by
  unfold prod
  pointwise [k0_pay57]

theorem pay58_apply (a : FVec Ideal S1024x128 .f32) (g : FVec Ideal S1x128 .f32) (d e : FVec Ideal S1024x1 .f32) (v : Vec Ideal S128x512 .bf16) (r : Fin 1024) (j : Fin 512) :
    k0_pay58 (F := Ideal) a g d e v (ix2 r j) = ∑ k : Fin 128, k0_pay56 (F := Ideal) a g d e (ix2 r k) * v (ix2 k j) := by
  unfold k0_pay58
  generalize k0_pay56 (F := Ideal) a g d e = y
  pointwise

theorem pay59_apply (a : FVec Ideal S1024x128 .f32) (g : FVec Ideal S1x128 .f32) (d e : FVec Ideal S1024x1 .f32) (u w : Vec Ideal S1024x128 .bf16) (c s : Vec Ideal S1024x128 .f32)
    (v : Vec Ideal S128x512 .bf16) (r : Fin 1024) (j : Fin 128) :
    k0_pay59 (F := Ideal) h a g d e u c w s v (ix4 0 0 r j) = k0_pay58 (F := Ideal) a g d e v (ix2 r ⟨j.val, by omega⟩) + k0_pay57 (F := Ideal) h u c w s (ix2 r j) := by
  unfold k0_pay59
  generalize k0_pay58 (F := Ideal) a g d e v = y
  generalize k0_pay57 (F := Ideal) h u c w s = z
  pointwise

theorem pay60_apply (a : FVec Ideal S1024x128 .f32) (g : FVec Ideal S1x128 .f32) (d e : FVec Ideal S1024x1 .f32) (u w : Vec Ideal S1024x128 .bf16) (c s : Vec Ideal S1024x128 .f32)
    (v : Vec Ideal S128x512 .bf16) (r : Fin 1024) (j : Fin 128) :
    k0_pay60 (F := Ideal) h a g d e u c w s v (ix4 0 0 r j) = k0_pay58 (F := Ideal) a g d e v (ix2 r ⟨128 + j.val, by omega⟩) + k0_pay57 (F := Ideal) h u c w s (ix2 r j) := by
  unfold k0_pay60
  generalize k0_pay58 (F := Ideal) a g d e v = y
  generalize k0_pay57 (F := Ideal) h u c w s = z
  pointwise

theorem pay1_apply (z : FVec Ideal S1024x128 .f32) (y : FVec Ideal S1024x512 .f32) (r : Fin 1024) (j : Fin 128) :
    k0_pay1 (F := Ideal) z y (ix4 0 0 r j) = y (ix2 r ⟨256 + j.val, by omega⟩) + z (ix2 r j) := by
  pointwise [k0_pay1]

theorem pay2_apply (z : FVec Ideal S1024x128 .f32) (y : FVec Ideal S1024x512 .f32) (r : Fin 1024) (j : Fin 128) :
    k0_pay2 (F := Ideal) z y (ix4 0 0 r j) = y (ix2 r ⟨384 + j.val, by omega⟩) + z (ix2 r j) := by
  pointwise [k0_pay2]

theorem pay4_apply (a : FVec Ideal S1024x128 .bf16) (v : Vec Ideal S128x256 .bf16) (r : Fin 1024) (j : Fin 128) :
    k0_pay4 (F := Ideal) a v (ix3 0 j r) = ∑ k : Fin 128, a (ix2 r k) * v (ix2 k ⟨j.val, by omega⟩) := by
  pointwise [k0_pay4, k0_pay3]

theorem pay5_apply (a : FVec Ideal S1024x128 .bf16) (v : Vec Ideal S128x256 .bf16) (r : Fin 1024) (j : Fin 128) :
    k0_pay5 (F := Ideal) a v (ix3 0 j r) = ∑ k : Fin 128, a (ix2 r k) * v (ix2 k ⟨128 + j.val, by omega⟩) := by
  pointwise [k0_pay5, k0_pay3]

theorem pay7_apply (x : Vec Ideal S1x1024x1024 .f32) (g : Vec Ideal S1x1024 .f32) (w : Vec Ideal S1024x768 .bf16) (r : Fin 1024) (j : Fin 768) :
    k0_pay7 (F := Ideal) x g w (ix3 0 r j) = prod (k0_pay6 (F := Ideal) x g) (fun k j => w (ix2 k j)) r j := by
  unfold k0_pay7 prod
  generalize k0_pay6 (F := Ideal) x g = h
  pointwise

end Cert.Inp

end
-- ==== Proof.InpEntry.lean ====
module
public import proofs.«01_k».proof.Proof.InpTile
public import proofs.«01_k».proof.Proof.Gen.Kernel5Ideal.Frame
public import Idealize.ShloMosaic.Lib.Pipeline.ValueKit
@[expose] public section
/-!
  The blocks a step of the input projection leaves, entry by entry, over the extended reals.
-/
set_option maxRecDepth 16384

noncomputable section

open scoped BigOperators

namespace Cert.Inp

open Idealize.ShloMosaic Cert.Kernel5Ideal Cert.Kernel5Ideal.Gen

variable (x0 : Vec Ideal S1x1024x1024 .f32) (x1 : Vec Ideal S1x1024 .f32) (x2 : Vec Ideal S1024x2816 .bf16)
  (x3 x4 x5 x6 : Vec Ideal S1x128 .f32) (x7 x8 : Vec Ideal S1024x128 .f32) (x9 : Vec Ideal S1x256 .f32)
  (x10 : Vec Ideal S256x1024 .bf16) (x11 x12 : Vec Ideal S1024x128 .f32) (x13 : Vec Ideal S1x128 .f32)
  (x14 : Vec Ideal S128x512 .bf16) (x15 : Vec Ideal S128x256 .bf16) (x16 x17 : Vec Ideal S1024x128 .f32)

/-- The lanes of a tile's first head. -/
def low (j : Fin 128) : BitVec 1 := BitVec.ofBool (decide (j.val < 64))

/-- A row of a block's input times a column of the widened weights. -/
def proj (r : Fin 1024) (n : Fin 2816) : EReal :=
  ∑ k : Fin 1024, Cert.Out.normed 0x44800000#32 (fun k => x0 (ix3 0 r k)) k (x1 (ix2 0 k)) * x2 (ix2 k n)

theorem whole0 : View.ld x0 r0_0 = x0 := View.ld_unit_zero (by decide) _ x0
theorem whole1 : View.ld x1 r0_1 = x1 := View.ld_unit_zero (by decide) _ x1
theorem wholeT (x : Vec Ideal S1024x128 .f32) : View.ld x r0_4 = x := View.ld_unit_zero (by decide) _ x
theorem wholeG (x : Vec Ideal S1x128 .f32) : View.ld x r0_5 = x := View.ld_unit_zero (by decide) _ x
theorem whole9 : View.ld x9 r0_19 = x9 := View.ld_unit_zero (by decide) _ x9
theorem whole10 : View.ld x10 r0_20 = x10 := View.ld_unit_zero (by decide) _ x10
theorem whole14 : View.ld x14 r0_24 = x14 := View.ld_unit_zero (by decide) _ x14
theorem whole15 : View.ld x15 r0_29 = x15 := View.ld_unit_zero (by decide) _ x15

theorem same8 (v : Vec Ideal S1024x128 .f32) (i : S1024x128.Idx) : k0_pay8 (F := Ideal) v i = v i := by
  have e : i = ix2 (i 0) (i 1) := funext fun a => by fin_cases a <;> rfl
  rw [e]
  pointwise [k0_pay8]

theorem same9 (v : Vec Ideal S1024x128 .f32) (i : S1024x128.Idx) : k0_pay9 (F := Ideal) v i = v i := by
  have e : i = ix2 (i 0) (i 1) := funext fun a => by fin_cases a <;> rfl
  rw [e]
  pointwise [k0_pay9]

theorem same11 (v : Vec Ideal S1x128 .f32) (i : S1x128.Idx) : k0_pay11 (F := Ideal) v i = v i := by
  have e : i = ix2 (i 0) (i 1) := funext fun a => by fin_cases a <;> rfl
  rw [e]
  pointwise [k0_pay11]

theorem same12 (v : Vec Ideal S1x128 .f32) (i : S1x128.Idx) : k0_pay12 (F := Ideal) v i = v i := by
  have e : i = ix2 (i 0) (i 1) := funext fun a => by fin_cases a <;> rfl
  rw [e]
  pointwise [k0_pay12]

theorem same36 (v : Vec Ideal S1x128 .f32) (i : S1x128.Idx) : k0_pay36 (F := Ideal) v i = v i := by
  have e : i = ix2 (i 0) (i 1) := funext fun a => by fin_cases a <;> rfl
  rw [e]
  pointwise [k0_pay36]

theorem same37 (v : Vec Ideal S1x128 .f32) (i : S1x128.Idx) : k0_pay37 (F := Ideal) v i = v i := by
  have e : i = ix2 (i 0) (i 1) := funext fun a => by fin_cases a <;> rfl
  rw [e]
  pointwise [k0_pay37]

theorem same45 (v : Vec Ideal S1024x128 .f32) (i : S1024x128.Idx) : k0_pay45 (F := Ideal) v i = v i := by
  have e : i = ix2 (i 0) (i 1) := funext fun a => by fin_cases a <;> rfl
  rw [e]
  pointwise [k0_pay45]

theorem same46 (v : Vec Ideal S1024x128 .f32) (i : S1024x128.Idx) : k0_pay46 (F := Ideal) v i = v i := by
  have e : i = ix2 (i 0) (i 1) := funext fun a => by fin_cases a <;> rfl
  rw [e]
  pointwise [k0_pay46]

theorem same53 (v : Vec Ideal S1x128 .f32) (i : S1x128.Idx) : k0_pay53 (F := Ideal) v i = v i := by
  have e : i = ix2 (i 0) (i 1) := funext fun a => by fin_cases a <;> rfl
  rw [e]
  pointwise [k0_pay53]

theorem cols2 (k : Fin 1024) (n : Fin 768) : View.ld x2 r0_2 (ix2 k n) = x2 (ix2 k ⟨0 + n.val, by omega⟩) :=
  congrArg x2 (funext fun a => by
    fin_cases a
    · exact Fin.ext (show 0 + 1 * k.val = k.val by omega)
    · exact Fin.ext (show 0 + 1 * n.val = 0 + n.val by omega))

theorem prod2 (r : Fin 1024) (n : Fin 768) :
    prod (k0_pay6 (F := Ideal) x0 x1) (fun k j => View.ld x2 r0_2 (ix2 k j)) r n = proj x0 x1 x2 r ⟨0 + n.val, by omega⟩ :=
  Finset.sum_congr rfl fun k _ => congrArg₂ (fun p q : EReal => p * q) (pay6_apply x0 x1 r k) (cols2 x2 k n)

theorem cols6 (k : Fin 1024) (n : Fin 512) : View.ld x2 r0_6 (ix2 k n) = x2 (ix2 k ⟨768 + n.val, by omega⟩) :=
  congrArg x2 (funext fun a => by
    fin_cases a
    · exact Fin.ext (show 0 + 1 * k.val = k.val by omega)
    · exact Fin.ext (show 768 + 1 * n.val = 768 + n.val by omega))

theorem prod6 (r : Fin 1024) (n : Fin 512) :
    prod (k0_pay6 (F := Ideal) x0 x1) (fun k j => View.ld x2 r0_6 (ix2 k j)) r n = proj x0 x1 x2 r ⟨768 + n.val, by omega⟩ :=
  Finset.sum_congr rfl fun k _ => congrArg₂ (fun p q : EReal => p * q) (pay6_apply x0 x1 r k) (cols6 x2 k n)

theorem cols7 (k : Fin 1024) (n : Fin 512) : View.ld x2 r0_7 (ix2 k n) = x2 (ix2 k ⟨1280 + n.val, by omega⟩) :=
  congrArg x2 (funext fun a => by
    fin_cases a
    · exact Fin.ext (show 0 + 1 * k.val = k.val by omega)
    · exact Fin.ext (show 1280 + 1 * n.val = 1280 + n.val by omega))

theorem prod7 (r : Fin 1024) (n : Fin 512) :
    prod (k0_pay6 (F := Ideal) x0 x1) (fun k j => View.ld x2 r0_7 (ix2 k j)) r n = proj x0 x1 x2 r ⟨1280 + n.val, by omega⟩ :=
  Finset.sum_congr rfl fun k _ => congrArg₂ (fun p q : EReal => p * q) (pay6_apply x0 x1 r k) (cols7 x2 k n)

theorem cols12 (k : Fin 1024) (n : Fin 128) : View.ld x2 r0_12 (ix2 k n) = x2 (ix2 k ⟨1792 + n.val, by omega⟩) :=
  congrArg x2 (funext fun a => by
    fin_cases a
    · exact Fin.ext (show 0 + 1 * k.val = k.val by omega)
    · exact Fin.ext (show 1792 + 1 * n.val = 1792 + n.val by omega))

theorem prod12 (r : Fin 1024) (n : Fin 128) :
    prod (k0_pay6 (F := Ideal) x0 x1) (fun k j => View.ld x2 r0_12 (ix2 k j)) r n = proj x0 x1 x2 r ⟨1792 + n.val, by omega⟩ :=
  Finset.sum_congr rfl fun k _ => congrArg₂ (fun p q : EReal => p * q) (pay6_apply x0 x1 r k) (cols12 x2 k n)

theorem cols13 (k : Fin 1024) (n : Fin 128) : View.ld x2 r0_13 (ix2 k n) = x2 (ix2 k ⟨1920 + n.val, by omega⟩) :=
  congrArg x2 (funext fun a => by
    fin_cases a
    · exact Fin.ext (show 0 + 1 * k.val = k.val by omega)
    · exact Fin.ext (show 1920 + 1 * n.val = 1920 + n.val by omega))

theorem prod13 (r : Fin 1024) (n : Fin 128) :
    prod (k0_pay6 (F := Ideal) x0 x1) (fun k j => View.ld x2 r0_13 (ix2 k j)) r n = proj x0 x1 x2 r ⟨1920 + n.val, by omega⟩ :=
  Finset.sum_congr rfl fun k _ => congrArg₂ (fun p q : EReal => p * q) (pay6_apply x0 x1 r k) (cols13 x2 k n)

theorem cols16 (k : Fin 1024) (n : Fin 128) : View.ld x2 r0_16 (ix2 k n) = x2 (ix2 k ⟨2048 + n.val, by omega⟩) :=
  congrArg x2 (funext fun a => by
    fin_cases a
    · exact Fin.ext (show 0 + 1 * k.val = k.val by omega)
    · exact Fin.ext (show 2048 + 1 * n.val = 2048 + n.val by omega))

theorem prod16 (r : Fin 1024) (n : Fin 128) :
    prod (k0_pay6 (F := Ideal) x0 x1) (fun k j => View.ld x2 r0_16 (ix2 k j)) r n = proj x0 x1 x2 r ⟨2048 + n.val, by omega⟩ :=
  Finset.sum_congr rfl fun k _ => congrArg₂ (fun p q : EReal => p * q) (pay6_apply x0 x1 r k) (cols16 x2 k n)

theorem cols18 (k : Fin 1024) (n : Fin 256) : View.ld x2 r0_18 (ix2 k n) = x2 (ix2 k ⟨2176 + n.val, by omega⟩) :=
  congrArg x2 (funext fun a => by
    fin_cases a
    · exact Fin.ext (show 0 + 1 * k.val = k.val by omega)
    · exact Fin.ext (show 2176 + 1 * n.val = 2176 + n.val by omega))

theorem prod18 (r : Fin 1024) (n : Fin 256) :
    prod (k0_pay6 (F := Ideal) x0 x1) (fun k j => View.ld x2 r0_18 (ix2 k j)) r n = proj x0 x1 x2 r ⟨2176 + n.val, by omega⟩ :=
  Finset.sum_congr rfl fun k _ => congrArg₂ (fun p q : EReal => p * q) (pay6_apply x0 x1 r k) (cols18 x2 k n)

theorem cols21 (k : Fin 1024) (n : Fin 128) : View.ld x2 r0_21 (ix2 k n) = x2 (ix2 k ⟨2432 + n.val, by omega⟩) :=
  congrArg x2 (funext fun a => by
    fin_cases a
    · exact Fin.ext (show 0 + 1 * k.val = k.val by omega)
    · exact Fin.ext (show 2432 + 1 * n.val = 2432 + n.val by omega))

theorem prod21 (r : Fin 1024) (n : Fin 128) :
    prod (k0_pay6 (F := Ideal) x0 x1) (fun k j => View.ld x2 r0_21 (ix2 k j)) r n = proj x0 x1 x2 r ⟨2432 + n.val, by omega⟩ :=
  Finset.sum_congr rfl fun k _ => congrArg₂ (fun p q : EReal => p * q) (pay6_apply x0 x1 r k) (cols21 x2 k n)

theorem cols22 (k : Fin 1024) (n : Fin 128) : View.ld x2 r0_22 (ix2 k n) = x2 (ix2 k ⟨2560 + n.val, by omega⟩) :=
  congrArg x2 (funext fun a => by
    fin_cases a
    · exact Fin.ext (show 0 + 1 * k.val = k.val by omega)
    · exact Fin.ext (show 2560 + 1 * n.val = 2560 + n.val by omega))

theorem prod22 (r : Fin 1024) (n : Fin 128) :
    prod (k0_pay6 (F := Ideal) x0 x1) (fun k j => View.ld x2 r0_22 (ix2 k j)) r n = proj x0 x1 x2 r ⟨2560 + n.val, by omega⟩ :=
  Finset.sum_congr rfl fun k _ => congrArg₂ (fun p q : EReal => p * q) (pay6_apply x0 x1 r k) (cols22 x2 k n)

theorem cols23 (k : Fin 1024) (n : Fin 128) : View.ld x2 r0_23 (ix2 k n) = x2 (ix2 k ⟨2688 + n.val, by omega⟩) :=
  congrArg x2 (funext fun a => by
    fin_cases a
    · exact Fin.ext (show 0 + 1 * k.val = k.val by omega)
    · exact Fin.ext (show 2688 + 1 * n.val = 2688 + n.val by omega))

theorem prod23 (r : Fin 1024) (n : Fin 128) :
    prod (k0_pay6 (F := Ideal) x0 x1) (fun k j => View.ld x2 r0_23 (ix2 k j)) r n = proj x0 x1 x2 r ⟨2688 + n.val, by omega⟩ :=
  Finset.sum_congr rfl fun k _ => congrArg₂ (fun p q : EReal => p * q) (pay6_apply x0 x1 r k) (cols23 x2 k n)

theorem sum6 (r : Fin 1024) (n : Fin 512) :
    k0_pay13 (F := Ideal) (k0_pay6 x0 x1) (View.ld x2 r0_6) (ix2 r n) = proj x0 x1 x2 r ⟨768 + n.val, by omega⟩ :=
  (pay13_apply _ _ r n).trans (prod6 x0 x1 x2 r n)

theorem sum7 (r : Fin 1024) (n : Fin 512) :
    k0_pay14 (F := Ideal) (k0_pay6 x0 x1) (View.ld x2 r0_7) (ix2 r n) = proj x0 x1 x2 r ⟨1280 + n.val, by omega⟩ :=
  (pay14_apply _ _ r n).trans (prod7 x0 x1 x2 r n)

theorem out18_apply (r : Fin 1024) (n : Fin 768) :
    out0_18 (F := Ideal) x0 x1 x2 x3 x4 x5 x6 x7 x8 x9 x10 x11 x12 x13 x14 x15 x16 x17 (ix3 0 r n) = proj x0 x1 x2 r ⟨0 + n.val, by omega⟩ := by
  unfold out0_18
  rw [View.canon_unit_zero (by decide), whole0, whole1, pay7_apply, prod2]

theorem out21_apply (j : Fin 128) (r : Fin 1024) :
    out0_21 (F := Ideal) x0 x1 x2 x3 x4 x5 x6 x7 x8 x9 x10 x11 x12 x13 x14 x15 x16 x17 (ix3 0 j r) = proj x0 x1 x2 r ⟨2048 + j.val, by omega⟩ := by
  unfold_out out0_21
  rw [View.canon_unit_zero (by decide), whole0, whole1, pay43_apply, prod16]

/-- A tile of queries. -/
def qtile (r : Fin 1024) (t : Fin 4) (j : Fin 128) : EReal :=
  tile low (fun k => proj x0 x1 x2 r ⟨768 + (128 * t.val + k.val), by omega⟩) (fun k => proj x0 x1 x2 r ⟨1280 + (128 * t.val + k.val), by omega⟩)
    (fun k => x7 (ix2 r k) * x3 (ix2 0 k)) (fun k => x8 (ix2 r k) * x4 (ix2 0 k)) j

/-- The block of queries. -/
def qblock : Vec Ideal S1x1024x512 .bf16 := fun y =>
  qtile x0 x1 x2 x3 x4 x7 x8 (y 1) ⟨(y 2).val / 128, by have : (y 2).val < 512 := (y 2).isLt; omega⟩ ⟨(y 2).val % 128, Nat.mod_lt _ (by decide)⟩

theorem out19_eq : out0_19 (F := Ideal) x0 x1 x2 x3 x4 x5 x6 x7 x8 x9 x10 x11 x12 x13 x14 x15 x16 x17 = qblock x0 x1 x2 x3 x4 x7 x8 := by
  unfold_out out0_19
  rw [whole0, whole1, wholeT, wholeT, wholeG, wholeG]
  funext y
  refine View.canon_apply_of_pieces (qblock x0 x1 x2 x3 x4 x7 x8) _ ?_ y (cover0_19 _ _ _ _ y)
  intro pc hpc
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_11.emb (ix3 0 r j)) 1 = r := Fin.ext (show 0 + 1 * r.val = r.val by omega)
    have e2 : ((r0_11.emb (ix3 0 r j)) 2).val / 128 = 3 := show (384 + 1 * j.val) / 128 = 3 by omega
    have e3 : ((r0_11.emb (ix3 0 r j)) 2).val % 128 = j.val := show (384 + 1 * j.val) % 128 = j.val by omega
    refine Eq.trans ?_ (show qtile x0 x1 x2 x3 x4 x7 x8 _ _ _ = qtile x0 x1 x2 x3 x4 x7 x8 r ⟨3, by decide⟩ j by
      rw [e1]; exact congrArg₂ (qtile x0 x1 x2 x3 x4 x7 x8 r) (Fin.ext e2) (Fin.ext e3)).symm
    dsimp only
    rw [pay35_apply]
    unfold qtile
    simp only [sum6, sum7, pay15_apply, pay16_apply, same8, same9, same11, same12, pay10_apply]
    exact congrArg₂ (fun u w => tile low u w (fun k => x7 (ix2 r k) * x3 (ix2 0 k)) (fun k => x8 (ix2 r k) * x4 (ix2 0 k)) j)
      (funext fun k => congrArg (proj x0 x1 x2 r) (Fin.ext (by first | rfl | (dsimp only; omega)))) (funext fun k => congrArg (proj x0 x1 x2 r) (Fin.ext (by first | rfl | (dsimp only; omega))))
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_10.emb (ix3 0 r j)) 1 = r := Fin.ext (show 0 + 1 * r.val = r.val by omega)
    have e2 : ((r0_10.emb (ix3 0 r j)) 2).val / 128 = 2 := show (256 + 1 * j.val) / 128 = 2 by omega
    have e3 : ((r0_10.emb (ix3 0 r j)) 2).val % 128 = j.val := show (256 + 1 * j.val) % 128 = j.val by omega
    refine Eq.trans ?_ (show qtile x0 x1 x2 x3 x4 x7 x8 _ _ _ = qtile x0 x1 x2 x3 x4 x7 x8 r ⟨2, by decide⟩ j by
      rw [e1]; exact congrArg₂ (qtile x0 x1 x2 x3 x4 x7 x8 r) (Fin.ext e2) (Fin.ext e3)).symm
    dsimp only
    rw [pay34_apply, pay25_apply]
    unfold qtile
    simp only [sum6, sum7, pay15_apply, pay16_apply, same8, same9, same11, same12, pay10_apply]
    exact congrArg₂ (fun u w => tile low u w (fun k => x7 (ix2 r k) * x3 (ix2 0 k)) (fun k => x8 (ix2 r k) * x4 (ix2 0 k)) j)
      (funext fun k => congrArg (proj x0 x1 x2 r) (Fin.ext (by first | rfl | (dsimp only; omega)))) (funext fun k => congrArg (proj x0 x1 x2 r) (Fin.ext (by first | rfl | (dsimp only; omega))))
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_9.emb (ix3 0 r j)) 1 = r := Fin.ext (show 0 + 1 * r.val = r.val by omega)
    have e2 : ((r0_9.emb (ix3 0 r j)) 2).val / 128 = 1 := show (128 + 1 * j.val) / 128 = 1 by omega
    have e3 : ((r0_9.emb (ix3 0 r j)) 2).val % 128 = j.val := show (128 + 1 * j.val) % 128 = j.val by omega
    refine Eq.trans ?_ (show qtile x0 x1 x2 x3 x4 x7 x8 _ _ _ = qtile x0 x1 x2 x3 x4 x7 x8 r ⟨1, by decide⟩ j by
      rw [e1]; exact congrArg₂ (qtile x0 x1 x2 x3 x4 x7 x8 r) (Fin.ext e2) (Fin.ext e3)).symm
    dsimp only
    rw [pay33_apply, pay24_apply]
    unfold qtile
    simp only [sum6, sum7, pay15_apply, pay16_apply, same8, same9, same11, same12, pay10_apply]
    exact congrArg₂ (fun u w => tile low u w (fun k => x7 (ix2 r k) * x3 (ix2 0 k)) (fun k => x8 (ix2 r k) * x4 (ix2 0 k)) j)
      (funext fun k => congrArg (proj x0 x1 x2 r) (Fin.ext (by first | rfl | (dsimp only; omega)))) (funext fun k => congrArg (proj x0 x1 x2 r) (Fin.ext (by first | rfl | (dsimp only; omega))))
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_8.emb (ix3 0 r j)) 1 = r := Fin.ext (show 0 + 1 * r.val = r.val by omega)
    have e2 : ((r0_8.emb (ix3 0 r j)) 2).val / 128 = 0 := show (0 + 1 * j.val) / 128 = 0 by omega
    have e3 : ((r0_8.emb (ix3 0 r j)) 2).val % 128 = j.val := show (0 + 1 * j.val) % 128 = j.val by omega
    refine Eq.trans ?_ (show qtile x0 x1 x2 x3 x4 x7 x8 _ _ _ = qtile x0 x1 x2 x3 x4 x7 x8 r ⟨0, by decide⟩ j by
      rw [e1]; exact congrArg₂ (qtile x0 x1 x2 x3 x4 x7 x8 r) (Fin.ext e2) (Fin.ext e3)).symm
    dsimp only
    rw [pay32_apply, pay17_apply]
    unfold qtile
    simp only [sum6, sum7, pay15_apply, pay16_apply, same8, same9, same11, same12, pay10_apply]
    exact congrArg₂ (fun u w => tile low u w (fun k => x7 (ix2 r k) * x3 (ix2 0 k)) (fun k => x8 (ix2 r k) * x4 (ix2 0 k)) j)
      (funext fun k => congrArg (proj x0 x1 x2 r) (Fin.ext (by first | rfl | (dsimp only; omega)))) (funext fun k => congrArg (proj x0 x1 x2 r) (Fin.ext (by first | rfl | (dsimp only; omega))))
  nomatch hpc

/-- The tile of keys: one head in the first lanes, the other in the last. -/
def ktile (r : Fin 1024) (j : Fin 128) : EReal :=
  tile low (fun k => proj x0 x1 x2 r ⟨1792 + k.val, by omega⟩) (fun k => proj x0 x1 x2 r ⟨1920 + k.val, by omega⟩)
    (fun k => x7 (ix2 r k) * x5 (ix2 0 k)) (fun k => x8 (ix2 r k) * x6 (ix2 0 k)) j

/-- The block of keys, each head twice side by side. -/
def kblock : Vec Ideal S1x2x1024x128 .bf16 := fun y =>
  ktile x0 x1 x2 x5 x6 x7 x8 (y 2) ⟨64 * (y 1).val + (y 3).val % 64, by have : (y 1).val < 2 := (y 1).isLt; omega⟩

theorem keys_tile (r : Fin 1024) (j : Fin 128) :
    k0_pay39 (F := Ideal) (k0_pay6 x0 x1) (k0_pay8 x7) (k0_pay9 x8) k0_pay10 (k0_pay36 x5) (k0_pay37 x6) (k0_pay38 (k0_pay6 x0 x1) (View.ld x2 r0_12)) (View.ld x2 r0_13) (ix2 r j)
      = ktile x0 x1 x2 x5 x6 x7 x8 r j := by
  rw [pay39_apply]
  unfold ktile
  simp only [same8, same9, same36, same37, pay10_apply]
  exact congrArg₂ (fun u w => tile low u w (fun k => x7 (ix2 r k) * x5 (ix2 0 k)) (fun k => x8 (ix2 r k) * x6 (ix2 0 k)) j)
    (funext fun k => prod12 x0 x1 x2 r k) (funext fun k => prod13 x0 x1 x2 r k)

theorem out20_eq : out0_20 (F := Ideal) x0 x1 x2 x3 x4 x5 x6 x7 x8 x9 x10 x11 x12 x13 x14 x15 x16 x17 = kblock x0 x1 x2 x5 x6 x7 x8 := by
  unfold_out out0_20
  rw [whole0, whole1, wholeT, wholeT, wholeG, wholeG]
  funext y
  refine View.canon_apply_of_pieces (kblock x0 x1 x2 x5 x6 x7 x8) _ ?_ y (cover0_20 _ _ y)
  intro pc hpc
  rcases List.mem_cons.mp hpc with rfl | hpc
  · intro (x : S1x1x1024x128.Idx)
    obtain ⟨r, j, rfl⟩ : ∃ r j, x = ix4 0 0 r j := ⟨x 2, x 3, funext fun a => by fin_cases a; exacts [Subsingleton.elim (α := Fin 1) _ _, Subsingleton.elim (α := Fin 1) _ _, rfl, rfl]⟩
    have e1 : (r0_15.emb (ix4 0 0 r j)) 2 = r := Fin.ext (show 0 + 1 * r.val = r.val by omega)
    have e2 : 64 * ((r0_15.emb (ix4 0 0 r j)) 1).val + ((r0_15.emb (ix4 0 0 r j)) 3).val % 64 = 64 + j.val % 64 :=
      show 64 * (1 + 1 * 0) + (0 + 1 * j.val) % 64 = _ by omega
    refine Eq.trans ?_ (show ktile x0 x1 x2 x5 x6 x7 x8 _ _ = ktile x0 x1 x2 x5 x6 x7 x8 r ⟨64 + j.val % 64, by omega⟩ by
      rw [e1]; exact congrArg (ktile x0 x1 x2 x5 x6 x7 x8 r) (Fin.ext e2)).symm
    dsimp only
    rw [pay42_apply, keys_tile, keys_tile, pay10_apply]
    by_cases hj : j.val < 64
    · rw [decide_eq_true hj]
      exact congrArg (ktile x0 x1 x2 x5 x6 x7 x8 r) (Fin.ext (by first | rfl | (dsimp only; omega)))
    · rw [decide_eq_false hj]
      exact congrArg (ktile x0 x1 x2 x5 x6 x7 x8 r) (Fin.ext (by first | rfl | (dsimp only; omega)))
  rcases List.mem_cons.mp hpc with rfl | hpc
  · intro (x : S1x1x1024x128.Idx)
    obtain ⟨r, j, rfl⟩ : ∃ r j, x = ix4 0 0 r j := ⟨x 2, x 3, funext fun a => by fin_cases a; exacts [Subsingleton.elim (α := Fin 1) _ _, Subsingleton.elim (α := Fin 1) _ _, rfl, rfl]⟩
    have e1 : (r0_14.emb (ix4 0 0 r j)) 2 = r := Fin.ext (show 0 + 1 * r.val = r.val by omega)
    have e2 : 64 * ((r0_14.emb (ix4 0 0 r j)) 1).val + ((r0_14.emb (ix4 0 0 r j)) 3).val % 64 = 0 + j.val % 64 :=
      show 64 * (0 + 1 * 0) + (0 + 1 * j.val) % 64 = _ by omega
    refine Eq.trans ?_ (show ktile x0 x1 x2 x5 x6 x7 x8 _ _ = ktile x0 x1 x2 x5 x6 x7 x8 r ⟨0 + j.val % 64, by omega⟩ by
      rw [e1]; exact congrArg (ktile x0 x1 x2 x5 x6 x7 x8 r) (Fin.ext e2)).symm
    dsimp only
    rw [pay41_apply, keys_tile, keys_tile, pay10_apply]
    by_cases hj : j.val < 64
    · rw [decide_eq_true hj]
      exact congrArg (ktile x0 x1 x2 x5 x6 x7 x8 r) (Fin.ext (by first | rfl | (dsimp only; omega)))
    · rw [decide_eq_false hj]
      exact congrArg (ktile x0 x1 x2 x5 x6 x7 x8 r) (Fin.ext (by first | rfl | (dsimp only; omega)))
  nomatch hpc

/-- The latent queries of a block, before the rotation; the last half holds the partners. -/
def latq (r : Fin 1024) (n : Fin 1024) : EReal :=
  ∑ k : Fin 256, Cert.Out.normed 0x43800000#32 (fun k : Fin 256 => proj x0 x1 x2 r ⟨2176 + k.val, by omega⟩) k (x9 (ix2 0 k)) * x10 (ix2 k n)

theorem latq_eq (r n : Fin 1024) :
    k0_pay44 (F := Ideal) (k0_pay6 x0 x1) (View.ld x2 r0_18) x9 x10 (ix2 r n) = latq x0 x1 x2 x9 x10 r n := by
  rw [pay44_apply]
  unfold latq
  rw [show prod (k0_pay6 (F := Ideal) x0 x1) (fun k j => View.ld x2 r0_18 (ix2 k j)) r = fun k : Fin 256 => proj x0 x1 x2 r ⟨2176 + k.val, by omega⟩ from funext fun k => prod18 x0 x1 x2 r k]

/-- The block of latent queries. -/
def mqblock : Vec Ideal S1x1024x512 .bf16 := fun y =>
  (latq x0 x1 x2 x9 x10 (y 1) ⟨(y 2).val, by have : (y 2).val < 512 := (y 2).isLt; omega⟩ * x11 (ix2 (y 1) ⟨(y 2).val % 128, Nat.mod_lt _ (by decide)⟩)
    + latq x0 x1 x2 x9 x10 (y 1) ⟨512 + (y 2).val, by have : (y 2).val < 512 := (y 2).isLt; omega⟩ * x12 (ix2 (y 1) ⟨(y 2).val % 128, Nat.mod_lt _ (by decide)⟩) : EReal)

theorem out22_eq : out0_22 (F := Ideal) x0 x1 x2 x3 x4 x5 x6 x7 x8 x9 x10 x11 x12 x13 x14 x15 x16 x17 = mqblock x0 x1 x2 x9 x10 x11 x12 := by
  unfold_out out0_22
  rw [whole0, whole1, wholeT, wholeT, whole9, whole10]
  funext y
  refine View.canon_apply_of_pieces (mqblock x0 x1 x2 x9 x10 x11 x12) _ ?_ y (cover0_22 _ _ _ _ y)
  intro pc hpc
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_11.emb (ix3 0 r j)) 1 = r := Fin.ext (show 0 + 1 * r.val = r.val by omega)
    have e2 : ((r0_11.emb (ix3 0 r j)) 2).val / 128 = 3 := show (384 + 1 * j.val) / 128 = 3 by omega
    have e3 : ((r0_11.emb (ix3 0 r j)) 2).val % 128 = j.val := show (384 + 1 * j.val) % 128 = j.val by omega
    have e4 : ((r0_11.emb (ix3 0 r j)) 2).val = 384 + j.val := show 384 + 1 * j.val = 384 + j.val by omega
    refine Eq.trans ?_ (show mqblock x0 x1 x2 x9 x10 x11 x12 (r0_11.emb (ix3 0 r j)) = (latq x0 x1 x2 x9 x10 r ⟨384 + j.val, by omega⟩ * x11 (ix2 r j) + latq x0 x1 x2 x9 x10 r ⟨512 + (384 + j.val), by omega⟩ * x12 (ix2 r j) : EReal) by
      unfold mqblock
      rw [e1]
      exact congrArg₂ (fun p q : EReal => p + q)
        (congrArg₂ (fun p q : EReal => p * q) (congrArg (latq x0 x1 x2 x9 x10 r) (Fin.ext e4)) (congrArg (fun q => x11 (ix2 r q)) (Fin.ext e3)))
        (congrArg₂ (fun p q : EReal => p * q) (congrArg (latq x0 x1 x2 x9 x10 r) (Fin.ext (congrArg (512 + ·) e4))) (congrArg (fun q => x12 (ix2 r q)) (Fin.ext e3)))).symm
    dsimp only
    rw [pay51_apply]
    simp only [latq_eq, same45, same46]
    exact congrArg₂ (fun p q : EReal => p + q)
        (congrArg (fun q : EReal => q * x11 (ix2 r j)) (congrArg (latq x0 x1 x2 x9 x10 r) (Fin.ext (by first | rfl | (dsimp only; omega)))))
        (congrArg (fun q : EReal => q * x12 (ix2 r j)) (congrArg (latq x0 x1 x2 x9 x10 r) (Fin.ext (by first | rfl | (dsimp only; omega)))))
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_10.emb (ix3 0 r j)) 1 = r := Fin.ext (show 0 + 1 * r.val = r.val by omega)
    have e2 : ((r0_10.emb (ix3 0 r j)) 2).val / 128 = 2 := show (256 + 1 * j.val) / 128 = 2 by omega
    have e3 : ((r0_10.emb (ix3 0 r j)) 2).val % 128 = j.val := show (256 + 1 * j.val) % 128 = j.val by omega
    have e4 : ((r0_10.emb (ix3 0 r j)) 2).val = 256 + j.val := show 256 + 1 * j.val = 256 + j.val by omega
    refine Eq.trans ?_ (show mqblock x0 x1 x2 x9 x10 x11 x12 (r0_10.emb (ix3 0 r j)) = (latq x0 x1 x2 x9 x10 r ⟨256 + j.val, by omega⟩ * x11 (ix2 r j) + latq x0 x1 x2 x9 x10 r ⟨512 + (256 + j.val), by omega⟩ * x12 (ix2 r j) : EReal) by
      unfold mqblock
      rw [e1]
      exact congrArg₂ (fun p q : EReal => p + q)
        (congrArg₂ (fun p q : EReal => p * q) (congrArg (latq x0 x1 x2 x9 x10 r) (Fin.ext e4)) (congrArg (fun q => x11 (ix2 r q)) (Fin.ext e3)))
        (congrArg₂ (fun p q : EReal => p * q) (congrArg (latq x0 x1 x2 x9 x10 r) (Fin.ext (congrArg (512 + ·) e4))) (congrArg (fun q => x12 (ix2 r q)) (Fin.ext e3)))).symm
    dsimp only
    rw [pay50_apply]
    simp only [latq_eq, same45, same46]
    exact congrArg₂ (fun p q : EReal => p + q)
        (congrArg (fun q : EReal => q * x11 (ix2 r j)) (congrArg (latq x0 x1 x2 x9 x10 r) (Fin.ext (by first | rfl | (dsimp only; omega)))))
        (congrArg (fun q : EReal => q * x12 (ix2 r j)) (congrArg (latq x0 x1 x2 x9 x10 r) (Fin.ext (by first | rfl | (dsimp only; omega)))))
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_9.emb (ix3 0 r j)) 1 = r := Fin.ext (show 0 + 1 * r.val = r.val by omega)
    have e2 : ((r0_9.emb (ix3 0 r j)) 2).val / 128 = 1 := show (128 + 1 * j.val) / 128 = 1 by omega
    have e3 : ((r0_9.emb (ix3 0 r j)) 2).val % 128 = j.val := show (128 + 1 * j.val) % 128 = j.val by omega
    have e4 : ((r0_9.emb (ix3 0 r j)) 2).val = 128 + j.val := show 128 + 1 * j.val = 128 + j.val by omega
    refine Eq.trans ?_ (show mqblock x0 x1 x2 x9 x10 x11 x12 (r0_9.emb (ix3 0 r j)) = (latq x0 x1 x2 x9 x10 r ⟨128 + j.val, by omega⟩ * x11 (ix2 r j) + latq x0 x1 x2 x9 x10 r ⟨512 + (128 + j.val), by omega⟩ * x12 (ix2 r j) : EReal) by
      unfold mqblock
      rw [e1]
      exact congrArg₂ (fun p q : EReal => p + q)
        (congrArg₂ (fun p q : EReal => p * q) (congrArg (latq x0 x1 x2 x9 x10 r) (Fin.ext e4)) (congrArg (fun q => x11 (ix2 r q)) (Fin.ext e3)))
        (congrArg₂ (fun p q : EReal => p * q) (congrArg (latq x0 x1 x2 x9 x10 r) (Fin.ext (congrArg (512 + ·) e4))) (congrArg (fun q => x12 (ix2 r q)) (Fin.ext e3)))).symm
    dsimp only
    rw [pay49_apply]
    simp only [latq_eq, same45, same46]
    exact congrArg₂ (fun p q : EReal => p + q)
        (congrArg (fun q : EReal => q * x11 (ix2 r j)) (congrArg (latq x0 x1 x2 x9 x10 r) (Fin.ext (by first | rfl | (dsimp only; omega)))))
        (congrArg (fun q : EReal => q * x12 (ix2 r j)) (congrArg (latq x0 x1 x2 x9 x10 r) (Fin.ext (by first | rfl | (dsimp only; omega)))))
  rcases List.mem_cons.mp hpc with rfl | hpc
  · intro (x : S1x1024x128.Idx)
    obtain ⟨r, j, rfl⟩ : ∃ r j, x = ix3 0 r j := ⟨x 1, x 2, funext fun a => by fin_cases a; exacts [Subsingleton.elim (α := Fin 1) _ _, rfl, rfl]⟩
    have e1 : (r0_8.emb (ix3 0 r j)) 1 = r := Fin.ext (show 0 + 1 * r.val = r.val by omega)
    have e2 : ((r0_8.emb (ix3 0 r j)) 2).val / 128 = 0 := show (0 + 1 * j.val) / 128 = 0 by omega
    have e3 : ((r0_8.emb (ix3 0 r j)) 2).val % 128 = j.val := show (0 + 1 * j.val) % 128 = j.val by omega
    have e4 : ((r0_8.emb (ix3 0 r j)) 2).val = 0 + j.val := show 0 + 1 * j.val = 0 + j.val by omega
    refine Eq.trans ?_ (show mqblock x0 x1 x2 x9 x10 x11 x12 (r0_8.emb (ix3 0 r j)) = (latq x0 x1 x2 x9 x10 r ⟨0 + j.val, by omega⟩ * x11 (ix2 r j) + latq x0 x1 x2 x9 x10 r ⟨512 + (0 + j.val), by omega⟩ * x12 (ix2 r j) : EReal) by
      unfold mqblock
      rw [e1]
      exact congrArg₂ (fun p q : EReal => p + q)
        (congrArg₂ (fun p q : EReal => p * q) (congrArg (latq x0 x1 x2 x9 x10 r) (Fin.ext e4)) (congrArg (fun q => x11 (ix2 r q)) (Fin.ext e3)))
        (congrArg₂ (fun p q : EReal => p * q) (congrArg (latq x0 x1 x2 x9 x10 r) (Fin.ext (congrArg (512 + ·) e4))) (congrArg (fun q => x12 (ix2 r q)) (Fin.ext e3)))).symm
    dsimp only
    rw [pay48_apply]
    simp only [latq_eq, same45, same46]
    exact congrArg₂ (fun p q : EReal => p + q)
        (congrArg (fun q : EReal => q * x11 (ix2 r j)) (congrArg (latq x0 x1 x2 x9 x10 r) (Fin.ext (by first | rfl | (dsimp only; omega)))))
        (congrArg (fun q : EReal => q * x12 (ix2 r j)) (congrArg (latq x0 x1 x2 x9 x10 r) (Fin.ext (by first | rfl | (dsimp only; omega)))))
  nomatch hpc

/-- The normalised latent rows of keys and values. -/
def latkv (r : Fin 1024) (k : Fin 128) : EReal :=
  Cert.Out.normed 0x43000000#32 (fun k : Fin 128 => proj x0 x1 x2 r ⟨2432 + k.val, by omega⟩) k (x13 (ix2 0 k))

theorem latkv_eq (r : Fin 1024) (k : Fin 128) :
    k0_pay56 (F := Ideal) (k0_pay52 (k0_pay6 x0 x1) (View.ld x2 r0_21)) (k0_pay53 x13) (k0_pay54 (k0_pay6 x0 x1) (View.ld x2 r0_21)) k0_pay55 (ix2 r k) = latkv x0 x1 x2 x13 r k := by
  rw [pay56_apply]
  unfold latkv
  rw [show prod (k0_pay6 (F := Ideal) x0 x1) (fun k j => View.ld x2 r0_21 (ix2 k j)) r = fun k : Fin 128 => proj x0 x1 x2 r ⟨2432 + k.val, by omega⟩ from funext fun k => prod21 x0 x1 x2 r k]

theorem keys_lat (r : Fin 1024) (n : Fin 512) :
    k0_pay58 (F := Ideal) (k0_pay52 (k0_pay6 x0 x1) (View.ld x2 r0_21)) (k0_pay53 x13) (k0_pay54 (k0_pay6 x0 x1) (View.ld x2 r0_21)) k0_pay55 x14 (ix2 r n)
      = ∑ k : Fin 128, latkv x0 x1 x2 x13 r k * x14 (ix2 k n) :=
  (pay58_apply _ _ _ _ _ r n).trans (Finset.sum_congr rfl fun k _ => congrArg (fun q : EReal => q * x14 (ix2 k n)) (latkv_eq x0 x1 x2 x13 r k))

theorem keys_rot (r : Fin 1024) (j : Fin 128) :
    k0_pay57 (F := Ideal) (k0_pay6 x0 x1) (View.ld x2 r0_22) x16 (View.ld x2 r0_23) x17 (ix2 r j)
      = proj x0 x1 x2 r ⟨2560 + j.val, by omega⟩ * x16 (ix2 r j) + proj x0 x1 x2 r ⟨2688 + j.val, by omega⟩ * x17 (ix2 r j) := by
  rw [pay57_apply, prod22, prod23]

/-- The block of latent keys. -/
def mkblock : Vec Ideal S1x4x1024x128 .bf16 := fun y =>
  ((∑ k : Fin 128, latkv x0 x1 x2 x13 (y 2) k * x14 (ix2 k ⟨128 * (y 1).val + (y 3).val, by have : (y 1).val < 4 := (y 1).isLt; have : (y 3).val < 128 := (y 3).isLt; omega⟩))
    + (proj x0 x1 x2 (y 2) ⟨2560 + (y 3).val, by have : (y 3).val < 128 := (y 3).isLt; omega⟩ * x16 (ix2 (y 2) (y 3)) + proj x0 x1 x2 (y 2) ⟨2688 + (y 3).val, by have : (y 3).val < 128 := (y 3).isLt; omega⟩ * x17 (ix2 (y 2) (y 3))) : EReal)

theorem out23_eq : out0_23 (F := Ideal) x0 x1 x2 x3 x4 x5 x6 x7 x8 x9 x10 x11 x12 x13 x14 x15 x16 x17 = mkblock x0 x1 x2 x13 x14 x16 x17 := by
  unfold_out out0_23
  rw [whole0, whole1, wholeT, wholeT, whole14, wholeG]
  funext y
  refine View.canon_apply_of_pieces (mkblock x0 x1 x2 x13 x14 x16 x17) _ ?_ y (cover0_23 _ _ _ _ y)
  intro pc hpc
  rcases List.mem_cons.mp hpc with rfl | hpc
  · intro (x : S1x1x1024x128.Idx)
    obtain ⟨r, j, rfl⟩ : ∃ r j, x = ix4 0 0 r j := ⟨x 2, x 3, funext fun a => by fin_cases a; exacts [Subsingleton.elim (α := Fin 1) _ _, Subsingleton.elim (α := Fin 1) _ _, rfl, rfl]⟩
    have e1 : (r0_28.emb (ix4 0 0 r j)) 2 = r := Fin.ext (show 0 + 1 * r.val = r.val by omega)
    have e2 : (r0_28.emb (ix4 0 0 r j)) 3 = j := Fin.ext (show 0 + 1 * j.val = j.val by omega)
    have e3 : 128 * ((r0_28.emb (ix4 0 0 r j)) 1).val + j.val = 384 + j.val := show 128 * (3 + 1 * 0) + j.val = _ by omega
    refine Eq.trans ?_ (show mkblock x0 x1 x2 x13 x14 x16 x17 (r0_28.emb (ix4 0 0 r j)) = ((∑ k : Fin 128, latkv x0 x1 x2 x13 r k * x14 (ix2 k ⟨384 + j.val, by omega⟩))
        + (proj x0 x1 x2 r ⟨2560 + j.val, by omega⟩ * x16 (ix2 r j) + proj x0 x1 x2 r ⟨2688 + j.val, by omega⟩ * x17 (ix2 r j)) : EReal) by
      unfold mkblock
      simp only [e1, e2, e3]).symm
    dsimp only
    rw [pay2_apply, keys_lat, keys_rot]
  rcases List.mem_cons.mp hpc with rfl | hpc
  · intro (x : S1x1x1024x128.Idx)
    obtain ⟨r, j, rfl⟩ : ∃ r j, x = ix4 0 0 r j := ⟨x 2, x 3, funext fun a => by fin_cases a; exacts [Subsingleton.elim (α := Fin 1) _ _, Subsingleton.elim (α := Fin 1) _ _, rfl, rfl]⟩
    have e1 : (r0_27.emb (ix4 0 0 r j)) 2 = r := Fin.ext (show 0 + 1 * r.val = r.val by omega)
    have e2 : (r0_27.emb (ix4 0 0 r j)) 3 = j := Fin.ext (show 0 + 1 * j.val = j.val by omega)
    have e3 : 128 * ((r0_27.emb (ix4 0 0 r j)) 1).val + j.val = 256 + j.val := show 128 * (2 + 1 * 0) + j.val = _ by omega
    refine Eq.trans ?_ (show mkblock x0 x1 x2 x13 x14 x16 x17 (r0_27.emb (ix4 0 0 r j)) = ((∑ k : Fin 128, latkv x0 x1 x2 x13 r k * x14 (ix2 k ⟨256 + j.val, by omega⟩))
        + (proj x0 x1 x2 r ⟨2560 + j.val, by omega⟩ * x16 (ix2 r j) + proj x0 x1 x2 r ⟨2688 + j.val, by omega⟩ * x17 (ix2 r j)) : EReal) by
      unfold mkblock
      simp only [e1, e2, e3]).symm
    dsimp only
    rw [pay1_apply, keys_lat, keys_rot]
  rcases List.mem_cons.mp hpc with rfl | hpc
  · intro (x : S1x1x1024x128.Idx)
    obtain ⟨r, j, rfl⟩ : ∃ r j, x = ix4 0 0 r j := ⟨x 2, x 3, funext fun a => by fin_cases a; exacts [Subsingleton.elim (α := Fin 1) _ _, Subsingleton.elim (α := Fin 1) _ _, rfl, rfl]⟩
    have e1 : (r0_26.emb (ix4 0 0 r j)) 2 = r := Fin.ext (show 0 + 1 * r.val = r.val by omega)
    have e2 : (r0_26.emb (ix4 0 0 r j)) 3 = j := Fin.ext (show 0 + 1 * j.val = j.val by omega)
    have e3 : 128 * ((r0_26.emb (ix4 0 0 r j)) 1).val + j.val = 128 + j.val := show 128 * (1 + 1 * 0) + j.val = _ by omega
    refine Eq.trans ?_ (show mkblock x0 x1 x2 x13 x14 x16 x17 (r0_26.emb (ix4 0 0 r j)) = ((∑ k : Fin 128, latkv x0 x1 x2 x13 r k * x14 (ix2 k ⟨128 + j.val, by omega⟩))
        + (proj x0 x1 x2 r ⟨2560 + j.val, by omega⟩ * x16 (ix2 r j) + proj x0 x1 x2 r ⟨2688 + j.val, by omega⟩ * x17 (ix2 r j)) : EReal) by
      unfold mkblock
      simp only [e1, e2, e3]).symm
    dsimp only
    rw [pay60_apply, keys_lat, keys_rot]
  rcases List.mem_cons.mp hpc with rfl | hpc
  · intro (x : S1x1x1024x128.Idx)
    obtain ⟨r, j, rfl⟩ : ∃ r j, x = ix4 0 0 r j := ⟨x 2, x 3, funext fun a => by fin_cases a; exacts [Subsingleton.elim (α := Fin 1) _ _, Subsingleton.elim (α := Fin 1) _ _, rfl, rfl]⟩
    have e1 : (r0_25.emb (ix4 0 0 r j)) 2 = r := Fin.ext (show 0 + 1 * r.val = r.val by omega)
    have e2 : (r0_25.emb (ix4 0 0 r j)) 3 = j := Fin.ext (show 0 + 1 * j.val = j.val by omega)
    have e3 : 128 * ((r0_25.emb (ix4 0 0 r j)) 1).val + j.val = 0 + j.val := show 128 * (0 + 1 * 0) + j.val = _ by omega
    refine Eq.trans ?_ (show mkblock x0 x1 x2 x13 x14 x16 x17 (r0_25.emb (ix4 0 0 r j)) = ((∑ k : Fin 128, latkv x0 x1 x2 x13 r k * x14 (ix2 k ⟨0 + j.val, by omega⟩))
        + (proj x0 x1 x2 r ⟨2560 + j.val, by omega⟩ * x16 (ix2 r j) + proj x0 x1 x2 r ⟨2688 + j.val, by omega⟩ * x17 (ix2 r j)) : EReal) by
      unfold mkblock
      simp only [e1, e2, e3]).symm
    dsimp only
    rw [pay59_apply, keys_lat, keys_rot]
    exact congrArg (fun q : EReal => q + _) (Finset.sum_congr rfl fun k _ => congrArg (fun q => latkv x0 x1 x2 x13 r k * x14 (ix2 k q)) (Fin.ext (by first | rfl | (dsimp only; omega))))
  nomatch hpc

/-- The block of latent values. -/
def mvblock : Vec Ideal S1x256x1024 .bf16 := fun y => (∑ k : Fin 128, latkv x0 x1 x2 x13 (y 2) k * x15 (ix2 k (y 1)) : EReal)

theorem out24_eq : out0_24 (F := Ideal) x0 x1 x2 x3 x4 x5 x6 x7 x8 x9 x10 x11 x12 x13 x14 x15 x16 x17 = mvblock x0 x1 x2 x13 x15 := by
  unfold_out out0_24
  rw [whole0, whole1, whole15, wholeG]
  funext y
  refine View.canon_apply_of_pieces (mvblock x0 x1 x2 x13 x15) _ ?_ y (cover0_24 _ _ y)
  intro pc hpc
  rcases List.mem_cons.mp hpc with rfl | hpc
  · intro (x : S1x128x1024.Idx)
    obtain ⟨j, r, rfl⟩ : ∃ j r, x = ix3 0 j r := ⟨x 1, x 2, funext fun a => by fin_cases a; exacts [Subsingleton.elim (α := Fin 1) _ _, rfl, rfl]⟩
    have e1 : (r0_31.emb (ix3 0 j r)) 2 = r := Fin.ext (show 0 + 1 * r.val = r.val by omega)
    have e2 : (r0_31.emb (ix3 0 j r)) 1 = (⟨128 + j.val, by omega⟩ : Fin 256) := Fin.ext (show 128 + 1 * j.val = 128 + j.val by omega)
    refine Eq.trans ?_ (show mvblock x0 x1 x2 x13 x15 (r0_31.emb (ix3 0 j r)) = (∑ k : Fin 128, latkv x0 x1 x2 x13 r k * x15 (ix2 k ⟨128 + j.val, by omega⟩) : EReal) by
      unfold mvblock
      rw [e1, e2]).symm
    dsimp only
    rw [pay5_apply]
    simp only [latkv_eq]
  rcases List.mem_cons.mp hpc with rfl | hpc
  · intro (x : S1x128x1024.Idx)
    obtain ⟨j, r, rfl⟩ : ∃ j r, x = ix3 0 j r := ⟨x 1, x 2, funext fun a => by fin_cases a; exacts [Subsingleton.elim (α := Fin 1) _ _, rfl, rfl]⟩
    have e1 : (r0_30.emb (ix3 0 j r)) 2 = r := Fin.ext (show 0 + 1 * r.val = r.val by omega)
    have e2 : (r0_30.emb (ix3 0 j r)) 1 = (⟨0 + j.val, by omega⟩ : Fin 256) := Fin.ext (show 0 + 1 * j.val = 0 + j.val by omega)
    refine Eq.trans ?_ (show mvblock x0 x1 x2 x13 x15 (r0_30.emb (ix3 0 j r)) = (∑ k : Fin 128, latkv x0 x1 x2 x13 r k * x15 (ix2 k ⟨0 + j.val, by omega⟩) : EReal) by
      unfold mvblock
      rw [e1, e2]).symm
    dsimp only
    rw [pay4_apply]
    simp only [latkv_eq]
    exact Finset.sum_congr rfl fun k _ => congrArg (fun q => latkv x0 x1 x2 x13 r k * x15 (ix2 k q)) (Fin.ext (by first | rfl | (dsimp only; omega)))
  nomatch hpc

end Cert.Inp

end
-- ==== Proof.RefInp.lean ====
module
public import proofs.«01_k».proof.Proof.Gen.Reference5Ideal.Read
public import proofs.«01_k».proof.Proof.RefOut
@[expose] public section
/-!
  The plain input projection read at one element of its three results, over the extended reals.
-/
set_option maxRecDepth 16384

noncomputable section

open scoped BigOperators

namespace Cert.Inp

open Idealize.ShloMosaic Cert.Reference5Ideal Cert.Reference5Ideal.Gen Cert.Reference5Ideal.Read Cert.Out

variable (x0 : Vec Ideal S2x8192x1024 .f32) (x1 : Vec Ideal S1024 .f32) (x2 : Vec Ideal S1024x1952 .f32)
  (x7 : Vec Ideal S128 .f32) (x8 : Vec Ideal S128x512 .f32)

/-- A normalised row times a column of the weights. -/
def pj (b : Fin 2) (l : Fin 8192) (n : Fin 1952) : EReal :=
  ∑ k : Fin 1024, normed 0x44800000#32 (fun k => x0 (ix3 b l k)) k (x1 (ix1 k)) * x2 (ix2 k n)

/-- The normalised latent row of keys and values. -/
def lat (b : Fin 2) (l : Fin 8192) (k : Fin 128) : EReal :=
  normed 0x43000000#32 (fun k : Fin 128 => pj x0 x1 x2 b l ⟨1792 + k.val, by omega⟩) k (x7 (ix1 k))

theorem v12_apply (b : Fin 2) (l : Fin 8192) (k : Fin 1024) :
    val_main_v12 (F := Ideal) x0 x1 (ix3 b l k) = normed 0x44800000#32 (fun k => x0 (ix3 b l k)) k (x1 (ix1 k)) := by
  unfold normed
  rw [val_main_v12_apply, val_main_v11_apply, val_main_v10_apply, val_main_v9_apply, val_main_v8_apply, val_main_v7_apply, val_main_v6_apply, val_main_v5_apply, val_main_v4_apply, val_main_v3_apply, val_main_v2_apply, val_main_v1_apply,
    val_main_cst_apply, val_main_cst_0_apply, val_main_cst_1_apply]
  simp only [val_main_v0_apply]
  refine congrArg₂ (fun p q : EReal => p * q) (congrArg₂ (fun p q : EReal => p * q) rfl
    (congrArg Ideal.rsqrt (congrArg₂ (fun p q : EReal => p + q) (congrArg₂ Ideal.div ?_ rfl) rfl))) ?_
  · refine (congrArg₂ (fun p q : EReal => p + q) Ideal.ofBits_zero_f32 (Finset.sum_congr rfl fun k' _ => ?_)).trans (zero_add _)
    have e : idx_main_v1 (idx_main_v2 (idx_main_v8 (ix3 b l k))) k' = ix3 b l k' := funext fun a => by fin_cases a <;> rfl
    exact congrArg (fun i => (x0 i : EReal) * x0 i) e
  · exact congrArg x1 (funext fun a => by fin_cases a; rfl)

theorem v13_apply (b : Fin 2) (l : Fin 8192) (n : Fin 1952) : val_main_v13 (F := Ideal) x0 x1 x2 (ix3 b l n) = pj x0 x1 x2 b l n := by
  rw [val_main_v13_apply]
  refine Finset.sum_congr rfl fun k _ => congrArg₂ (fun p q : EReal => p * q) ?_ ?_
  · rw [← v12_apply]
    exact congrArg (val_main_v12 (F := Ideal) x0 x1) (funext fun a => by fin_cases a <;> rfl)
  · exact congrArg x2 (funext fun a => by fin_cases a <;> rfl)

theorem v14_apply (b : Fin 2) (l : Fin 8192) (n : Fin 768) :
    val_main_v14 (F := Ideal) x0 x1 x2 (ix3 b l n) = pj x0 x1 x2 b l ⟨n.val, by omega⟩ := by
  rw [val_main_v14_apply, ← v13_apply]
  exact congrArg (val_main_v13 (F := Ideal) x0 x1 x2) (funext fun a => by fin_cases a <;> exact Fin.ext (by first | rfl | (dsimp; omega)))

theorem v41_apply (b : Fin 2) (j : Fin 128) (l : Fin 8192) :
    val_main_v41 (F := Ideal) x0 x1 x2 (ix3 b j l) = pj x0 x1 x2 b l ⟨1408 + j.val, by omega⟩ := by
  refine (show val_main_v41 (F := Ideal) x0 x1 x2 (ix3 b j l) = val_main_v21 (F := Ideal) x0 x1 x2 (ix3 b j l) from rfl).trans ?_
  rw [val_main_v21_apply, val_main_v17_apply, ← v13_apply]
  exact congrArg (val_main_v13 (F := Ideal) x0 x1 x2) (funext fun a => by fin_cases a <;> exact Fin.ext (by first | rfl | (dsimp; omega)))

theorem v19_apply (b : Fin 2) (l : Fin 8192) (k : Fin 128) :
    val_main_v19 (F := Ideal) x0 x1 x2 (ix3 b l k) = pj x0 x1 x2 b l ⟨1792 + k.val, by omega⟩ := by
  rw [val_main_v19_apply, ← v13_apply]
  exact congrArg (val_main_v13 (F := Ideal) x0 x1 x2) (funext fun a => by fin_cases a <;> exact Fin.ext (by first | rfl | (dsimp; omega)))

theorem v34_apply (b : Fin 2) (l : Fin 8192) (k : Fin 128) : val_main_v34 (F := Ideal) x0 x1 x2 x7 (ix3 b l k) = lat x0 x1 x2 x7 b l k := by
  unfold lat normed
  rw [val_main_v34_apply, val_main_v33_apply, val_main_v32_apply, val_main_v31_apply, val_main_v30_apply, val_main_v29_apply, val_main_v28_apply, val_main_v27_apply, val_main_v26_apply, val_main_v25_apply, val_main_v24_apply, val_main_v23_apply,
    val_main_cst_2_apply, val_main_cst_3_apply, val_main_cst_4_apply]
  simp only [val_main_v22_apply]
  refine congrArg₂ (fun p q : EReal => p * q) (congrArg₂ (fun p q : EReal => p * q) (v19_apply x0 x1 x2 b l k)
    (congrArg Ideal.rsqrt (congrArg₂ (fun p q : EReal => p + q) (congrArg₂ Ideal.div ?_ rfl) rfl))) ?_
  · refine (congrArg₂ (fun p q : EReal => p + q) Ideal.ofBits_zero_f32 (Finset.sum_congr rfl fun k' _ => ?_)).trans (zero_add _)
    have e : idx_main_v23 (idx_main_v24 (idx_main_v30 (ix3 b l k))) k' = ix3 b l k' := funext fun a => by fin_cases a <;> rfl
    rw [e, v19_apply]
    rfl
  · exact congrArg x7 (funext fun a => by fin_cases a; rfl)

theorem v35_apply (b : Fin 2) (l : Fin 8192) (n : Fin 512) :
    val_main_v35 (F := Ideal) x0 x1 x2 x7 x8 (ix3 b l n) = ∑ k : Fin 128, lat x0 x1 x2 x7 b l k * x8 (ix2 k n) := by
  rw [val_main_v35_apply]
  refine Finset.sum_congr rfl fun k _ => congrArg₂ (fun p q : EReal => p * q) ?_ ?_
  · rw [← v34_apply]
    exact congrArg (val_main_v34 (F := Ideal) x0 x1 x2 x7) (funext fun a => by fin_cases a <;> rfl)
  · exact congrArg x8 (funext fun a => by fin_cases a <;> rfl)

theorem v42_apply (b : Fin 2) (j : Fin 256) (l : Fin 8192) :
    val_main_v42 (F := Ideal) x0 x1 x2 x7 x8 (ix3 b j l)
      = ∑ k : Fin 128, lat x0 x1 x2 x7 b l k * x8 (ix2 k ⟨128 * (j.val / 64) + 64 + j.val % 64, by omega⟩) := by
  rw [← v35_apply]
  refine (show val_main_v42 (F := Ideal) x0 x1 x2 x7 x8 (ix3 b j l) = val_main_v40 (F := Ideal) x0 x1 x2 x7 x8 (ix3 b j l) from rfl).trans ?_
  unfold val_main_v40 val_main_v39 val_main_v38 val_main_v36
  generalize val_main_v35 (F := Ideal) x0 x1 x2 x7 x8 = u
  pointwise
  exact congrArg (fun n => u (ix3 b l n)) (Fin.ext (by dsimp only; omega))

end Cert.Inp

end
-- ==== Proof.InpArray.lean ====
module
public import proofs.«01_k».proof.Proof.InpEntry
public import proofs.«01_k».proof.Proof.RefInp
public import Idealize.ShloMosaic.Lib.Pipeline.ValueKit
public import Idealize.ShloMosaic.Lib.StableHlo.RunRead
@[expose] public section
/-!
  The three arrays claimed of the input projection are the reference's.
-/
set_option maxRecDepth 16384

noncomputable section

open scoped BigOperators

namespace Cert.Inp

open Idealize.ShloMosaic Idealize.ShloMosaic.TcCoe Cert.Kernel5Ideal Cert.Kernel5Ideal.Gen

variable (m : (ℓ : Loc nD τ sig) → Buf (Elt Ideal) ℓ) (c : Dev nD)

theorem index0 : ∀ t : Fin cfg0.N, win0_0.index t = ![t.val / 8, t.val % 8, 0] :=
  (by decide +kernel : ∀ t : Fin grid0.N, _)

theorem index1 : ∀ t : Fin cfg0.N, win0_1.index t = ![0, 0] :=
  (by decide +kernel : ∀ t : Fin grid0.N, _)

theorem index2 : ∀ t : Fin cfg0.N, win0_2.index t = ![0, 0] :=
  (by decide +kernel : ∀ t : Fin grid0.N, _)

theorem index13 : ∀ t : Fin cfg0.N, win0_13.index t = ![0, 0] :=
  (by decide +kernel : ∀ t : Fin grid0.N, _)

theorem index15 : ∀ t : Fin cfg0.N, win0_15.index t = ![0, 0] :=
  (by decide +kernel : ∀ t : Fin grid0.N, _)

theorem index18 : ∀ t : Fin cfg0.N, win0_18.index t = ![t.val / 8, t.val % 8, 0] :=
  (by decide +kernel : ∀ t : Fin grid0.N, _)

theorem index21 : ∀ t : Fin cfg0.N, win0_21.index t = ![t.val / 8, 0, t.val % 8] :=
  (by decide +kernel : ∀ t : Fin grid0.N, _)

theorem index24 : ∀ t : Fin cfg0.N, win0_24.index t = ![t.val / 8, 0, t.val % 8] :=
  (by decide +kernel : ∀ t : Fin grid0.N, _)

/-- The arguments as launched. -/
abbrev argX : Vec Ideal S2x8192x1024 .f32 := m ((c : Thread nD τ).loc main_arg0)
abbrev argPre : Vec Ideal S1024 .f32 := m ((c : Thread nD τ).loc main_arg1)
abbrev argW : Vec Ideal S1024x1952 .f32 := m ((c : Thread nD τ).loc main_arg2)
abbrev argGkv : Vec Ideal S128 .f32 := m ((c : Thread nD τ).loc main_arg7)
abbrev argUkv : Vec Ideal S128x512 .f32 := m ((c : Thread nD τ).loc main_arg8)
open StableHlo

/-- The operations of a concatenation run the first list and then the second. -/
theorem after_join (xs ys : List (HloOp τ sig (Elt Ideal))) (M) : StableHlo.after (xs ++ ys) M = StableHlo.after ys (StableHlo.after xs M) := by
  induction xs generalizing M with
  | nil => rfl
  | cons x xs ih => exact ih _

/-- The host's operations, one list after another. -/
theorem V_nested (b : Ref sig .tc) : V m c b
    = StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))))) (Proc.devRef .tc b) := by
  simp only [V, List.flatten_cons, List.flatten_nil, after_join, List.append_nil]

set_option maxHeartbeats 4000000 in
theorem V1 : V m c main_v101 = broadcastInDim S1x1024 ![1] bcast_S1024_S1x1024_1 (argPre m c) := by
  rw [V_nested]
  after_reads_simp

set_option maxHeartbeats 4000000 in
theorem V13 : V m c main_v103 = broadcastInDim S1x128 ![1] bcast_S128_S1x128_1 (argGkv m c) := by
  rw [V_nested]
  after_reads_simp

set_option maxHeartbeats 4000000 in
theorem V15 (k : Fin 128) (n : Fin 256) : (V m c main_v100 : Vec Ideal S128x256 .bf16) (ix2 k n)
    = argUkv m c (ix2 k ⟨128 * (n.val / 64) + 64 + n.val % 64, by omega⟩) := by
  rw [V_nested]
  after_reads_simp
  pointwise
  blk_ext []

set_option maxHeartbeats 4000000 in
theorem V2hy (k : Fin 1024) (n : Fin 768) : (V m c main_v45 : Vec Ideal S1024x2816 .bf16) (ix2 k ⟨n.val, by omega⟩)
    = argW m c (ix2 k ⟨n.val, by omega⟩) := by
  rw [V_nested]
  after_reads_simp
  pointwise
  after_reads_simp
  pointwise
  blk_ext []

set_option maxHeartbeats 4000000 in
theorem V2rest (k : Fin 1024) (n : Fin 512) : (V m c main_v45 : Vec Ideal S1024x2816 .bf16) (ix2 k ⟨2048 + n.val, by omega⟩)
    = argW m c (ix2 k ⟨1408 + n.val, by omega⟩) := by
  rw [V_nested]
  after_reads_simp
  pointwise
  after_reads_simp
  pointwise
  rw [dif_neg (by omega), dif_neg (by omega), dif_neg (by omega), dif_neg (by omega), dif_neg (by omega), dif_pos (by omega)]
  blk_ext []

theorem block_x (t : Fin cfg0.N) (r : Fin 1024) (k : Fin 1024) :
    (iblk m c 0 t : Vec Ideal S1x1024x1024 .f32) (ix3 0 r k)
      = argX m c (ix3 ⟨t.val / 8, by have : t.val < 16 := t.isLt; omega⟩ ⟨t.val % 8 * 1024 + r.val, by omega⟩ k) := by
  have e := index0 t
  blk_simp [iblk]
  entry_read
  blk_ext [e]

theorem block_pre (t : Fin cfg0.N) (k : Fin 1024) : (iblk m c 1 t : Vec Ideal S1x1024 .f32) (ix2 0 k) = argPre m c (ix1 k) := by
  have e := index1 t
  blk_simp [iblk]
  rw [V1]
  pointwise
  blk_ext [e]

theorem block_gkv (t : Fin cfg0.N) (k : Fin 128) : (iblk m c 13 t : Vec Ideal S1x128 .f32) (ix2 0 k) = argGkv m c (ix1 k) := by
  have e := index13 t
  blk_simp [iblk]
  rw [V13]
  pointwise
  blk_ext [e]

theorem block_uv (t : Fin cfg0.N) (k : Fin 128) (n : Fin 256) : (iblk m c 15 t : Vec Ideal S128x256 .bf16) (ix2 k n)
    = argUkv m c (ix2 k ⟨128 * (n.val / 64) + 64 + n.val % 64, by omega⟩) := by
  have e := index15 t
  rw [← V15]
  blk_simp [iblk]
  blk_ext [e]

theorem block_w (t : Fin cfg0.N) (k : Fin 1024) (n : Fin 2816) : (iblk m c 2 t : Vec Ideal S1024x2816 .bf16) (ix2 k n)
    = (V m c main_v45 : Vec Ideal S1024x2816 .bf16) (ix2 k n) := by
  have e := index2 t
  blk_simp [iblk]
  blk_ext [e]

/-- A point's products are the reference's, column by column. -/
theorem proj_point (t : Fin cfg0.N) (r : Fin 1024) (n : Fin 2816) (n' : Fin 1952)
    (e : ∀ k : Fin 1024, (V m c main_v45 : Vec Ideal S1024x2816 .bf16) (ix2 k n) = argW m c (ix2 k n')) :
    proj (iblk m c 0 t) (iblk m c 1 t) (iblk m c 2 t) r n = pj (argX m c) (argPre m c) (argW m c) ⟨t.val / 8, by have : t.val < 16 := t.isLt; omega⟩ ⟨t.val % 8 * 1024 + r.val, by omega⟩ n' := by
  unfold proj pj
  simp only [block_x, block_pre, block_w, e]

theorem latkv_point (t : Fin cfg0.N) (r : Fin 1024) (k : Fin 128) :
    latkv (iblk m c 0 t) (iblk m c 1 t) (iblk m c 2 t) (iblk m c 13 t) r k = lat (argX m c) (argPre m c) (argW m c) (argGkv m c) ⟨t.val / 8, by have : t.val < 16 := t.isLt; omega⟩ ⟨t.val % 8 * 1024 + r.val, by omega⟩ k := by
  unfold latkv lat
  rw [block_gkv]
  refine congrArg (fun y => Cert.Out.normed _ y k _) (funext fun k' => ?_)
  refine proj_point m c t r _ _ fun q => ?_
  exact (congrArg (fun n => (V m c main_v45 : Vec Ideal S1024x2816 .bf16) (ix2 q n)) (Fin.ext (by dsimp only; omega))).trans
    ((V2rest m c q ⟨384 + k'.val, by omega⟩).trans (congrArg (fun n => argW m c (ix2 q n)) (Fin.ext (by dsimp only; omega))))

theorem point18 (t : Fin cfg0.N) (r : Fin 1024) (n : Fin 768) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r n)
      = Cert.Reference5Ideal.Read.val_main_v14 (F := Ideal) (argX m c) (argPre m c) (argW m c) (ix3 ⟨t.val / 8, by have : t.val < 16 := t.isLt; omega⟩ ⟨t.val % 8 * 1024 + r.val, by omega⟩ n) := by
  rw [out18_apply, v14_apply]
  refine proj_point m c t r _ _ fun q => ?_
  exact (congrArg (fun n => (V m c main_v45 : Vec Ideal S1024x2816 .bf16) (ix2 q n)) (Fin.ext (by dsimp only; omega))).trans (V2hy m c q n)

theorem point21 (t : Fin cfg0.N) (j : Fin 128) (r : Fin 1024) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 j r)
      = Cert.Reference5Ideal.Read.val_main_v41 (F := Ideal) (argX m c) (argPre m c) (argW m c) (ix3 ⟨t.val / 8, by have : t.val < 16 := t.isLt; omega⟩ j ⟨t.val % 8 * 1024 + r.val, by omega⟩) := by
  rw [out21_apply, v41_apply]
  exact proj_point m c t r _ _ fun q => V2rest m c q ⟨j.val, by omega⟩

theorem point24 (t : Fin cfg0.N) (j : Fin 256) (r : Fin 1024) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 j r)
      = Cert.Reference5Ideal.Read.val_main_v42 (F := Ideal) (argX m c) (argPre m c) (argW m c) (argGkv m c) (argUkv m c) (ix3 ⟨t.val / 8, by have : t.val < 16 := t.isLt; omega⟩ j ⟨t.val % 8 * 1024 + r.val, by omega⟩) := by
  rw [out24_eq, v42_apply]
  refine Finset.sum_congr rfl fun k _ => congrArg₂ (fun p q : EReal => p * q) (latkv_point m c t r k) (block_uv m c t k j)

/-- The whole first array after the run. -/
theorem array18 :
    (dats m 0 c).arrAt 18 cfg0.N = Cert.Reference5Ideal.Read.val_main_v14 (F := Ideal) (argX m c) (argPre m c) (argW m c) := by
  refine (dats m 0 c).arrAt_eq_of_covers 18 _ (by decide +kernel) fun t hf y => ?_
  have e := index18 t
  blk_simp
  rw [after0_18]
  have hy : (y : S1x1024x768.Idx) = ix3 0 (y 1) (y 2) := by
    funext a
    fin_cases a
    · exact Fin.ext (by have : (y 0).val < 1 := (y 0).isLt; show (y 0).val = 0; omega)
    · rfl
    · rfl
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) hy).trans ((point18 m c t (y 1) (y 2)).trans ?_)
  have hz : (y 0).val < 1 := (y 0).isLt
  blk_ext [e]

/-- The whole second array after the run. -/
theorem array21 :
    (dats m 0 c).arrAt 21 cfg0.N = Cert.Reference5Ideal.Read.val_main_v41 (F := Ideal) (argX m c) (argPre m c) (argW m c) := by
  refine (dats m 0 c).arrAt_eq_of_covers 21 _ (by decide +kernel) fun t hf y => ?_
  have e := index21 t
  blk_simp
  rw [after0_21]
  have hy : (y : S1x128x1024.Idx) = ix3 0 (y 1) (y 2) := by
    funext a
    fin_cases a
    · exact Fin.ext (by have : (y 0).val < 1 := (y 0).isLt; show (y 0).val = 0; omega)
    · rfl
    · rfl
  refine (congrArg (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) hy).trans ((point21 m c t (y 1) (y 2)).trans ?_)
  have hz : (y 0).val < 1 := (y 0).isLt
  blk_ext [e]

/-- The whole third array after the run. -/
theorem array24 :
    (dats m 0 c).arrAt 24 cfg0.N = Cert.Reference5Ideal.Read.val_main_v42 (F := Ideal) (argX m c) (argPre m c) (argW m c) (argGkv m c) (argUkv m c) := by
  refine (dats m 0 c).arrAt_eq_of_covers 24 _ (by decide +kernel) fun t hf y => ?_
  have e := index24 t
  blk_simp
  rw [after0_24]
  have hy : (y : S1x256x1024.Idx) = ix3 0 (y 1) (y 2) := by
    funext a
    fin_cases a
    · exact Fin.ext (by have : (y 0).val < 1 := (y 0).isLt; show (y 0).val = 0; omega)
    · rfl
    · rfl
  refine (congrArg (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) hy).trans ((point24 m c t (y 1) (y 2)).trans ?_)
  have hz : (y 0).val < 1 := (y 0).isLt
  blk_ext [e]

end Cert.Inp

end
-- ==== Proof.InpValue.lean ====
module

public import proofs.«01_k».proof.Proof.Gen.Kernel5Ideal.Frame
public import Idealize.ShloMosaic.Lib.Pipeline.Value

@[expose] public section

/-! Each output array of the input projection after a run, named. -/

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 18).cut (grid0.coords t) ((dats m 0 c).after 18 t) = _
  rw [after0_18]

/-- The index map sends distinct grid points to distinct block indices (decided over the 16 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S2x8192x768.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 19).cut (grid0.coords t) ((dats m 0 c).after 19 t) = _
  rw [after0_19]

/-- The index map sends distinct grid points to distinct block indices (decided over the 16 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S2x8192x512.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 20).cut (grid0.coords t) ((dats m 0 c).after 20 t) = _
  rw [after0_20]

/-- The index map sends distinct grid points to distinct block indices (decided over the 16 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S2x2x8192x128.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 21).cut (grid0.coords t) ((dats m 0 c).after 21 t) = _
  rw [after0_21]

/-- The index map sends distinct grid points to distinct block indices (decided over the 16 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S2x128x8192.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 22).cut (grid0.coords t) ((dats m 0 c).after 22 t) = _
  rw [after0_22]

/-- The index map sends distinct grid points to distinct block indices (decided over the 16 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S2x8192x512.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 23).cut (grid0.coords t) ((dats m 0 c).after 23 t) = _
  rw [after0_23]

/-- The index map sends distinct grid points to distinct block indices (decided over the 16 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S2x4x8192x128.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 24).cut (grid0.coords t) ((dats m 0 c).after 24 t) = _
  rw [after0_24]

/-- The index map sends distinct grid points to distinct block indices (decided over the 16 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S2x256x8192.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v104_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v104_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v104_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v104_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v104_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v104_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v104_6) = (dats m 0 c).arrAt 24 cfg0.N :=
  (h c).1 24

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

set_option maxHeartbeats 269180 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v104_0) = (dats m 0 c).arrAt 18 cfg0.N
      ∧ r.2.mem ((c : Thread nD τ).loc main_v104_1) = (dats m 0 c).arrAt 19 cfg0.N
      ∧ r.2.mem ((c : Thread nD τ).loc main_v104_2) = (dats m 0 c).arrAt 20 cfg0.N
      ∧ r.2.mem ((c : Thread nD τ).loc main_v104_3) = (dats m 0 c).arrAt 21 cfg0.N
      ∧ r.2.mem ((c : Thread nD τ).loc main_v104_4) = (dats m 0 c).arrAt 22 cfg0.N
      ∧ r.2.mem ((c : Thread nD τ).loc main_v104_5) = (dats m 0 c).arrAt 23 cfg0.N
      ∧ r.2.mem ((c : Thread nD τ).loc main_v104_6) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.Kernel5Ideal.Value

end
-- ==== Proof.InpClaim.lean ====
module
public import proofs.«01_k».proof.Proof.InpArray
public import proofs.«01_k».proof.Proof.InpValue
public import proofs.«01_k».proof.Proof.Gen.Reference5Ideal.Run
public import proofs.«01_k».proof.Defs
@[expose] public section
/-!
  The input projection and its reference leave the same three arrays.
-/
set_option maxRecDepth 16384

namespace Cert.Inp

open Idealize.ShloMosaic Idealize.ShloMosaic.TcCoe Idealize.SL.Sem

theorem algebraic : Cert.algebraic_Kernel5Ideal_Reference5Ideal := by
  intro m g m' g' _ hm
  refine ⟨fun c => Cert.Reference5Ideal.Read.val_main_v14 (F := Ideal) (argX m c) (argPre m c) (argW m c),
    fun c => Cert.Reference5Ideal.Read.val_main_v41 (F := Ideal) (argX m c) (argPre m c) (argW m c),
    fun c => Cert.Reference5Ideal.Read.val_main_v42 (F := Ideal) (argX m c) (argPre m c) (argW m c) (argGkv m c) (argUkv m c), ?_, ?_⟩
  · refine (θ_run _ _ _).mono (fun r h c => ?_) (Cert.Kernel5Ideal.Value.run_blocks m g)
    obtain ⟨h18, _, _, h21, _, _, h24, hk⟩ := h c
    exact ⟨h18.trans (array18 m c), h21.trans (array21 m c), h24.trans (array24 m c), hk⟩
  · refine (θ_run _ _ _).mono (fun r h c => ?_) (Cert.Reference5Ideal.Value.run m' g')
    obtain ⟨e0, e1, e2, _, _, _, _, e7, e8, _⟩ := hm c
    refine ⟨(h c).1.trans ((Cert.Reference5Ideal.Read.val_main_v14_eq _ _ _).trans ?_),
      (h c).2.1.trans ((Cert.Reference5Ideal.Read.val_main_v41_eq _ _ _).trans ?_),
      (h c).2.2.1.trans ((Cert.Reference5Ideal.Read.val_main_v42_eq _ _ _ _ _).trans ?_), (h c).2.2.2⟩
    · rw [e0, e1, e2]
    · rw [e0, e1, e2]
    · rw [e0, e1, e2, e7, e8]

end Cert.Inp
-- ==== Proof.lean ====
/-
  The proof of `Cert.Claim`. The frames of the kernels are the generated ones, but for the latent attention's, which
  lie beside this file; the frames of the references are read off their runs; the value claims are proved in the
  modules beside this file.
-/

module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.MlaFrameB
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.MlaFrameI
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_queries_keys
public import proofs.«01_k».proof.Proof.Gen.Pre_finite_queries_keys2
public import proofs.«01_k».proof.Proof.Gen.KernelIdeal.Value
public import proofs.«01_k».proof.Proof.Gen.ReferenceIdeal.Run
public import proofs.«01_k».proof.Proof.Gen.ReferenceIdeal.Read
public import proofs.«01_k».proof.Proof.MlaValueI
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init
public import proofs.«01_k».proof.Proof.GqaClaim
public import proofs.«01_k».proof.Proof.MlaClaim
public import proofs.«01_k».proof.Proof.FfnClaim
public import proofs.«01_k».proof.Proof.OutClaim
public import proofs.«01_k».proof.Proof.InpClaim

@[expose] public section

noncomputable section

namespace Cert.Proof

open Idealize.ShloMosaic Idealize.SL.Sem Cert.Kernel

/-- The plain grouped attention ends, leaves its arguments as they were and every semaphore counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The plain latent attention ends, leaves its arguments as they were and every semaphore counter at zero. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The plain feed-forward part ends, leaves its arguments as they were and every semaphore counter at zero. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The plain output projection ends, leaves its arguments as they were and every semaphore counter at zero. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The plain input projection ends, leaves its arguments as they were and every semaphore counter at zero. -/
theorem frame_reference5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Pre_finite_queries_keys.Gen.facts,
  Cert.Pre_finite_queries_keys2.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Steps.frame m ρ,
  fun m ρ _ => Cert.Kernel2Ideal.Steps.frame m ρ,
  fun m ρ _ => Cert.Kernel2Ideal.Steps.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  trivial,
  Cert.Attn.Gqa.algebraic,
  trivial,
  Cert.Attn.Mla.algebraic,
  trivial,
  Cert.Ffn.algebraic,
  trivial,
  Cert.Out.algebraic,
  trivial,
  Cert.Inp.algebraic⟩

end Cert.Proof

end
